-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v11) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v11) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v131) = v0 c
          ∧ r.2.mem ((c.tc : Thread Cert.Reference11Ideal.nD Cert.Reference11Ideal.τ).loc Cert.Reference11Ideal.main_v159) = v1 c
          ∧ r.2.mem ((c.tc : Thread Cert.Reference11Ideal.nD Cert.Reference11Ideal.τ).loc Cert.Reference11Ideal.main_v185) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  IdealRules.named_const.Statement Cert.Kernel12Ideal.κ "c1" .f32 0x3FC48605#32 ((8388608 / 5463681 : ℝ) : EReal)
  ∧ IdealRules.named_const.Statement Cert.Kernel12Ideal.κ "c2" .f32 0x42C8E6D3#32 ((268435456 / 2672307 : ℝ) : EReal)

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v24) = v1 c
          ∧ r.2.mem ((c.tc : Thread Cert.Reference12Ideal.nD Cert.Reference12Ideal.τ).loc Cert.Reference12Ideal.main_v5) = v2 c
          ∧ r.2.mem ((c.tc : Thread Cert.Reference12Ideal.nD Cert.Reference12Ideal.τ).loc Cert.Reference12Ideal.main_v11) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  IdealRules.named_const.Statement Cert.Kernel13Ideal.κ "c1" .f32 0x3FC48605#32 ((8388608 / 5463681 : ℝ) : EReal)
  ∧ IdealRules.named_const.Statement Cert.Kernel13Ideal.κ "c2" .f32 0x42C8E6D3#32 ((268435456 / 2672307 : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_v5) = v2 c
          ∧ r.2.mem ((c.tc : Thread Cert.Reference13Ideal.nD Cert.Reference13Ideal.τ).loc Cert.Reference13Ideal.main_v11) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  IdealRules.named_const.Statement Cert.Kernel14Ideal.κ "c1" .f32 0x3FC48605#32 ((8388608 / 5463681 : ℝ) : EReal)
  ∧ IdealRules.named_const.Statement Cert.Kernel14Ideal.κ "c2" .f32 0x42C8E6D3#32 ((268435456 / 2672307 : ℝ) : EReal)

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_v5) = v2 c
          ∧ r.2.mem ((c.tc : Thread Cert.Reference14Ideal.nD Cert.Reference14Ideal.τ).loc Cert.Reference14Ideal.main_v11) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  IdealRules.named_const.Statement Cert.Kernel15Ideal.κ "c1" .f32 0x3FC48605#32 ((8388608 / 5463681 : ℝ) : EReal)
  ∧ IdealRules.named_const.Statement Cert.Kernel15Ideal.κ "c2" .f32 0x42C8E6D3#32 ((268435456 / 2672307 : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_v24) = v1 c
          ∧ r.2.mem ((c.tc : Thread Cert.Reference15Ideal.nD Cert.Reference15Ideal.τ).loc Cert.Reference15Ideal.main_v5) = v2 c
          ∧ r.2.mem ((c.tc : Thread Cert.Reference15Ideal.nD Cert.Reference15Ideal.τ).loc Cert.Reference15Ideal.main_v11) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  IdealRules.named_const.Statement Cert.Kernel16Ideal.κ "c1" .f32 0x3FC48605#32 ((8388608 / 5463681 : ℝ) : EReal)
  ∧ IdealRules.named_const.Statement Cert.Kernel16Ideal.κ "c2" .f32 0x42C8E6D3#32 ((268435456 / 2672307 : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v5) = v2 c
          ∧ r.2.mem ((c.tc : Thread Cert.Reference16Ideal.nD Cert.Reference16Ideal.τ).loc Cert.Reference16Ideal.main_v11) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  IdealRules.named_const.Statement Cert.Kernel17Ideal.κ "c1" .f32 0x3FC48605#32 ((8388608 / 5463681 : ℝ) : EReal)
  ∧ IdealRules.named_const.Statement Cert.Kernel17Ideal.κ "c2" .f32 0x42C8E6D3#32 ((268435456 / 2672307 : ℝ) : EReal)

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_arg1) = v0 c
          ∧ r.2.mem ((c.tc : Thread Cert.Reference17Ideal.nD Cert.Reference17Ideal.τ).loc Cert.Reference17Ideal.main_v23) = v1 c
          ∧ r.2.mem ((c.tc : Thread Cert.Reference17Ideal.nD Cert.Reference17Ideal.τ).loc Cert.Reference17Ideal.main_v4) = v2 c
          ∧ r.2.mem ((c.tc : Thread Cert.Reference17Ideal.nD Cert.Reference17Ideal.τ).loc Cert.Reference17Ideal.main_v10) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  IdealRules.named_const.Statement Cert.Kernel18Ideal.κ "c1" .f32 0x3FC48605#32 ((8388608 / 5463681 : ℝ) : EReal)
  ∧ IdealRules.named_const.Statement Cert.Kernel18Ideal.κ "c2" .f32 0x42C8E6D3#32 ((268435456 / 2672307 : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_arg1) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v4) = v2 c
          ∧ r.2.mem ((c.tc : Thread Cert.Reference18Ideal.nD Cert.Reference18Ideal.τ).loc Cert.Reference18Ideal.main_v10) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_3) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v61) = v0 c
          ∧ r.2.mem ((c.tc : Thread Cert.Reference21Ideal.nD Cert.Reference21Ideal.τ).loc Cert.Reference21Ideal.main_v47) = v1 c
          ∧ r.2.mem ((c.tc : Thread Cert.Reference21Ideal.nD Cert.Reference21Ideal.τ).loc Cert.Reference21Ideal.main_v62) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Kernel.lean ====
abbrev S8448x1024 : Shape := ⟨2, ![8448, 1024]⟩
abbrev S4x1024x1408 : Shape := ⟨3, ![4, 1024, 1408]⟩
abbrev S8448x5632 : Shape := ⟨2, ![8448, 5632]⟩
abbrev S1408x1024 : Shape := ⟨2, ![1408, 1024]⟩
abbrev S1408x1408 : Shape := ⟨2, ![1408, 1408]⟩
abbrev S1x1024x1408 : Shape := ⟨3, ![1, 1024, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S4x1024x1408, .bf16⟩
  | .hbm, ⟨2, _⟩ => ⟨S8448x5632, .bf16⟩
  | .hbm, ⟨3, _⟩ => ⟨S4x1024x1408, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1408, .bf16⟩
  | .local _ .vmem, ⟨3, _⟩ => ⟨S1408x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def k0_cond2 (i : grid0.Coords) : BitVec 1 :=
  let arg1 : BitVec 32 := BitVec.ofNat 32 (i 1).val
  let c5_i32 : BitVec 32 := 5#32
  let v11 : BitVec 1 := Scalar.cmpi .eq arg1 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== KernelIdeal.lean ====
abbrev S8448x1024 : Shape := ⟨2, ![8448, 1024]⟩
abbrev S4x1024x1408 : Shape := ⟨3, ![4, 1024, 1408]⟩
abbrev S8448x5632 : Shape := ⟨2, ![8448, 5632]⟩
abbrev S1408x1024 : Shape := ⟨2, ![1408, 1024]⟩
abbrev S1408x1408 : Shape := ⟨2, ![1408, 1408]⟩
abbrev S1x1024x1408 : Shape := ⟨3, ![1, 1024, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S4x1024x1408, .bf16⟩
  | .hbm, ⟨2, _⟩ => ⟨S8448x5632, .bf16⟩
  | .hbm, ⟨3, _⟩ => ⟨S4x1024x1408, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1408, .bf16⟩
  | .local _ .vmem, ⟨3, _⟩ => ⟨S1408x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def k0_cond2 (i : grid0.Coords) : BitVec 1 :=
  let arg1 : BitVec 32 := BitVec.ofNat 32 (i 1).val
  let c5_i32 : BitVec 32 := 5#32
  let v11 : BitVec 1 := Scalar.cmpi .eq arg1 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceIdeal.lean ====
abbrev S8448x1024 : Shape := ⟨2, ![8448, 1024]⟩
abbrev S4x1024x1408 : Shape := ⟨3, ![4, 1024, 1408]⟩
abbrev S8448x5632 : Shape := ⟨2, ![8448, 5632]⟩
abbrev S1024x4x1408 : Shape := ⟨3, ![1024, 4, 1408]⟩
abbrev S1024x5632 : Shape := ⟨2, ![1024, 5632]⟩
abbrev S5632x1024 : Shape := ⟨2, ![5632, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S4x1024x1408, .bf16⟩
  | .hbm, ⟨2, _⟩ => ⟨S8448x5632, .bf16⟩
  | .hbm, ⟨3, _⟩ => ⟨S8448x1024, .f32⟩
  | .hbm, ⟨4, _⟩ => ⟨S4x1024x1408, .f32⟩
  | .hbm, ⟨5, _⟩ => ⟨S1024x4x1408, .f32⟩
  | .hbm, ⟨6, _⟩ => ⟨S1024x5632, .f32⟩
  | .hbm, ⟨7, _⟩ => ⟨S8448x5632, .f32⟩
  | .hbm, ⟨8, _⟩ => ⟨S8448x5632, .f32⟩
  | .hbm, ⟨9, _⟩ => ⟨S5632x1024, .f32⟩
  | .hbm, ⟨10, _⟩ => ⟨S1024x5632, .f32⟩
  | .hbm, ⟨11, _⟩ => ⟨S8448x1024, .f32⟩
  | .hbm, ⟨12, _⟩ => ⟨S1024x4x1408, .f32⟩
  | .hbm, ⟨13, _⟩ => ⟨S4x1024x1408, .f32⟩
  | .hbm, ⟨14, _⟩ => ⟨S4x1024x1408, .bf16⟩
  | .hbm, ⟨15, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel2.lean ====
abbrev S8448x2816 : Shape := ⟨2, ![8448, 2816]⟩
abbrev S4x704x1024 : Shape := ⟨3, ![4, 704, 1024]⟩
abbrev S8448x1024 : Shape := ⟨2, ![8448, 1024]⟩
abbrev S768x1024 : Shape := ⟨2, ![768, 1024]⟩
abbrev S768x2816 : Shape := ⟨2, ![768, 2816]⟩
abbrev S2816x1024 : Shape := ⟨2, ![2816, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8448x2816, .bf16⟩
  | .hbm, ⟨1, _⟩ => ⟨S4x704x1024, .bf16⟩
  | .hbm, ⟨2, _⟩ => ⟨S8448x1024, .bf16⟩
  | .hbm, ⟨3, _⟩ => ⟨S8448x2816, .bf16⟩
  | .local _ .vmem, ⟨0, _⟩ => ⟨S768x1024, .bf16⟩
  | .local _ .vmem, ⟨1, _⟩ => ⟨S768x1024, .bf16⟩
  | .local _ .vmem, ⟨2, _⟩ => ⟨S4x704x1024, .bf16⟩
  | .local _ .vmem, ⟨3, _⟩ => ⟨S768x2816, .bf16⟩
  | .local _ .vmem, ⟨4, _⟩ => ⟨S768x2816, .bf16⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel2Ideal.lean ====
abbrev S8448x2816 : Shape := ⟨2, ![8448, 2816]⟩
abbrev S4x704x1024 : Shape := ⟨3, ![4, 704, 1024]⟩
abbrev S8448x1024 : Shape := ⟨2, ![8448, 1024]⟩
abbrev S768x1024 : Shape := ⟨2, ![768, 1024]⟩
abbrev S768x2816 : Shape := ⟨2, ![768, 2816]⟩
abbrev S2816x1024 : Shape := ⟨2, ![2816, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8448x2816, .bf16⟩
  | .hbm, ⟨1, _⟩ => ⟨S4x704x1024, .bf16⟩
  | .hbm, ⟨2, _⟩ => ⟨S8448x1024, .bf16⟩
  | .hbm, ⟨3, _⟩ => ⟨S8448x2816, .bf16⟩
  | .local _ .vmem, ⟨0, _⟩ => ⟨S768x1024, .bf16⟩
  | .local _ .vmem, ⟨1, _⟩ => ⟨S768x1024, .bf16⟩
  | .local _ .vmem, ⟨2, _⟩ => ⟨S4x704x1024, .bf16⟩
  | .local _ .vmem, ⟨3, _⟩ => ⟨S768x2816, .bf16⟩
  | .local _ .vmem, ⟨4, _⟩ => ⟨S768x2816, .bf16⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S8448x2816 : Shape := ⟨2, ![8448, 2816]⟩
abbrev S4x704x1024 : Shape := ⟨3, ![4, 704, 1024]⟩
abbrev S8448x1024 : Shape := ⟨2, ![8448, 1024]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S4x704x1024, .bf16⟩
  | .hbm, ⟨2, _⟩ => ⟨S8448x1024, .bf16⟩
  | .hbm, ⟨3, _⟩ => ⟨S8448x2816, .f32⟩
  | .hbm, ⟨4, _⟩ => ⟨S4x704x1024, .f32⟩
  | .hbm, ⟨5, _⟩ => ⟨S2816x1024, .f32⟩
  | .hbm, ⟨6, _⟩ => ⟨S8448x1024, .f32⟩
  | .hbm, ⟨7, _⟩ => ⟨S8448x1024, .f32⟩
  | .hbm, ⟨8, _⟩ => ⟨S1024x2816, .f32⟩
  | .hbm, ⟨9, _⟩ => ⟨S2816x1024, .f32⟩
  | .hbm, ⟨10, _⟩ => ⟨S8448x2816, .f32⟩
  | .hbm, ⟨11, _⟩ => ⟨S4x704x1024, .f32⟩
  | .hbm, ⟨12, _⟩ => ⟨S4x704x1024, .bf16⟩
  | .hbm, ⟨13, _⟩ => ⟨S8448x2816, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel3.lean ====
abbrev S8448x2816 : Shape := ⟨2, ![8448, 2816]⟩
abbrev S4x704x1024 : Shape := ⟨3, ![4, 704, 1024]⟩
abbrev S8448x1024 : Shape := ⟨2, ![8448, 1024]⟩
abbrev S768x2816 : Shape := ⟨2, ![768, 2816]⟩
abbrev S768x512 : Shape := ⟨2, ![768, 512]⟩
abbrev S4x704x512 : Shape := ⟨3, ![4, 704, 512]⟩
abbrev S2816x512 : Shape := ⟨2, ![2816, 512]⟩

abbrev nBuf : Space → Nat
  | .hbm => 4
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S4x704x1024, .bf16⟩
  | .hbm, ⟨2, _⟩ => ⟨S8448x1024, .bf16⟩
  | .hbm, ⟨3, _⟩ => ⟨S4x704x1024, .bf16⟩
  | .local _ .vmem, ⟨0, _⟩ => ⟨S768x2816, .bf16⟩
  | .local _ .vmem, ⟨1, _⟩ => ⟨S768x2816, .bf16⟩
  | .local _ .vmem, ⟨2, _⟩ => ⟨S768x512, .bf16⟩
  | .local _ .vmem, ⟨3, _⟩ => ⟨S768x512, .bf16⟩
  | .local _ .vmem, ⟨4, _⟩ => ⟨S4x704x512, .bf16⟩
  | .local _ .vmem, ⟨5, _⟩ => ⟨S4x704x512, .bf16⟩
  | .local _ .vmem, ⟨6, _⟩ => ⟨S2816x512, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v11 : BitVec 1 := Scalar.cmpi .eq arg1 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Kernel3Ideal.lean ====
abbrev S8448x2816 : Shape := ⟨2, ![8448, 2816]⟩
abbrev S4x704x1024 : Shape := ⟨3, ![4, 704, 1024]⟩
abbrev S8448x1024 : Shape := ⟨2, ![8448, 1024]⟩
abbrev S768x2816 : Shape := ⟨2, ![768, 2816]⟩
abbrev S768x512 : Shape := ⟨2, ![768, 512]⟩
abbrev S4x704x512 : Shape := ⟨3, ![4, 704, 512]⟩
abbrev S2816x512 : Shape := ⟨2, ![2816, 512]⟩

abbrev nBuf : Space → Nat
  | .hbm => 4
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S4x704x1024, .bf16⟩
  | .hbm, ⟨2, _⟩ => ⟨S8448x1024, .bf16⟩
  | .hbm, ⟨3, _⟩ => ⟨S4x704x1024, .bf16⟩
  | .local _ .vmem, ⟨0, _⟩ => ⟨S768x2816, .bf16⟩
  | .local _ .vmem, ⟨1, _⟩ => ⟨S768x2816, .bf16⟩
  | .local _ .vmem, ⟨2, _⟩ => ⟨S768x512, .bf16⟩
  | .local _ .vmem, ⟨3, _⟩ => ⟨S768x512, .bf16⟩
  | .local _ .vmem, ⟨4, _⟩ => ⟨S4x704x512, .bf16⟩
  | .local _ .vmem, ⟨5, _⟩ => ⟨S4x704x512, .bf16⟩
  | .local _ .vmem, ⟨6, _⟩ => ⟨S2816x512, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v11 : BitVec 1 := Scalar.cmpi .eq arg1 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8448x2816 : Shape := ⟨2, ![8448, 2816]⟩
abbrev S4x704x1024 : Shape := ⟨3, ![4, 704, 1024]⟩
abbrev S8448x1024 : Shape := ⟨2, ![8448, 1024]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S4x704x1024, .bf16⟩
  | .hbm, ⟨2, _⟩ => ⟨S8448x1024, .bf16⟩
  | .hbm, ⟨3, _⟩ => ⟨S8448x2816, .f32⟩
  | .hbm, ⟨4, _⟩ => ⟨S4x704x1024, .f32⟩
  | .hbm, ⟨5, _⟩ => ⟨S2816x1024, .f32⟩
  | .hbm, ⟨6, _⟩ => ⟨S8448x1024, .f32⟩
  | .hbm, ⟨7, _⟩ => ⟨S8448x1024, .f32⟩
  | .hbm, ⟨8, _⟩ => ⟨S1024x2816, .f32⟩
  | .hbm, ⟨9, _⟩ => ⟨S2816x1024, .f32⟩
  | .hbm, ⟨10, _⟩ => ⟨S8448x2816, .f32⟩
  | .hbm, ⟨11, _⟩ => ⟨S4x704x1024, .f32⟩
  | .hbm, ⟨12, _⟩ => ⟨S4x704x1024, .bf16⟩
  | .hbm, ⟨13, _⟩ => ⟨S8448x2816, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S8448x1024 : Shape := ⟨2, ![8448, 1024]⟩
abbrev S4x1024x1408 : Shape := ⟨3, ![4, 1024, 1408]⟩
abbrev S8448x5632 : Shape := ⟨2, ![8448, 5632]⟩
abbrev S768x1024 : Shape := ⟨2, ![768, 1024]⟩
abbrev S768x5632 : Shape := ⟨2, ![768, 5632]⟩
abbrev S1x1024x1408 : Shape := ⟨3, ![1, 1024, 1408]⟩
abbrev S1024x1408 : Shape := ⟨2, ![1024, 1408]⟩
abbrev S768x1408 : Shape := ⟨2, ![768, 1408]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S4x1024x1408, .bf16⟩
  | .hbm, ⟨2, _⟩ => ⟨S8448x5632, .bf16⟩
  | .local _ .vmem, ⟨0, _⟩ => ⟨S768x1024, .bf16⟩
  | .local _ .vmem, ⟨1, _⟩ => ⟨S768x1024, .bf16⟩
  | .local _ .vmem, ⟨2, _⟩ => ⟨S4x1024x1408, .bf16⟩
  | .local _ .vmem, ⟨3, _⟩ => ⟨S768x5632, .bf16⟩
  | .local _ .vmem, ⟨4, _⟩ => ⟨S768x5632, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel4Ideal.lean ====
abbrev S8448x1024 : Shape := ⟨2, ![8448, 1024]⟩
abbrev S4x1024x1408 : Shape := ⟨3, ![4, 1024, 1408]⟩
abbrev S8448x5632 : Shape := ⟨2, ![8448, 5632]⟩
abbrev S768x1024 : Shape := ⟨2, ![768, 1024]⟩
abbrev S768x5632 : Shape := ⟨2, ![768, 5632]⟩
abbrev S1x1024x1408 : Shape := ⟨3, ![1, 1024, 1408]⟩
abbrev S1024x1408 : Shape := ⟨2, ![1024, 1408]⟩
abbrev S768x1408 : Shape := ⟨2, ![768, 1408]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S4x1024x1408, .bf16⟩
  | .hbm, ⟨2, _⟩ => ⟨S8448x5632, .bf16⟩
  | .local _ .vmem, ⟨0, _⟩ => ⟨S768x1024, .bf16⟩
  | .local _ .vmem, ⟨1, _⟩ => ⟨S768x1024, .bf16⟩
  | .local _ .vmem, ⟨2, _⟩ => ⟨S4x1024x1408, .bf16⟩
  | .local _ .vmem, ⟨3, _⟩ => ⟨S768x5632, .bf16⟩
  | .local _ .vmem, ⟨4, _⟩ => ⟨S768x5632, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S8448x1024 : Shape := ⟨2, ![8448, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S8448x5632 : Shape := ⟨2, ![8448, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S4x1024x1408, .bf16⟩
  | .hbm, ⟨2, _⟩ => ⟨S8448x1024, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S8448x5632, .f32⟩
  | .hbm, ⟨7, _⟩ => ⟨S8448x5632, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S8448x1024 : Shape := ⟨2, ![8448, 1024]⟩
abbrev S4x256x1024 : Shape := ⟨3, ![4, 256, 1024]⟩
abbrev S768x1024 : Shape := ⟨2, ![768, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S4x256x1024, .bf16⟩
  | .hbm, ⟨2, _⟩ => ⟨S8448x1024, .bf16⟩
  | .hbm, ⟨3, _⟩ => ⟨S8448x1024, .f32⟩
  | .local _ .vmem, ⟨0, _⟩ => ⟨S768x1024, .bf16⟩
  | .local _ .vmem, ⟨1, _⟩ => ⟨S768x1024, .bf16⟩
  | .local _ .vmem, ⟨2, _⟩ => ⟨S4x256x1024, .bf16⟩
  | .local _ .vmem, ⟨3, _⟩ => ⟨S768x1024, .f32⟩
  | .local _ .vmem, ⟨4, _⟩ => ⟨S768x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8448x1024 : Shape := ⟨2, ![8448, 1024]⟩
abbrev S4x256x1024 : Shape := ⟨3, ![4, 256, 1024]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S4x256x1024, .bf16⟩
  | .hbm, ⟨2, _⟩ => ⟨S8448x1024, .bf16⟩
  | .hbm, ⟨3, _⟩ => ⟨S8448x1024, .f32⟩
  | .hbm, ⟨4, _⟩ => ⟨S4x256x1024, .f32⟩
  | .hbm, ⟨5, _⟩ => ⟨S1024x1024, .f32⟩
  | .hbm, ⟨6, _⟩ => ⟨S8448x1024, .f32⟩
  | .hbm, ⟨7, _⟩ => ⟨S8448x1024, .f32⟩
  | .hbm, ⟨8, _⟩ => ⟨S1024x1024, .f32⟩
  | .hbm, ⟨9, _⟩ => ⟨S1024x1024, .f32⟩
  | .hbm, ⟨10, _⟩ => ⟨S8448x1024, .f32⟩
  | .hbm, ⟨11, _⟩ => ⟨S4x256x1024, .f32⟩
  | .hbm, ⟨12, _⟩ => ⟨S4x256x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S8448x1024 : Shape := ⟨2, ![8448, 1024]⟩
abbrev S4x256x1024 : Shape := ⟨3, ![4, 256, 1024]⟩
abbrev S768x1024 : Shape := ⟨2, ![768, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S4x256x1024, .bf16⟩
  | .hbm, ⟨2, _⟩ => ⟨S8448x1024, .bf16⟩
  | .hbm, ⟨3, _⟩ => ⟨S8448x1024, .bf16⟩
  | .local _ .vmem, ⟨0, _⟩ => ⟨S768x1024, .bf16⟩
  | .local _ .vmem, ⟨1, _⟩ => ⟨S768x1024, .bf16⟩
  | .local _ .vmem, ⟨2, _⟩ => ⟨S4x256x1024, .bf16⟩
  | .local _ .vmem, ⟨3, _⟩ => ⟨S768x1024, .bf16⟩
  | .local _ .vmem, ⟨4, _⟩ => ⟨S768x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8448x1024 : Shape := ⟨2, ![8448, 1024]⟩
abbrev S4x256x1024 : Shape := ⟨3, ![4, 256, 1024]⟩
abbrev S1024x1024 : Shape := ⟨2, ![1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S4x256x1024, .bf16⟩
  | .hbm, ⟨2, _⟩ => ⟨S8448x1024, .bf16⟩
  | .hbm, ⟨3, _⟩ => ⟨S8448x1024, .f32⟩
  | .hbm, ⟨4, _⟩ => ⟨S4x256x1024, .f32⟩
  | .hbm, ⟨5, _⟩ => ⟨S1024x1024, .f32⟩
  | .hbm, ⟨6, _⟩ => ⟨S8448x1024, .f32⟩
  | .hbm, ⟨7, _⟩ => ⟨S8448x1024, .f32⟩
  | .hbm, ⟨8, _⟩ => ⟨S1024x1024, .f32⟩
  | .hbm, ⟨9, _⟩ => ⟨S1024x1024, .f32⟩
  | .hbm, ⟨10, _⟩ => ⟨S8448x1024, .f32⟩
  | .hbm, ⟨11, _⟩ => ⟨S4x256x1024, .f32⟩
  | .hbm, ⟨12, _⟩ => ⟨S4x256x1024, .bf16⟩
  | .hbm, ⟨13, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel7.lean ====
abbrev S8448x1024 : Shape := ⟨2, ![8448, 1024]⟩
abbrev S4x256x1024 : Shape := ⟨3, ![4, 256, 1024]⟩
abbrev S768x1024 : Shape := ⟨2, ![768, 1024]⟩
abbrev S768x512 : Shape := ⟨2, ![768, 512]⟩
abbrev S4x256x512 : Shape := ⟨3, ![4, 256, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S4x256x1024, .bf16⟩
  | .hbm, ⟨2, _⟩ => ⟨S8448x1024, .bf16⟩
  | .hbm, ⟨3, _⟩ => ⟨S4x256x1024, .bf16⟩
  | .local _ .vmem, ⟨0, _⟩ => ⟨S768x1024, .bf16⟩
  | .local _ .vmem, ⟨1, _⟩ => ⟨S768x1024, .bf16⟩
  | .local _ .vmem, ⟨2, _⟩ => ⟨S768x512, .bf16⟩
  | .local _ .vmem, ⟨3, _⟩ => ⟨S768x512, .bf16⟩
  | .local _ .vmem, ⟨4, _⟩ => ⟨S4x256x512, .bf16⟩
  | .local _ .vmem, ⟨5, _⟩ => ⟨S4x256x512, .bf16⟩
  | .local _ .vmem, ⟨6, _⟩ => ⟨S1024x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v11 : BitVec 1 := Scalar.cmpi .eq arg1 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8448x1024 : Shape := ⟨2, ![8448, 1024]⟩
abbrev S4x256x1024 : Shape := ⟨3, ![4, 256, 1024]⟩
abbrev S1024x1024 : Shape := ⟨2, ![1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S4x256x1024, .bf16⟩
  | .hbm, ⟨2, _⟩ => ⟨S8448x1024, .bf16⟩
  | .hbm, ⟨3, _⟩ => ⟨S8448x1024, .f32⟩
  | .hbm, ⟨4, _⟩ => ⟨S4x256x1024, .f32⟩
  | .hbm, ⟨5, _⟩ => ⟨S1024x1024, .f32⟩
  | .hbm, ⟨6, _⟩ => ⟨S8448x1024, .f32⟩
  | .hbm, ⟨7, _⟩ => ⟨S8448x1024, .f32⟩
  | .hbm, ⟨8, _⟩ => ⟨S1024x1024, .f32⟩
  | .hbm, ⟨9, _⟩ => ⟨S1024x1024, .f32⟩
  | .hbm, ⟨10, _⟩ => ⟨S8448x1024, .f32⟩
  | .hbm, ⟨11, _⟩ => ⟨S4x256x1024, .f32⟩
  | .hbm, ⟨12, _⟩ => ⟨S4x256x1024, .bf16⟩
  | .hbm, ⟨13, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel8.lean ====
abbrev S8448x1024 : Shape := ⟨2, ![8448, 1024]⟩
abbrev S4x1024x640 : Shape := ⟨3, ![4, 1024, 640]⟩
abbrev S8448x2560 : Shape := ⟨2, ![8448, 2560]⟩
abbrev S768x1024 : Shape := ⟨2, ![768, 1024]⟩
abbrev S768x2560 : Shape := ⟨2, ![768, 2560]⟩
abbrev S1x1024x640 : Shape := ⟨3, ![1, 1024, 640]⟩
abbrev S1024x640 : Shape := ⟨2, ![1024, 640]⟩
abbrev S768x640 : Shape := ⟨2, ![768, 640]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S4x1024x640, .bf16⟩
  | .hbm, ⟨2, _⟩ => ⟨S8448x2560, .bf16⟩
  | .local _ .vmem, ⟨0, _⟩ => ⟨S768x1024, .bf16⟩
  | .local _ .vmem, ⟨1, _⟩ => ⟨S768x1024, .bf16⟩
  | .local _ .vmem, ⟨2, _⟩ => ⟨S4x1024x640, .bf16⟩
  | .local _ .vmem, ⟨3, _⟩ => ⟨S768x2560, .bf16⟩
  | .local _ .vmem, ⟨4, _⟩ => ⟨S768x2560, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8448x1024 : Shape := ⟨2, ![8448, 1024]⟩
abbrev S4x1024x640 : Shape := ⟨3, ![4, 1024, 640]⟩
abbrev S1024x4x640 : Shape := ⟨3, ![1024, 4, 640]⟩
abbrev S1024x2560 : Shape := ⟨2, ![1024, 2560]⟩
abbrev S8448x2560 : Shape := ⟨2, ![8448, 2560]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S4x1024x640, .bf16⟩
  | .hbm, ⟨2, _⟩ => ⟨S8448x1024, .f32⟩
  | .hbm, ⟨3, _⟩ => ⟨S4x1024x640, .f32⟩
  | .hbm, ⟨4, _⟩ => ⟨S1024x4x640, .f32⟩
  | .hbm, ⟨5, _⟩ => ⟨S1024x2560, .f32⟩
  | .hbm, ⟨6, _⟩ => ⟨S8448x2560, .f32⟩
  | .hbm, ⟨7, _⟩ => ⟨S8448x2560, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel9.lean ====
abbrev S8448x1024 : Shape := ⟨2, ![8448, 1024]⟩
abbrev S4x1024x640 : Shape := ⟨3, ![4, 1024, 640]⟩
abbrev S8448x2560 : Shape := ⟨2, ![8448, 2560]⟩
abbrev S1408x1024 : Shape := ⟨2, ![1408, 1024]⟩
abbrev S1408x640 : Shape := ⟨2, ![1408, 640]⟩
abbrev S1x1024x640 : Shape := ⟨3, ![1, 1024, 640]⟩
abbrev S1024x640 : Shape := ⟨2, ![1024, 640]⟩

abbrev nBuf : Space → Nat
  | .hbm => 4
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S4x1024x640, .bf16⟩
  | .hbm, ⟨2, _⟩ => ⟨S8448x2560, .bf16⟩
  | .hbm, ⟨3, _⟩ => ⟨S4x1024x640, .bf16⟩
  | .local _ .vmem, ⟨0, _⟩ => ⟨S1408x1024, .bf16⟩
  | .local _ .vmem, ⟨1, _⟩ => ⟨S1408x1024, .bf16⟩
  | .local _ .vmem, ⟨2, _⟩ => ⟨S1408x640, .bf16⟩
  | .local _ .vmem, ⟨3, _⟩ => ⟨S1408x640, .bf16⟩
  | .local _ .vmem, ⟨4, _⟩ => ⟨S1x1024x640, .bf16⟩
  | .local _ .vmem, ⟨5, _⟩ => ⟨S1x1024x640, .bf16⟩
  | .local _ .vmem, ⟨6, _⟩ => ⟨S1024x640, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def k0_cond2 (i : grid0.Coords) : BitVec 1 :=
  let arg1 : BitVec 32 := BitVec.ofNat 32 (i 1).val
  let c5_i32 : BitVec 32 := 5#32
  let v11 : BitVec 1 := Scalar.cmpi .eq arg1 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Kernel9Ideal.lean ====
abbrev S8448x1024 : Shape := ⟨2, ![8448, 1024]⟩
abbrev S4x1024x640 : Shape := ⟨3, ![4, 1024, 640]⟩
abbrev S8448x2560 : Shape := ⟨2, ![8448, 2560]⟩
abbrev S1408x1024 : Shape := ⟨2, ![1408, 1024]⟩
abbrev S1408x640 : Shape := ⟨2, ![1408, 640]⟩
abbrev S1x1024x640 : Shape := ⟨3, ![1, 1024, 640]⟩
abbrev S1024x640 : Shape := ⟨2, ![1024, 640]⟩

abbrev nBuf : Space → Nat
  | .hbm => 4
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S4x1024x640, .bf16⟩
  | .hbm, ⟨2, _⟩ => ⟨S8448x2560, .bf16⟩
  | .hbm, ⟨3, _⟩ => ⟨S4x1024x640, .bf16⟩
  | .local _ .vmem, ⟨0, _⟩ => ⟨S1408x1024, .bf16⟩
  | .local _ .vmem, ⟨1, _⟩ => ⟨S1408x1024, .bf16⟩
  | .local _ .vmem, ⟨2, _⟩ => ⟨S1408x640, .bf16⟩
  | .local _ .vmem, ⟨3, _⟩ => ⟨S1408x640, .bf16⟩
  | .local _ .vmem, ⟨4, _⟩ => ⟨S1x1024x640, .bf16⟩
  | .local _ .vmem, ⟨5, _⟩ => ⟨S1x1024x640, .bf16⟩
  | .local _ .vmem, ⟨6, _⟩ => ⟨S1024x640, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def k0_cond2 (i : grid0.Coords) : BitVec 1 :=
  let arg1 : BitVec 32 := BitVec.ofNat 32 (i 1).val
  let c5_i32 : BitVec 32 := 5#32
  let v11 : BitVec 1 := Scalar.cmpi .eq arg1 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference9Ideal.lean ====
abbrev S8448x1024 : Shape := ⟨2, ![8448, 1024]⟩
abbrev S4x1024x640 : Shape := ⟨3, ![4, 1024, 640]⟩
abbrev S8448x2560 : Shape := ⟨2, ![8448, 2560]⟩
abbrev S1024x4x640 : Shape := ⟨3, ![1024, 4, 640]⟩
abbrev S1024x2560 : Shape := ⟨2, ![1024, 2560]⟩
abbrev S2560x1024 : Shape := ⟨2, ![2560, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S4x1024x640, .bf16⟩
  | .hbm, ⟨2, _⟩ => ⟨S8448x2560, .bf16⟩
  | .hbm, ⟨3, _⟩ => ⟨S8448x1024, .f32⟩
  | .hbm, ⟨4, _⟩ => ⟨S4x1024x640, .f32⟩
  | .hbm, ⟨5, _⟩ => ⟨S1024x4x640, .f32⟩
  | .hbm, ⟨6, _⟩ => ⟨S1024x2560, .f32⟩
  | .hbm, ⟨7, _⟩ => ⟨S8448x2560, .f32⟩
  | .hbm, ⟨8, _⟩ => ⟨S8448x2560, .f32⟩
  | .hbm, ⟨9, _⟩ => ⟨S2560x1024, .f32⟩
  | .hbm, ⟨10, _⟩ => ⟨S1024x2560, .f32⟩
  | .hbm, ⟨11, _⟩ => ⟨S8448x1024, .f32⟩
  | .hbm, ⟨12, _⟩ => ⟨S1024x4x640, .f32⟩
  | .hbm, ⟨13, _⟩ => ⟨S4x1024x640, .f32⟩
  | .hbm, ⟨14, _⟩ => ⟨S4x1024x640, .bf16⟩
  | .hbm, ⟨15, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel10.lean ====
abbrev S8448x1024 : Shape := ⟨2, ![8448, 1024]⟩
abbrev S4x1024x384 : Shape := ⟨3, ![4, 1024, 384]⟩
abbrev S8448x1536 : Shape := ⟨2, ![8448, 1536]⟩
abbrev S1408x1024 : Shape := ⟨2, ![1408, 1024]⟩
abbrev S1408x384 : Shape := ⟨2, ![1408, 384]⟩
abbrev S1x1024x384 : Shape := ⟨3, ![1, 1024, 384]⟩
abbrev S1024x384 : Shape := ⟨2, ![1024, 384]⟩

abbrev nBuf : Space → Nat
  | .hbm => 4
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S4x1024x384, .bf16⟩
  | .hbm, ⟨2, _⟩ => ⟨S8448x1536, .bf16⟩
  | .hbm, ⟨3, _⟩ => ⟨S4x1024x384, .bf16⟩
  | .local _ .vmem, ⟨0, _⟩ => ⟨S1408x1024, .bf16⟩
  | .local _ .vmem, ⟨1, _⟩ => ⟨S1408x1024, .bf16⟩
  | .local _ .vmem, ⟨2, _⟩ => ⟨S1408x384, .bf16⟩
  | .local _ .vmem, ⟨3, _⟩ => ⟨S1408x384, .bf16⟩
  | .local _ .vmem, ⟨4, _⟩ => ⟨S1x1024x384, .bf16⟩
  | .local _ .vmem, ⟨5, _⟩ => ⟨S1x1024x384, .bf16⟩
  | .local _ .vmem, ⟨6, _⟩ => ⟨S1024x384, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def k0_cond2 (i : grid0.Coords) : BitVec 1 :=
  let arg1 : BitVec 32 := BitVec.ofNat 32 (i 1).val
  let c5_i32 : BitVec 32 := 5#32
  let v11 : BitVec 1 := Scalar.cmpi .eq arg1 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S8448x1024 : Shape := ⟨2, ![8448, 1024]⟩
abbrev S4x1024x384 : Shape := ⟨3, ![4, 1024, 384]⟩
abbrev S8448x1536 : Shape := ⟨2, ![8448, 1536]⟩
abbrev S1024x4x384 : Shape := ⟨3, ![1024, 4, 384]⟩
abbrev S1024x1536 : Shape := ⟨2, ![1024, 1536]⟩
abbrev S1536x1024 : Shape := ⟨2, ![1536, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S4x1024x384, .bf16⟩
  | .hbm, ⟨2, _⟩ => ⟨S8448x1536, .bf16⟩
  | .hbm, ⟨3, _⟩ => ⟨S8448x1024, .f32⟩
  | .hbm, ⟨4, _⟩ => ⟨S4x1024x384, .f32⟩
  | .hbm, ⟨5, _⟩ => ⟨S1024x4x384, .f32⟩
  | .hbm, ⟨6, _⟩ => ⟨S1024x1536, .f32⟩
  | .hbm, ⟨7, _⟩ => ⟨S8448x1536, .f32⟩
  | .hbm, ⟨8, _⟩ => ⟨S8448x1536, .f32⟩
  | .hbm, ⟨9, _⟩ => ⟨S1536x1024, .f32⟩
  | .hbm, ⟨10, _⟩ => ⟨S1024x1536, .f32⟩
  | .hbm, ⟨11, _⟩ => ⟨S8448x1024, .f32⟩
  | .hbm, ⟨12, _⟩ => ⟨S1024x4x384, .f32⟩
  | .hbm, ⟨13, _⟩ => ⟨S4x1024x384, .f32⟩
  | .hbm, ⟨14, _⟩ => ⟨S4x1024x384, .bf16⟩
  | .hbm, ⟨15, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel11.lean ====
abbrev S8448x5632 : Shape := ⟨2, ![8448, 5632]⟩
abbrev S3x5632 : Shape := ⟨2, ![3, 5632]⟩
abbrev S4x1024x1408 : Shape := ⟨3, ![4, 1024, 1408]⟩
abbrev S8448x1024 : Shape := ⟨2, ![8448, 1024]⟩
abbrev S1x1024 : Shape := ⟨2, ![1, 1024]⟩
abbrev S2x6x1024 : Shape := ⟨3, ![2, 6, 1024]⟩
abbrev S2x2x8x1024 : Shape := ⟨4, ![2, 2, 8, 1024]⟩
abbrev S8x1024 : Shape := ⟨2, ![8, 1024]⟩
abbrev S2x8x1024 : Shape := ⟨3, ![2, 8, 1024]⟩
abbrev S16x5632 : Shape := ⟨2, ![16, 5632]⟩
abbrev S256x5632 : Shape := ⟨2, ![256, 5632]⟩
abbrev S256x1024 : Shape := ⟨2, ![256, 1024]⟩
abbrev S16x128 : Shape := ⟨2, ![16, 128]⟩
abbrev S8x128 : Shape := ⟨2, ![8, 128]⟩
abbrev S256x128 : Shape := ⟨2, ![256, 128]⟩
abbrev S272x128 : Shape := ⟨2, ![272, 128]⟩
abbrev S1x128 : Shape := ⟨2, ![1, 128]⟩
abbrev S256x1408 : Shape := ⟨2, ![256, 1408]⟩
abbrev S1x1024x1408 : Shape := ⟨3, ![1, 1024, 1408]⟩
abbrev S1024x1408 : Shape := ⟨2, ![1024, 1408]⟩
abbrev S1x1x1024 : Shape := ⟨3, ![1, 1, 1024]⟩
abbrev S256 : Shape := ⟨1, ![256]⟩
abbrev S256x1 : Shape := ⟨2, ![256, 1]⟩
abbrev S1x1x8x1024 : Shape := ⟨4, ![1, 1, 8, 1024]⟩
abbrev S32x8x1024 : Shape := ⟨3, ![32, 8, 1024]⟩
abbrev S1x8x1024 : Shape := ⟨3, ![1, 8, 1024]⟩

abbrev nBuf : Space → Nat
  | .hbm => 14
  | .vmem => 26
  | .smem => 0
  | _ => 0

abbrev bufTy : (tb : Table) → Fin (tcTables nBuf tb) → BufTy
  | .hbm, ⟨0, _⟩ => ⟨S8448x5632, .bf16⟩
  | .hbm, ⟨1, _⟩ => ⟨S3x5632, .f32⟩
  | .hbm, ⟨2, _⟩ => ⟨S4x1024x1408, .bf16⟩
  | .hbm, ⟨3, _⟩ => ⟨S8448x1024, .f32⟩
  | .hbm, ⟨4, _⟩ => ⟨S1x1024, .f32⟩
  | .hbm, ⟨5, _⟩ => ⟨S2x6x1024, .f32⟩
  | .hbm, ⟨6, _⟩ => ⟨S8448x1024, .f32⟩
  | .hbm, ⟨7, _⟩ => ⟨S8448x1024, .bf16⟩
  | .hbm, ⟨8, _⟩ => ⟨S8448x5632, .bf16⟩
  | .hbm, ⟨9, _⟩ => ⟨S8448x1024, .f32⟩
  | .hbm, ⟨10, _⟩ => ⟨S8448x1024, .bf16⟩
  | .hbm, ⟨11, _⟩ => ⟨S2x2x8x1024, .f32⟩
  | .hbm, ⟨12, _⟩ => ⟨S8x1024, .f32⟩
  | .hbm, ⟨13, _⟩ => ⟨S2x8x1024, .f32⟩
  | .local _ .vmem, ⟨0, _⟩ => ⟨S16x5632, .bf16⟩
  | .local _ .vmem, ⟨1, _⟩ => ⟨S16x5632, .bf16⟩
  | .local _ .vmem, ⟨2, _⟩ => ⟨S256x5632, .bf16⟩
  | .local _ .vmem, ⟨3, _⟩ => ⟨S256x5632, .bf16⟩
  | .local _ .vmem, ⟨4, _⟩ => ⟨S16x5632, .bf16⟩
  | .local _ .vmem, ⟨5, _⟩ => ⟨S16x5632, .bf16⟩
  | .local _ .vmem, ⟨6, _⟩ => ⟨S3x5632, .f32⟩
  | .local _ .vmem, ⟨7, _⟩ => ⟨S4x1024x1408, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S2x6x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S2x6x1024, .f32⟩
  | .local _ .vmem, ⟨17, _⟩ => ⟨S256x5632, .bf16⟩
  | .local _ .vmem, ⟨18, _⟩ => ⟨S256x5632, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S2x2x8x1024, .f32⟩
  | .local _ .vmem, ⟨24, _⟩ => ⟨S8x1024, .f32⟩
  | .local _ .vmem, ⟨25, _⟩ => ⟨S2x8x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![33], ![false]⟩

def k0_off1 (i : grid0.Coords) : Fin 3 → Nat :=
  let arg0 : BitVec 32 := BitVec.ofNat 32 (i 0).val
  let c32_i32 : BitVec 32 := 32#32
  let v0 : BitVec 1 := Scalar.cmpi .sge arg0 c32_i32
  let v1 : BitVec 32 := Scalar.extui v0
  let v1398 : Index := Scalar.indexCast v1
  let c4 : Index := 4#32
  let c0_770 : Index := 0#32
  ![v1398.toNat, 4, 0]
def k0_off2 (i : grid0.Coords) : Fin 4 → Nat :=
  let arg0 : BitVec 32 := BitVec.ofNat 32 (i 0).val
  let c32_i32 : BitVec 32 := 32#32
  let v0 : BitVec 1 := Scalar.cmpi .sge arg0 c32_i32
  let v1 : BitVec 32 := Scalar.extui v0
  let v1413 : Index := Scalar.indexCast v1
  let c0_778 : Index := 0#32
  let c0_779 : Index := 0#32
  let c0_780 : Index := 0#32
  ![v1413.toNat, 0, 0, 0]
def k0_off3 (i : grid0.Coords) : Fin 4 → Nat :=
  let arg0 : BitVec 32 := BitVec.ofNat 32 (i 0).val
  let c32_i32 : BitVec 32 := 32#32
  let v0 : BitVec 1 := Scalar.cmpi .sge arg0 c32_i32
  let v1 : BitVec 32 := Scalar.extui v0
  let v1423 : Index := Scalar.indexCast v1
  let c1_785 : Index := 1#32
  let c0_786 : Index := 0#32
  let c0_787 : Index := 0#32
  ![v1423.toNat, 1, 0, 0]
def k0_off4 (i : grid0.Coords) : Fin 3 → Nat :=
  let arg0 : BitVec 32 := BitVec.ofNat 32 (i 0).val
  let c32_i32 : BitVec 32 := 32#32
  let v0 : BitVec 1 := Scalar.cmpi .sge arg0 c32_i32
  let v1 : BitVec 32 := Scalar.extui v0
  let v1462 : Index := Scalar.indexCast v1
  let c2_804 : Index := 2#32
  let c0_805 : Index := 0#32
  ![v1462.toNat, 2, 0]
def k0_off5 (i : grid0.Coords) : Fin 3 → Nat :=
  let arg0 : BitVec 32 := BitVec.ofNat 32 (i 0).val
  let c32_i32 : BitVec 32 := 32#32
  let v0 : BitVec 1 := Scalar.cmpi .sge arg0 c32_i32
  let v1 : BitVec 32 := Scalar.extui v0
  let v1469 : Index := Scalar.indexCast v1
  let c0_808 : Index := 0#32
  let c0_809 : Index := 0#32
  ![v1469.toNat, 0, 0]
def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c527_i32 : BitVec 32 := 527#32
  let v2 : BitVec 32 := Scalar.minsi v1 c527_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S16x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x6x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x6x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S2x2x8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference11Ideal.lean ====
abbrev S8448x5632 : Shape := ⟨2, ![8448, 5632]⟩
abbrev S3x5632 : Shape := ⟨2, ![3, 5632]⟩
abbrev S4x1024x1408 : Shape := ⟨3, ![4, 1024, 1408]⟩
abbrev S8448x1024 : Shape := ⟨2, ![8448, 1024]⟩
abbrev S1x1024 : Shape := ⟨2, ![1, 1024]⟩
abbrev S2x6x1024 : Shape := ⟨3, ![2, 6, 1024]⟩
abbrev S_ : Shape := ⟨0, ![]⟩
abbrev S8448 : Shape := ⟨1, ![8448]⟩
abbrev S8448x1 : Shape := ⟨2, ![8448, 1]⟩
abbrev S8192x1024 : Shape := ⟨2, ![8192, 1024]⟩
abbrev S1x1x1024 : Shape := ⟨3, ![1, 1, 1024]⟩
abbrev S1024 : Shape := ⟨1, ![1024]⟩
abbrev S256x1024 : Shape := ⟨2, ![256, 1024]⟩
abbrev S1024x4x1408 : Shape := ⟨3, ![1024, 4, 1408]⟩
abbrev S1024x5632 : Shape := ⟨2, ![1024, 5632]⟩
abbrev S8192x5632 : Shape := ⟨2, ![8192, 5632]⟩
abbrev S1x5632 : Shape := ⟨2, ![1, 5632]⟩
abbrev S5632 : Shape := ⟨1, ![5632]⟩
abbrev S8191x5632 : Shape := ⟨2, ![8191, 5632]⟩
abbrev S256x5632 : Shape := ⟨2, ![256, 5632]⟩
abbrev S255x5632 : Shape := ⟨2, ![255, 5632]⟩

abbrev nBuf : Space → Nat
  | .hbm => 219
  | .vmem => 0
  | .smem => 0
  | _ => 0

abbrev hbmTy0_0 (i : Nat) : BufTy := match i % 128 with
  | 0 => ⟨S8448x5632, .bf16⟩
  | 1 => ⟨S3x5632, .f32⟩
  | 2 => ⟨S4x1024x1408, .bf16⟩
  | 3 => ⟨S8448x1024, .f32⟩
  | 4 => ⟨S1x1024, .f32⟩
  | 5 => ⟨S2x6x1024, .f32⟩
  | 6 => ⟨S8448x1024, .f32⟩
  | 7 => ⟨S8448x1024, .bf16⟩
  | 8 => ⟨S8448x1024, .f32⟩
  | 9 => ⟨S_, .f32⟩
  | 10 => ⟨S8448, .f32⟩
  | 11 => ⟨S8448x1, .f32⟩
  | 12 => ⟨S_, .f32⟩
  | 13 => ⟨S8448x1, .f32⟩
  | 14 => ⟨S8448x1, .f32⟩
  | 15 => ⟨S_, .f32⟩
  | 16 => ⟨S8448x1, .f32⟩
  | 17 => ⟨S8448x1, .f32⟩
  | 18 => ⟨S8448x1, .f32⟩
  | 19 => ⟨S8448x1, .f32⟩
  | 20 => ⟨S_, .f32⟩
  | 21 => ⟨S8448x1, .f32⟩
  | 22 => ⟨S8448x1, .f32⟩
  | 23 => ⟨S8448x1024, .f32⟩
  | 24 => ⟨S8448x1024, .f32⟩
  | 25 => ⟨S8448x1024, .f32⟩
  | 26 => ⟨S8448x1024, .f32⟩
  | 27 => ⟨S8192x1024, .f32⟩
  | 28 => ⟨S1x1x1024, .f32⟩
  | 29 => ⟨S1024, .f32⟩
  | 30 => ⟨S_, .f32⟩
  | 31 => ⟨S1024, .f32⟩
  | 32 => ⟨S1024, .f32⟩
  | 33 => ⟨S1x1024, .f32⟩
  | 34 => ⟨S8192x1024, .f32⟩
  | 35 => ⟨S8192x1024, .f32⟩
  | 36 => ⟨S1x1x1024, .f32⟩
  | 37 => ⟨S1024, .f32⟩
  | 38 => ⟨S1x1024, .f32⟩
  | 39 => ⟨S8192x1024, .f32⟩
  | 40 => ⟨S8192x1024, .f32⟩
  | 41 => ⟨S256x1024, .f32⟩
  | 42 => ⟨S1x1x1024, .f32⟩
  | 43 => ⟨S1024, .f32⟩
  | 44 => ⟨S_, .f32⟩
  | 45 => ⟨S1024, .f32⟩
  | 46 => ⟨S1024, .f32⟩
  | 47 => ⟨S1x1024, .f32⟩
  | 48 => ⟨S256x1024, .f32⟩
  | 49 => ⟨S256x1024, .f32⟩
  | 50 => ⟨S1x1x1024, .f32⟩
  | 51 => ⟨S1024, .f32⟩
  | 52 => ⟨S1x1024, .f32⟩
  | 53 => ⟨S256x1024, .f32⟩
  | 54 => ⟨S256x1024, .f32⟩
  | 55 => ⟨S8448x1024, .f32⟩
  | 56 => ⟨S4x1024x1408, .f32⟩
  | 57 => ⟨S1024x4x1408, .f32⟩
  | 58 => ⟨S1024x5632, .f32⟩
  | 59 => ⟨S8448x5632, .f32⟩
  | 60 => ⟨S8192x5632, .f32⟩
  | 61 => ⟨S_, .f32⟩
  | 62 => ⟨S1x5632, .f32⟩
  | 63 => ⟨S1x5632, .f32⟩
  | 64 => ⟨S5632, .f32⟩
  | 65 => ⟨S8191x5632, .f32⟩
  | 66 => ⟨S8192x5632, .f32⟩
  | 67 => ⟨S_, .f32⟩
  | 68 => ⟨S1x5632, .f32⟩
  | 69 => ⟨S1x5632, .f32⟩
  | 70 => ⟨S8192x5632, .f32⟩
  | 71 => ⟨S8192x5632, .f32⟩
  | 72 => ⟨S1x5632, .f32⟩
  | 73 => ⟨S5632, .f32⟩
  | 74 => ⟨S1x5632, .f32⟩
  | 75 => ⟨S8192x5632, .f32⟩
  | 76 => ⟨S8192x5632, .f32⟩
  | 77 => ⟨S8192x5632, .f32⟩
  | 78 => ⟨S1x5632, .f32⟩
  | 79 => ⟨S5632, .f32⟩
  | 80 => ⟨S8191x5632, .f32⟩
  | 81 => ⟨S8192x5632, .f32⟩
  | 82 => ⟨S_, .f32⟩
  | 83 => ⟨S1x5632, .f32⟩
  | 84 => ⟨S1x5632, .f32⟩
  | 85 => ⟨S8192x5632, .f32⟩
  | 86 => ⟨S8192x5632, .f32⟩
  | 87 => ⟨S8192x5632, .f32⟩
  | 88 => ⟨S256x5632, .f32⟩
  | 89 => ⟨S_, .f32⟩
  | 90 => ⟨S1x5632, .f32⟩
  | 91 => ⟨S1x5632, .f32⟩
  | 92 => ⟨S5632, .f32⟩
  | 93 => ⟨S255x5632, .f32⟩
  | 94 => ⟨S256x5632, .f32⟩
  | 95 => ⟨S_, .f32⟩
  | 96 => ⟨S1x5632, .f32⟩
  | 97 => ⟨S1x5632, .f32⟩
  | 98 => ⟨S256x5632, .f32⟩
  | 99 => ⟨S256x5632, .f32⟩
  | 100 => ⟨S1x5632, .f32⟩
  | 101 => ⟨S5632, .f32⟩
  | 102 => ⟨S1x5632, .f32⟩
  | 103 => ⟨S256x5632, .f32⟩
  | 104 => ⟨S256x5632, .f32⟩
  | 105 => ⟨S256x5632, .f32⟩
  | 106 => ⟨S1x5632, .f32⟩
  | 107 => ⟨S5632, .f32⟩
  | 108 => ⟨S255x5632, .f32⟩
  | 109 => ⟨S256x5632, .f32⟩
  | 110 => ⟨S_, .f32⟩
  | 111 => ⟨S1x5632, .f32⟩
  | 112 => ⟨S1x5632, .f32⟩
  | 113 => ⟨S256x5632, .f32⟩
  | 114 => ⟨S256x5632, .f32⟩
  | 115 => ⟨S256x5632, .f32⟩
  | 116 => ⟨S8448x5632, .f32⟩
  | 117 => ⟨S8448x5632, .f32⟩
  | 118 => ⟨S8192x5632, .f32⟩
  | 119 => ⟨S256x5632, .f32⟩
  | 120 => ⟨S256x5632, .f32⟩
  | 121 => ⟨S256x5632, .f32⟩
  | 122 => ⟨S255x5632, .f32⟩
  | 123 => ⟨S1x5632, .f32⟩
  | 124 => ⟨S_, .f32⟩
  | 125 => ⟨S256x5632, .f32⟩
  | 126 => ⟨S256x5632, .f32⟩
  | 127 => ⟨S256x5632, .f32⟩
  | _ => ⟨S8448x5632, .bf16⟩

abbrev hbmTy0_1 (i : Nat) : BufTy := match i % 128 with
  | 0 => ⟨S256x5632, .f32⟩
  | 1 => ⟨S256x5632, .f32⟩
  | 2 => ⟨S256x5632, .f32⟩
  | 3 => ⟨S1x5632, .f32⟩
  | 4 => ⟨S255x5632, .f32⟩
  | 5 => ⟨S_, .f32⟩
  | 6 => ⟨S256x5632, .f32⟩
  | 7 => ⟨S256x5632, .f32⟩
  | 8 => ⟨S_, .f32⟩
  | 9 => ⟨S8448x5632, .f32⟩
  | 10 => ⟨S8192x5632, .f32⟩
  | 11 => ⟨S8192x5632, .f32⟩
  | 12 => ⟨S8191x5632, .f32⟩
  | 13 => ⟨S1x5632, .f32⟩
  | 14 => ⟨S_, .f32⟩
  | 15 => ⟨S8192x5632, .f32⟩
  | 16 => ⟨S8192x5632, .f32⟩
  | 17 => ⟨S8192x5632, .f32⟩
  | 18 => ⟨S8192x5632, .f32⟩
  | 19 => ⟨S8192x5632, .f32⟩
  | 20 => ⟨S8192x5632, .f32⟩
  | 21 => ⟨S1x5632, .f32⟩
  | 22 => ⟨S8191x5632, .f32⟩
  | 23 => ⟨S_, .f32⟩
  | 24 => ⟨S8192x5632, .f32⟩
  | 25 => ⟨S8192x5632, .f32⟩
  | 26 => ⟨S_, .f32⟩
  | 27 => ⟨S8448x5632, .f32⟩
  | 28 => ⟨S8448x5632, .f32⟩
  | 29 => ⟨S8448x5632, .bf16⟩
  | 30 => ⟨S8448x5632, .f32⟩
  | 31 => ⟨S8448x1024, .f32⟩
  | 32 => ⟨S8192x1024, .f32⟩
  | 33 => ⟨S256x1024, .f32⟩
  | 34 => ⟨S256x1024, .f32⟩
  | 35 => ⟨S256x1024, .f32⟩
  | 36 => ⟨S_, .f32⟩
  | 37 => ⟨S8448x1024, .f32⟩
  | 38 => ⟨S8192x1024, .f32⟩
  | 39 => ⟨S8192x1024, .f32⟩
  | 40 => ⟨S_, .f32⟩
  | 41 => ⟨S8448x1024, .f32⟩
  | 42 => ⟨S8448x1024, .f32⟩
  | 43 => ⟨S8448x1024, .f32⟩
  | 44 => ⟨S8448x1024, .f32⟩
  | 45 => ⟨S8448x1024, .f32⟩
  | 46 => ⟨S_, .f32⟩
  | 47 => ⟨S8448, .f32⟩
  | 48 => ⟨S8448x1, .f32⟩
  | 49 => ⟨S8448x1024, .f32⟩
  | 50 => ⟨S8448x1024, .f32⟩
  | 51 => ⟨S8448x1, .f32⟩
  | 52 => ⟨S_, .f32⟩
  | 53 => ⟨S8448x1, .f32⟩
  | 54 => ⟨S8448x1, .f32⟩
  | 55 => ⟨S_, .f32⟩
  | 56 => ⟨S8448, .f32⟩
  | 57 => ⟨S8448x1024, .f32⟩
  | 58 => ⟨S8448x1024, .f32⟩
  | 59 => ⟨S8448x1024, .f32⟩
  | 60 => ⟨S8448x1024, .f32⟩
  | 61 => ⟨S8448x1024, .f32⟩
  | 62 => ⟨S8448x1024, .f32⟩
  | 63 => ⟨S1x1x1024, .f32⟩
  | 64 => ⟨S1024, .f32⟩
  | 65 => ⟨S8192x1024, .bf16⟩
  | 66 => ⟨S8192x1024, .f32⟩
  | 67 => ⟨S1x1024, .f32⟩
  | 68 => ⟨S8192x1024, .f32⟩
  | 69 => ⟨S8192x1024, .f32⟩
  | 70 => ⟨S1x1x1024, .f32⟩
  | 71 => ⟨S1024, .f32⟩
  | 72 => ⟨S256x1024, .bf16⟩
  | 73 => ⟨S256x1024, .f32⟩
  | 74 => ⟨S1x1024, .f32⟩
  | 75 => ⟨S256x1024, .f32⟩
  | 76 => ⟨S256x1024, .f32⟩
  | 77 => ⟨S8448x1024, .f32⟩
  | 78 => ⟨S8192x1024, .f32⟩
  | 79 => ⟨S256x1024, .f32⟩
  | 80 => ⟨S256x1024, .f32⟩
  | 81 => ⟨S256x1024, .f32⟩
  | 82 => ⟨S256x1024, .bf16⟩
  | 83 => ⟨S_, .bf16⟩
  | 84 => ⟨S8448x1024, .bf16⟩
  | 85 => ⟨S8192x1024, .f32⟩
  | 86 => ⟨S8192x1024, .f32⟩
  | 87 => ⟨S8192x1024, .bf16⟩
  | 88 => ⟨S_, .bf16⟩
  | 89 => ⟨S8448x1024, .bf16⟩
  | 90 => ⟨S8448x1024, .bf16⟩
  | _ => ⟨S8448x5632, .bf16⟩

abbrev hbmTy (i : Nat) : BufTy := match i / 128 with
  | 0 => hbmTy0_0 i
  | 1 => hbmTy0_1 i
  | _ => ⟨S8448x5632, .bf16⟩

abbrev bufTy : (tb : Table) → Fin (tcTables nBuf tb) → BufTy
  | .hbm, ⟨i, _⟩ => hbmTy i
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_7 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_8 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_9 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_10 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_cst_11 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_cst_12 : Ref sig .tc := ⟨.hbm, 133, rfl⟩
abbrev main_v112 : Ref sig .tc := ⟨.hbm, 134, rfl⟩
abbrev main_v113 : Ref sig .tc := ⟨.hbm, 135, rfl⟩
abbrev main_cst_13 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_cst_14 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_cst_15 : Ref sig .tc := ⟨.hbm, 151, rfl⟩
abbrev main_v127 : Ref sig .tc := ⟨.hbm, 152, rfl⟩
abbrev main_v128 : Ref sig .tc := ⟨.hbm, 153, rfl⟩
abbrev main_cst_16 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_cst_17 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_cst_18 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_cst_19 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_cst_20 : Ref sig .tc := ⟨.hbm, 180, rfl⟩
abbrev main_v151 : Ref sig .tc := ⟨.hbm, 181, rfl⟩
abbrev main_v152 : Ref sig .tc := ⟨.hbm, 182, rfl⟩
abbrev main_cst_21 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_cst_22 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_cst_23 : Ref sig .tc := ⟨.hbm, 216, rfl⟩
abbrev main_v184 : Ref sig .tc := ⟨.hbm, 217, rfl⟩
abbrev main_v185 : Ref sig .tc := ⟨.hbm, 218, rfl⟩

abbrev nD : Nat := 1
abbrev τ : Topo := Topo.v7x

variable {F : FTy → Type} [FloatOps F]
-- ==== Kernel12.lean ====
abbrev S4096x1408 : Shape := ⟨2, ![4096, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | .local _ .vmem, ⟨17, _⟩ => ⟨S128x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel12Ideal.lean ====
abbrev S4096x1408 : Shape := ⟨2, ![4096, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | .local _ .vmem, ⟨17, _⟩ => ⟨S128x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S4096x1408 : Shape := ⟨2, ![4096, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S_, .f32⟩
  | .hbm, ⟨7, _⟩ => ⟨S4096x1408, .f32⟩
  | .hbm, ⟨8, _⟩ => ⟨S4096x1408, .f32⟩
  | .hbm, ⟨9, _⟩ => ⟨S_, .f32⟩
  | .hbm, ⟨10, _⟩ => ⟨S4096x1408, .f32⟩
  | .hbm, ⟨11, _⟩ => ⟨S4096x1408, .f32⟩
  | .hbm, ⟨12, _⟩ => ⟨S4096x1408, .f32⟩
  | .hbm, ⟨13, _⟩ => ⟨S_, .f32⟩
  | .hbm, ⟨14, _⟩ => ⟨S4096x1408, .f32⟩
  | .hbm, ⟨15, _⟩ => ⟨S4096x1408, .f32⟩
  | .hbm, ⟨16, _⟩ => ⟨S4096x1408, .f32⟩
  | .hbm, ⟨17, _⟩ => ⟨S_, .f32⟩
  | .hbm, ⟨18, _⟩ => ⟨S4096x1408, .f32⟩
  | .hbm, ⟨19, _⟩ => ⟨S4096x1408, .f32⟩
  | .hbm, ⟨20, _⟩ => ⟨S4096x1408, .f32⟩
  | .hbm, ⟨21, _⟩ => ⟨S_, .f32⟩
  | .hbm, ⟨22, _⟩ => ⟨S4096x1408, .f32⟩
  | .hbm, ⟨23, _⟩ => ⟨S4096x1408, .f32⟩
  | .hbm, ⟨24, _⟩ => ⟨S_, .f32⟩
  | .hbm, ⟨25, _⟩ => ⟨S4096x1408, .f32⟩
  | .hbm, ⟨26, _⟩ => ⟨S4096x1408, .f32⟩
  | .hbm, ⟨27, _⟩ => ⟨S4096x1408, .f32⟩
  | .hbm, ⟨28, _⟩ => ⟨S_, .f32⟩
  | .hbm, ⟨29, _⟩ => ⟨S4096x1408, .f32⟩
  | .hbm, ⟨30, _⟩ => ⟨S4096x1408, .f32⟩
  | .hbm, ⟨31, _⟩ => ⟨S4096x1408, .f32⟩
  | .hbm, ⟨32, _⟩ => ⟨S_, .f32⟩
  | .hbm, ⟨33, _⟩ => ⟨S4096x1408, .f32⟩
  | .hbm, ⟨34, _⟩ => ⟨S4096x1408, .f32⟩
  | .hbm, ⟨35, _⟩ => ⟨S4096x1408, .f32⟩
  | .hbm, ⟨36, _⟩ => ⟨S_, .f32⟩
  | .hbm, ⟨37, _⟩ => ⟨S4096x1408, .f32⟩
  | .hbm, ⟨38, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel13.lean ====
abbrev S2816x1024 : Shape := ⟨2, ![2816, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel13Ideal.lean ====
abbrev S2816x1024 : Shape := ⟨2, ![2816, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S2816x1024 : Shape := ⟨2, ![2816, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S_, .f32⟩
  | .hbm, ⟨7, _⟩ => ⟨S2816x1024, .f32⟩
  | .hbm, ⟨8, _⟩ => ⟨S2816x1024, .f32⟩
  | .hbm, ⟨9, _⟩ => ⟨S_, .f32⟩
  | .hbm, ⟨10, _⟩ => ⟨S2816x1024, .f32⟩
  | .hbm, ⟨11, _⟩ => ⟨S2816x1024, .f32⟩
  | .hbm, ⟨12, _⟩ => ⟨S2816x1024, .f32⟩
  | .hbm, ⟨13, _⟩ => ⟨S_, .f32⟩
  | .hbm, ⟨14, _⟩ => ⟨S2816x1024, .f32⟩
  | .hbm, ⟨15, _⟩ => ⟨S2816x1024, .f32⟩
  | .hbm, ⟨16, _⟩ => ⟨S2816x1024, .f32⟩
  | .hbm, ⟨17, _⟩ => ⟨S_, .f32⟩
  | .hbm, ⟨18, _⟩ => ⟨S2816x1024, .f32⟩
  | .hbm, ⟨19, _⟩ => ⟨S2816x1024, .f32⟩
  | .hbm, ⟨20, _⟩ => ⟨S2816x1024, .f32⟩
  | .hbm, ⟨21, _⟩ => ⟨S_, .f32⟩
  | .hbm, ⟨22, _⟩ => ⟨S2816x1024, .f32⟩
  | .hbm, ⟨23, _⟩ => ⟨S2816x1024, .f32⟩
  | .hbm, ⟨24, _⟩ => ⟨S_, .f32⟩
  | .hbm, ⟨25, _⟩ => ⟨S2816x1024, .f32⟩
  | .hbm, ⟨26, _⟩ => ⟨S2816x1024, .f32⟩
  | .hbm, ⟨27, _⟩ => ⟨S2816x1024, .f32⟩
  | .hbm, ⟨28, _⟩ => ⟨S_, .f32⟩
  | .hbm, ⟨29, _⟩ => ⟨S2816x1024, .f32⟩
  | .hbm, ⟨30, _⟩ => ⟨S2816x1024, .f32⟩
  | .hbm, ⟨31, _⟩ => ⟨S2816x1024, .f32⟩
  | .hbm, ⟨32, _⟩ => ⟨S_, .f32⟩
  | .hbm, ⟨33, _⟩ => ⟨S2816x1024, .f32⟩
  | .hbm, ⟨34, _⟩ => ⟨S2816x1024, .f32⟩
  | .hbm, ⟨35, _⟩ => ⟨S2816x1024, .f32⟩
  | .hbm, ⟨36, _⟩ => ⟨S_, .f32⟩
  | .hbm, ⟨37, _⟩ => ⟨S2816x1024, .f32⟩
  | .hbm, ⟨38, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel14.lean ====
abbrev S2048x640 : Shape := ⟨2, ![2048, 640]⟩
abbrev S128x640 : Shape := ⟨2, ![128, 640]⟩

abbrev nBuf : Space → Nat
  | .hbm => 9
  | .vmem => 18
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S2048x640, .f32⟩
  | .hbm, ⟨5, _⟩ => ⟨S2048x640, .f32⟩
  | .hbm, ⟨6, _⟩ => ⟨S2048x640, .f32⟩
  | .hbm, ⟨7, _⟩ => ⟨S2048x640, .f32⟩
  | .hbm, ⟨8, _⟩ => ⟨S2048x640, .f32⟩
  | .local _ .vmem, ⟨0, _⟩ => ⟨S128x640, .f32⟩
  | .local _ .vmem, ⟨1, _⟩ => ⟨S128x640, .f32⟩
  | .local _ .vmem, ⟨2, _⟩ => ⟨S128x640, .f32⟩
  | .local _ .vmem, ⟨3, _⟩ => ⟨S128x640, .f32⟩
  | .local _ .vmem, ⟨4, _⟩ => ⟨S128x640, .f32⟩
  | .local _ .vmem, ⟨5, _⟩ => ⟨S128x640, .f32⟩
  | .local _ .vmem, ⟨6, _⟩ => ⟨S128x640, .f32⟩
  | .local _ .vmem, ⟨7, _⟩ => ⟨S128x640, .f32⟩
  | .local _ .vmem, ⟨8, _⟩ => ⟨S128x640, .f32⟩
  | .local _ .vmem, ⟨9, _⟩ => ⟨S128x640, .f32⟩
  | .local _ .vmem, ⟨10, _⟩ => ⟨S128x640, .f32⟩
  | .local _ .vmem, ⟨11, _⟩ => ⟨S128x640, .f32⟩
  | .local _ .vmem, ⟨12, _⟩ => ⟨S128x640, .f32⟩
  | .local _ .vmem, ⟨13, _⟩ => ⟨S128x640, .f32⟩
  | .local _ .vmem, ⟨14, _⟩ => ⟨S128x640, .f32⟩
  | .local _ .vmem, ⟨15, _⟩ => ⟨S128x640, .f32⟩
  | .local _ .vmem, ⟨16, _⟩ => ⟨S128x640, .f32⟩
  | .local _ .vmem, ⟨17, _⟩ => ⟨S128x640, .f32⟩
  | _, _ => ⟨S2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel14Ideal.lean ====
abbrev S2048x640 : Shape := ⟨2, ![2048, 640]⟩
abbrev S128x640 : Shape := ⟨2, ![128, 640]⟩

abbrev nBuf : Space → Nat
  | .hbm => 9
  | .vmem => 18
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S2048x640, .f32⟩
  | .hbm, ⟨5, _⟩ => ⟨S2048x640, .f32⟩
  | .hbm, ⟨6, _⟩ => ⟨S2048x640, .f32⟩
  | .hbm, ⟨7, _⟩ => ⟨S2048x640, .f32⟩
  | .hbm, ⟨8, _⟩ => ⟨S2048x640, .f32⟩
  | .local _ .vmem, ⟨0, _⟩ => ⟨S128x640, .f32⟩
  | .local _ .vmem, ⟨1, _⟩ => ⟨S128x640, .f32⟩
  | .local _ .vmem, ⟨2, _⟩ => ⟨S128x640, .f32⟩
  | .local _ .vmem, ⟨3, _⟩ => ⟨S128x640, .f32⟩
  | .local _ .vmem, ⟨4, _⟩ => ⟨S128x640, .f32⟩
  | .local _ .vmem, ⟨5, _⟩ => ⟨S128x640, .f32⟩
  | .local _ .vmem, ⟨6, _⟩ => ⟨S128x640, .f32⟩
  | .local _ .vmem, ⟨7, _⟩ => ⟨S128x640, .f32⟩
  | .local _ .vmem, ⟨8, _⟩ => ⟨S128x640, .f32⟩
  | .local _ .vmem, ⟨9, _⟩ => ⟨S128x640, .f32⟩
  | .local _ .vmem, ⟨10, _⟩ => ⟨S128x640, .f32⟩
  | .local _ .vmem, ⟨11, _⟩ => ⟨S128x640, .f32⟩
  | .local _ .vmem, ⟨12, _⟩ => ⟨S128x640, .f32⟩
  | .local _ .vmem, ⟨13, _⟩ => ⟨S128x640, .f32⟩
  | .local _ .vmem, ⟨14, _⟩ => ⟨S128x640, .f32⟩
  | .local _ .vmem, ⟨15, _⟩ => ⟨S128x640, .f32⟩
  | .local _ .vmem, ⟨16, _⟩ => ⟨S128x640, .f32⟩
  | .local _ .vmem, ⟨17, _⟩ => ⟨S128x640, .f32⟩
  | _, _ => ⟨S2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S2048x640 : Shape := ⟨2, ![2048, 640]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S2048x640, .f32⟩
  | .hbm, ⟨5, _⟩ => ⟨S2048x640, .f32⟩
  | .hbm, ⟨6, _⟩ => ⟨S_, .f32⟩
  | .hbm, ⟨7, _⟩ => ⟨S2048x640, .f32⟩
  | .hbm, ⟨8, _⟩ => ⟨S2048x640, .f32⟩
  | .hbm, ⟨9, _⟩ => ⟨S_, .f32⟩
  | .hbm, ⟨10, _⟩ => ⟨S2048x640, .f32⟩
  | .hbm, ⟨11, _⟩ => ⟨S2048x640, .f32⟩
  | .hbm, ⟨12, _⟩ => ⟨S2048x640, .f32⟩
  | .hbm, ⟨13, _⟩ => ⟨S_, .f32⟩
  | .hbm, ⟨14, _⟩ => ⟨S2048x640, .f32⟩
  | .hbm, ⟨15, _⟩ => ⟨S2048x640, .f32⟩
  | .hbm, ⟨16, _⟩ => ⟨S2048x640, .f32⟩
  | .hbm, ⟨17, _⟩ => ⟨S_, .f32⟩
  | .hbm, ⟨18, _⟩ => ⟨S2048x640, .f32⟩
  | .hbm, ⟨19, _⟩ => ⟨S2048x640, .f32⟩
  | .hbm, ⟨20, _⟩ => ⟨S2048x640, .f32⟩
  | .hbm, ⟨21, _⟩ => ⟨S_, .f32⟩
  | .hbm, ⟨22, _⟩ => ⟨S2048x640, .f32⟩
  | .hbm, ⟨23, _⟩ => ⟨S2048x640, .f32⟩
  | .hbm, ⟨24, _⟩ => ⟨S_, .f32⟩
  | .hbm, ⟨25, _⟩ => ⟨S2048x640, .f32⟩
  | .hbm, ⟨26, _⟩ => ⟨S2048x640, .f32⟩
  | .hbm, ⟨27, _⟩ => ⟨S2048x640, .f32⟩
  | .hbm, ⟨28, _⟩ => ⟨S_, .f32⟩
  | .hbm, ⟨29, _⟩ => ⟨S2048x640, .f32⟩
  | .hbm, ⟨30, _⟩ => ⟨S2048x640, .f32⟩
  | .hbm, ⟨31, _⟩ => ⟨S2048x640, .f32⟩
  | .hbm, ⟨32, _⟩ => ⟨S_, .f32⟩
  | .hbm, ⟨33, _⟩ => ⟨S2048x640, .f32⟩
  | .hbm, ⟨34, _⟩ => ⟨S2048x640, .f32⟩
  | .hbm, ⟨35, _⟩ => ⟨S2048x640, .f32⟩
  | .hbm, ⟨36, _⟩ => ⟨S_, .f32⟩
  | .hbm, ⟨37, _⟩ => ⟨S2048x640, .f32⟩
  | .hbm, ⟨38, _⟩ => ⟨S2048x640, .f32⟩
  | _, _ => ⟨S2048x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel15.lean ====
abbrev S2048x384 : Shape := ⟨2, ![2048, 384]⟩
abbrev S128x384 : Shape := ⟨2, ![128, 384]⟩

abbrev nBuf : Space → Nat
  | .hbm => 9
  | .vmem => 18
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .local _ .vmem, ⟨0, _⟩ => ⟨S128x384, .f32⟩
  | .local _ .vmem, ⟨1, _⟩ => ⟨S128x384, .f32⟩
  | .local _ .vmem, ⟨2, _⟩ => ⟨S128x384, .f32⟩
  | .local _ .vmem, ⟨3, _⟩ => ⟨S128x384, .f32⟩
  | .local _ .vmem, ⟨4, _⟩ => ⟨S128x384, .f32⟩
  | .local _ .vmem, ⟨5, _⟩ => ⟨S128x384, .f32⟩
  | .local _ .vmem, ⟨6, _⟩ => ⟨S128x384, .f32⟩
  | .local _ .vmem, ⟨7, _⟩ => ⟨S128x384, .f32⟩
  | .local _ .vmem, ⟨8, _⟩ => ⟨S128x384, .f32⟩
  | .local _ .vmem, ⟨9, _⟩ => ⟨S128x384, .f32⟩
  | .local _ .vmem, ⟨10, _⟩ => ⟨S128x384, .f32⟩
  | .local _ .vmem, ⟨11, _⟩ => ⟨S128x384, .f32⟩
  | .local _ .vmem, ⟨12, _⟩ => ⟨S128x384, .f32⟩
  | .local _ .vmem, ⟨13, _⟩ => ⟨S128x384, .f32⟩
  | .local _ .vmem, ⟨14, _⟩ => ⟨S128x384, .f32⟩
  | .local _ .vmem, ⟨15, _⟩ => ⟨S128x384, .f32⟩
  | .local _ .vmem, ⟨16, _⟩ => ⟨S128x384, .f32⟩
  | .local _ .vmem, ⟨17, _⟩ => ⟨S128x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel15Ideal.lean ====
abbrev S2048x384 : Shape := ⟨2, ![2048, 384]⟩
abbrev S128x384 : Shape := ⟨2, ![128, 384]⟩

abbrev nBuf : Space → Nat
  | .hbm => 9
  | .vmem => 18
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .local _ .vmem, ⟨0, _⟩ => ⟨S128x384, .f32⟩
  | .local _ .vmem, ⟨1, _⟩ => ⟨S128x384, .f32⟩
  | .local _ .vmem, ⟨2, _⟩ => ⟨S128x384, .f32⟩
  | .local _ .vmem, ⟨3, _⟩ => ⟨S128x384, .f32⟩
  | .local _ .vmem, ⟨4, _⟩ => ⟨S128x384, .f32⟩
  | .local _ .vmem, ⟨5, _⟩ => ⟨S128x384, .f32⟩
  | .local _ .vmem, ⟨6, _⟩ => ⟨S128x384, .f32⟩
  | .local _ .vmem, ⟨7, _⟩ => ⟨S128x384, .f32⟩
  | .local _ .vmem, ⟨8, _⟩ => ⟨S128x384, .f32⟩
  | .local _ .vmem, ⟨9, _⟩ => ⟨S128x384, .f32⟩
  | .local _ .vmem, ⟨10, _⟩ => ⟨S128x384, .f32⟩
  | .local _ .vmem, ⟨11, _⟩ => ⟨S128x384, .f32⟩
  | .local _ .vmem, ⟨12, _⟩ => ⟨S128x384, .f32⟩
  | .local _ .vmem, ⟨13, _⟩ => ⟨S128x384, .f32⟩
  | .local _ .vmem, ⟨14, _⟩ => ⟨S128x384, .f32⟩
  | .local _ .vmem, ⟨15, _⟩ => ⟨S128x384, .f32⟩
  | .local _ .vmem, ⟨16, _⟩ => ⟨S128x384, .f32⟩
  | .local _ .vmem, ⟨17, _⟩ => ⟨S128x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S2048x384 : Shape := ⟨2, ![2048, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S_, .f32⟩
  | .hbm, ⟨7, _⟩ => ⟨S2048x384, .f32⟩
  | .hbm, ⟨8, _⟩ => ⟨S2048x384, .f32⟩
  | .hbm, ⟨9, _⟩ => ⟨S_, .f32⟩
  | .hbm, ⟨10, _⟩ => ⟨S2048x384, .f32⟩
  | .hbm, ⟨11, _⟩ => ⟨S2048x384, .f32⟩
  | .hbm, ⟨12, _⟩ => ⟨S2048x384, .f32⟩
  | .hbm, ⟨13, _⟩ => ⟨S_, .f32⟩
  | .hbm, ⟨14, _⟩ => ⟨S2048x384, .f32⟩
  | .hbm, ⟨15, _⟩ => ⟨S2048x384, .f32⟩
  | .hbm, ⟨16, _⟩ => ⟨S2048x384, .f32⟩
  | .hbm, ⟨17, _⟩ => ⟨S_, .f32⟩
  | .hbm, ⟨18, _⟩ => ⟨S2048x384, .f32⟩
  | .hbm, ⟨19, _⟩ => ⟨S2048x384, .f32⟩
  | .hbm, ⟨20, _⟩ => ⟨S2048x384, .f32⟩
  | .hbm, ⟨21, _⟩ => ⟨S_, .f32⟩
  | .hbm, ⟨22, _⟩ => ⟨S2048x384, .f32⟩
  | .hbm, ⟨23, _⟩ => ⟨S2048x384, .f32⟩
  | .hbm, ⟨24, _⟩ => ⟨S_, .f32⟩
  | .hbm, ⟨25, _⟩ => ⟨S2048x384, .f32⟩
  | .hbm, ⟨26, _⟩ => ⟨S2048x384, .f32⟩
  | .hbm, ⟨27, _⟩ => ⟨S2048x384, .f32⟩
  | .hbm, ⟨28, _⟩ => ⟨S_, .f32⟩
  | .hbm, ⟨29, _⟩ => ⟨S2048x384, .f32⟩
  | .hbm, ⟨30, _⟩ => ⟨S2048x384, .f32⟩
  | .hbm, ⟨31, _⟩ => ⟨S2048x384, .f32⟩
  | .hbm, ⟨32, _⟩ => ⟨S_, .f32⟩
  | .hbm, ⟨33, _⟩ => ⟨S2048x384, .f32⟩
  | .hbm, ⟨34, _⟩ => ⟨S2048x384, .f32⟩
  | .hbm, ⟨35, _⟩ => ⟨S2048x384, .f32⟩
  | .hbm, ⟨36, _⟩ => ⟨S_, .f32⟩
  | .hbm, ⟨37, _⟩ => ⟨S2048x384, .f32⟩
  | .hbm, ⟨38, _⟩ => ⟨S2048x384, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel16.lean ====
abbrev S512x1024 : Shape := ⟨2, ![512, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel16Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference16Ideal.lean ====
abbrev S512x1024 : Shape := ⟨2, ![512, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel17.lean ====
abbrev S4096x1536 : Shape := ⟨2, ![4096, 1536]⟩
abbrev S128x1536 : Shape := ⟨2, ![128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel17Ideal.lean ====
abbrev S4096x1536 : Shape := ⟨2, ![4096, 1536]⟩
abbrev S128x1536 : Shape := ⟨2, ![128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S4096x1536 : Shape := ⟨2, ![4096, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S_, .f32⟩
  | .hbm, ⟨5, _⟩ => ⟨S4096x1536, .f32⟩
  | .hbm, ⟨6, _⟩ => ⟨S4096x1536, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S_, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S4096x1536, .f32⟩
  | .hbm, ⟨21, _⟩ => ⟨S4096x1536, .f32⟩
  | .hbm, ⟨22, _⟩ => ⟨S_, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S_, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S_, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S504x128 : Shape := ⟨2, ![504, 128]⟩
abbrev S8x128 : Shape := ⟨2, ![8, 128]⟩

abbrev nBuf : Space → Nat
  | .hbm => 8
  | .vmem => 16
  | .smem => 0
  | _ => 0

abbrev bufTy : (tb : Table) → Fin (tcTables nBuf tb) → BufTy
  | .hbm, ⟨0, _⟩ => ⟨S504x128, .f32⟩
  | .hbm, ⟨1, _⟩ => ⟨S504x128, .f32⟩
  | .hbm, ⟨2, _⟩ => ⟨S504x128, .f32⟩
  | .hbm, ⟨3, _⟩ => ⟨S504x128, .f32⟩
  | .hbm, ⟨4, _⟩ => ⟨S504x128, .f32⟩
  | .hbm, ⟨5, _⟩ => ⟨S504x128, .f32⟩
  | .hbm, ⟨6, _⟩ => ⟨S504x128, .f32⟩
  | .hbm, ⟨7, _⟩ => ⟨S504x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | _, _ => ⟨S504x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![63], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel18Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference18Ideal.lean ====
abbrev S504x128 : Shape := ⟨2, ![504, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S504x128, .f32⟩
  | .hbm, ⟨1, _⟩ => ⟨S504x128, .f32⟩
  | .hbm, ⟨2, _⟩ => ⟨S504x128, .f32⟩
  | .hbm, ⟨3, _⟩ => ⟨S504x128, .f32⟩
  | .hbm, ⟨4, _⟩ => ⟨S_, .f32⟩
  | .hbm, ⟨5, _⟩ => ⟨S504x128, .f32⟩
  | .hbm, ⟨6, _⟩ => ⟨S504x128, .f32⟩
  | .hbm, ⟨7, _⟩ => ⟨S_, .f32⟩
  | .hbm, ⟨8, _⟩ => ⟨S504x128, .f32⟩
  | .hbm, ⟨9, _⟩ => ⟨S504x128, .f32⟩
  | .hbm, ⟨10, _⟩ => ⟨S504x128, .f32⟩
  | .hbm, ⟨11, _⟩ => ⟨S_, .f32⟩
  | .hbm, ⟨12, _⟩ => ⟨S504x128, .f32⟩
  | .hbm, ⟨13, _⟩ => ⟨S504x128, .f32⟩
  | .hbm, ⟨14, _⟩ => ⟨S504x128, .f32⟩
  | .hbm, ⟨15, _⟩ => ⟨S_, .f32⟩
  | .hbm, ⟨16, _⟩ => ⟨S504x128, .f32⟩
  | .hbm, ⟨17, _⟩ => ⟨S504x128, .f32⟩
  | .hbm, ⟨18, _⟩ => ⟨S504x128, .f32⟩
  | .hbm, ⟨19, _⟩ => ⟨S_, .f32⟩
  | .hbm, ⟨20, _⟩ => ⟨S504x128, .f32⟩
  | .hbm, ⟨21, _⟩ => ⟨S504x128, .f32⟩
  | .hbm, ⟨22, _⟩ => ⟨S_, .f32⟩
  | .hbm, ⟨23, _⟩ => ⟨S504x128, .f32⟩
  | .hbm, ⟨24, _⟩ => ⟨S504x128, .f32⟩
  | .hbm, ⟨25, _⟩ => ⟨S504x128, .f32⟩
  | .hbm, ⟨26, _⟩ => ⟨S_, .f32⟩
  | .hbm, ⟨27, _⟩ => ⟨S504x128, .f32⟩
  | .hbm, ⟨28, _⟩ => ⟨S504x128, .f32⟩
  | .hbm, ⟨29, _⟩ => ⟨S504x128, .f32⟩
  | .hbm, ⟨30, _⟩ => ⟨S_, .f32⟩
  | .hbm, ⟨31, _⟩ => ⟨S504x128, .f32⟩
  | .hbm, ⟨32, _⟩ => ⟨S504x128, .f32⟩
  | .hbm, ⟨33, _⟩ => ⟨S504x128, .f32⟩
  | .hbm, ⟨34, _⟩ => ⟨S_, .f32⟩
  | .hbm, ⟨35, _⟩ => ⟨S504x128, .f32⟩
  | .hbm, ⟨36, _⟩ => ⟨S504x128, .f32⟩
  | _, _ => ⟨S504x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S16x1024 : Shape := ⟨2, ![16, 1024]⟩
abbrev S4x16x1536 : Shape := ⟨3, ![4, 16, 1536]⟩
abbrev S4x1024x1536 : Shape := ⟨3, ![4, 1024, 1536]⟩
abbrev S1x16x1536 : Shape := ⟨3, ![1, 16, 1536]⟩
abbrev S1x1024x1536 : Shape := ⟨3, ![1, 1024, 1536]⟩
abbrev S16x1536 : Shape := ⟨2, ![16, 1536]⟩
abbrev S1024x1536 : Shape := ⟨2, ![1024, 1536]⟩

abbrev nBuf : Space → Nat
  | .hbm => 5
  | .vmem => 8
  | .smem => 0
  | _ => 0

abbrev bufTy : (tb : Table) → Fin (tcTables nBuf tb) → BufTy
  | .hbm, ⟨0, _⟩ => ⟨S16x1024, .f32⟩
  | .hbm, ⟨1, _⟩ => ⟨S4x16x1536, .f32⟩
  | .hbm, ⟨2, _⟩ => ⟨S4x1024x1536, .f32⟩
  | .hbm, ⟨3, _⟩ => ⟨S4x1024x1536, .f32⟩
  | .hbm, ⟨4, _⟩ => ⟨S16x1024, .f32⟩
  | .local _ .vmem, ⟨0, _⟩ => ⟨S16x1024, .f32⟩
  | .local _ .vmem, ⟨1, _⟩ => ⟨S1x16x1536, .f32⟩
  | .local _ .vmem, ⟨2, _⟩ => ⟨S1x16x1536, .f32⟩
  | .local _ .vmem, ⟨3, _⟩ => ⟨S1x1024x1536, .f32⟩
  | .local _ .vmem, ⟨4, _⟩ => ⟨S1x1024x1536, .f32⟩
  | .local _ .vmem, ⟨5, _⟩ => ⟨S1x1024x1536, .f32⟩
  | .local _ .vmem, ⟨6, _⟩ => ⟨S1x1024x1536, .f32⟩
  | .local _ .vmem, ⟨7, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference19Ideal.lean ====
abbrev S16x1024 : Shape := ⟨2, ![16, 1024]⟩
abbrev S4x16x1536 : Shape := ⟨3, ![4, 16, 1536]⟩
abbrev S4x1024x1536 : Shape := ⟨3, ![4, 1024, 1536]⟩
abbrev S_ : Shape := ⟨0, ![]⟩
abbrev S4x1536x16 : Shape := ⟨3, ![4, 1536, 16]⟩
abbrev S4x1536x1024 : Shape := ⟨3, ![4, 1536, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x16x1536, .f32⟩
  | .hbm, ⟨2, _⟩ => ⟨S4x1024x1536, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x1536x16, .f32⟩
  | .hbm, ⟨13, _⟩ => ⟨S4x16x1536, .f32⟩
  | .hbm, ⟨14, _⟩ => ⟨S4x1536x16, .f32⟩
  | .hbm, ⟨15, _⟩ => ⟨S16x1024, .f32⟩
  | .hbm, ⟨16, _⟩ => ⟨S4x1536x1024, .f32⟩
  | .hbm, ⟨17, _⟩ => ⟨S4x1024x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel20.lean ====
abbrev S16x1024 : Shape := ⟨2, ![16, 1024]⟩
abbrev S4x1024x1536 : Shape := ⟨3, ![4, 1024, 1536]⟩
abbrev S4x1x1536 : Shape := ⟨3, ![4, 1, 1536]⟩
abbrev S4x16x1536 : Shape := ⟨3, ![4, 16, 1536]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 4
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x1536, .f32⟩
  | .hbm, ⟨2, _⟩ => ⟨S4x1x1536, .f32⟩
  | .hbm, ⟨3, _⟩ => ⟨S4x16x1536, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference20Ideal.lean ====
abbrev S16x1024 : Shape := ⟨2, ![16, 1024]⟩
abbrev S4x1024x1536 : Shape := ⟨3, ![4, 1024, 1536]⟩
abbrev S4x1x1536 : Shape := ⟨3, ![4, 1, 1536]⟩
abbrev S_ : Shape := ⟨0, ![]⟩
abbrev S4x1536x16 : Shape := ⟨3, ![4, 1536, 16]⟩
abbrev S4x16x1536 : Shape := ⟨3, ![4, 16, 1536]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x1536, .f32⟩
  | .hbm, ⟨2, _⟩ => ⟨S4x1x1536, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x1536x16, .f32⟩
  | .hbm, ⟨13, _⟩ => ⟨S4x16x1536, .f32⟩
  | .hbm, ⟨14, _⟩ => ⟨S4x16x1536, .f32⟩
  | .hbm, ⟨15, _⟩ => ⟨S4x16x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel21.lean ====
abbrev S8448x1024 : Shape := ⟨2, ![8448, 1024]⟩
abbrev S1x1024 : Shape := ⟨2, ![1, 1024]⟩
abbrev S8192x1024 : Shape := ⟨2, ![8192, 1024]⟩
abbrev S2x6x1024 : Shape := ⟨3, ![2, 6, 1024]⟩
abbrev S8x128 : Shape := ⟨2, ![8, 128]⟩
abbrev S8x1024 : Shape := ⟨2, ![8, 1024]⟩
abbrev S2x8x1024 : Shape := ⟨3, ![2, 8, 1024]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S32x8x1024 : Shape := ⟨3, ![32, 8, 1024]⟩
abbrev S1x1x1024 : Shape := ⟨3, ![1, 1, 1024]⟩
abbrev S1x8x1024 : Shape := ⟨3, ![1, 8, 1024]⟩

abbrev nBuf : Space → Nat
  | .hbm => 10
  | .vmem => 15
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8192x1024, .f32⟩
  | .hbm, ⟨3, _⟩ => ⟨S8448x1024, .bf16⟩
  | .hbm, ⟨4, _⟩ => ⟨S2x6x1024, .f32⟩
  | .hbm, ⟨5, _⟩ => ⟨S8x128, .f32⟩
  | .hbm, ⟨6, _⟩ => ⟨S8448x1024, .f32⟩
  | .hbm, ⟨7, _⟩ => ⟨S8x1024, .f32⟩
  | .hbm, ⟨8, _⟩ => ⟨S8448x1024, .bf16⟩
  | .hbm, ⟨9, _⟩ => ⟨S2x8x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | .local _ .vmem, ⟨7, _⟩ => ⟨S2x6x1024, .f32⟩
  | .local _ .vmem, ⟨8, _⟩ => ⟨S8x128, .f32⟩
  | .local _ .vmem, ⟨9, _⟩ => ⟨S256x1024, .f32⟩
  | .local _ .vmem, ⟨10, _⟩ => ⟨S256x1024, .f32⟩
  | .local _ .vmem, ⟨11, _⟩ => ⟨S8x1024, .f32⟩
  | .local _ .vmem, ⟨12, _⟩ => ⟨S256x1024, .bf16⟩
  | .local _ .vmem, ⟨13, _⟩ => ⟨S256x1024, .bf16⟩
  | .local _ .vmem, ⟨14, _⟩ => ⟨S2x8x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![33], ![false]⟩

def k0_off1 (i : grid0.Coords) : Fin 3 → Nat :=
  let arg0 : BitVec 32 := BitVec.ofNat 32 (i 0).val
  let c32_i32 : BitVec 32 := 32#32
  let v0 : BitVec 1 := Scalar.cmpi .sge arg0 c32_i32
  let v1 : BitVec 32 := Scalar.extui v0
  let v63 : Index := Scalar.indexCast v1
  let c5 : Index := 5#32
  let c0_27 : Index := 0#32
  ![v63.toNat, 5, 0]
def k0_off2 (i : grid0.Coords) : Fin 3 → Nat :=
  let arg0 : BitVec 32 := BitVec.ofNat 32 (i 0).val
  let c32_i32 : BitVec 32 := 32#32
  let v0 : BitVec 1 := Scalar.cmpi .sge arg0 c32_i32
  let v1 : BitVec 32 := Scalar.extui v0
  let v70 : Index := Scalar.indexCast v1
  let c0_30 : Index := 0#32
  let c0_31 : Index := 0#32
  ![v70.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference21Ideal.lean ====
abbrev S8448x1024 : Shape := ⟨2, ![8448, 1024]⟩
abbrev S1x1024 : Shape := ⟨2, ![1, 1024]⟩
abbrev S8192x1024 : Shape := ⟨2, ![8192, 1024]⟩
abbrev S2x6x1024 : Shape := ⟨3, ![2, 6, 1024]⟩
abbrev S_ : Shape := ⟨0, ![]⟩
abbrev S8448 : Shape := ⟨1, ![8448]⟩
abbrev S8448x1 : Shape := ⟨2, ![8448, 1]⟩
abbrev S8192 : Shape := ⟨1, ![8192]⟩
abbrev S1x1x1024 : Shape := ⟨3, ![1, 1, 1024]⟩
abbrev S1024 : Shape := ⟨1, ![1024]⟩
abbrev S256x1024 : Shape := ⟨2, ![256, 1024]⟩
abbrev S8x128 : Shape := ⟨2, ![8, 128]⟩

abbrev nBuf : Space → Nat
  | .hbm => 84
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8192x1024, .f32⟩
  | .hbm, ⟨3, _⟩ => ⟨S8448x1024, .bf16⟩
  | .hbm, ⟨4, _⟩ => ⟨S2x6x1024, .f32⟩
  | .hbm, ⟨5, _⟩ => ⟨S8448x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S8448x1024, .f32⟩
  | .hbm, ⟨53, _⟩ => ⟨S_, .f32⟩
  | .hbm, ⟨54, _⟩ => ⟨S8448, .f32⟩
  | .hbm, ⟨55, _⟩ => ⟨S8448x1, .f32⟩
  | .hbm, ⟨56, _⟩ => ⟨S8448x1024, .f32⟩
  | .hbm, ⟨57, _⟩ => ⟨S8448x1024, .f32⟩
  | .hbm, ⟨58, _⟩ => ⟨S8448x1, .f32⟩
  | .hbm, ⟨59, _⟩ => ⟨S_, .f32⟩
  | .hbm, ⟨60, _⟩ => ⟨S8448x1, .f32⟩
  | .hbm, ⟨61, _⟩ => ⟨S8448x1, .f32⟩
  | .hbm, ⟨62, _⟩ => ⟨S_, .f32⟩
  | .hbm, ⟨63, _⟩ => ⟨S8448, .f32⟩
  | .hbm, ⟨64, _⟩ => ⟨S8448x1024, .f32⟩
  | .hbm, ⟨65, _⟩ => ⟨S8448x1024, .f32⟩
  | .hbm, ⟨66, _⟩ => ⟨S8448x1024, .f32⟩
  | .hbm, ⟨67, _⟩ => ⟨S8448x1024, .f32⟩
  | .hbm, ⟨68, _⟩ => ⟨S8448x1024, .f32⟩
  | .hbm, ⟨69, _⟩ => ⟨S8192x1024, .f32⟩
  | .hbm, ⟨70, _⟩ => ⟨S1x1x1024, .f32⟩
  | .hbm, ⟨71, _⟩ => ⟨S1024, .f32⟩
  | .hbm, ⟨72, _⟩ => ⟨S1x1024, .f32⟩
  | .hbm, ⟨73, _⟩ => ⟨S8192x1024, .f32⟩
  | .hbm, ⟨74, _⟩ => ⟨S8192x1024, .f32⟩
  | .hbm, ⟨75, _⟩ => ⟨S256x1024, .f32⟩
  | .hbm, ⟨76, _⟩ => ⟨S1x1x1024, .f32⟩
  | .hbm, ⟨77, _⟩ => ⟨S1024, .f32⟩
  | .hbm, ⟨78, _⟩ => ⟨S1x1024, .f32⟩
  | .hbm, ⟨79, _⟩ => ⟨S256x1024, .f32⟩
  | .hbm, ⟨80, _⟩ => ⟨S256x1024, .f32⟩
  | .hbm, ⟨81, _⟩ => ⟨S8448x1024, .f32⟩
  | .hbm, ⟨82, _⟩ => ⟨S8x128, .f32⟩
  | .hbm, ⟨83, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_cst_8 : Ref sig .tc := ⟨.hbm, 39, rfl⟩
abbrev main_cst_9 : Ref sig .tc := ⟨.hbm, 40, rfl⟩
abbrev main_v25 : Ref sig .tc := ⟨.hbm, 41, rfl⟩
abbrev main_v26 : Ref sig .tc := ⟨.hbm, 42, rfl⟩
abbrev main_cst_10 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_12 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_cst_14 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Proof.Products.lean ====
/-
  What the matrix-product programs share: the matrix unit's product read at an entry, for each of the three
  layouts the kernels use, and a long sum cut into the steps of a grid.
-/
module

public import Idealize.ShloMosaic.Lib.ValueIdx
public import Idealize.ShloMosaic.PureOps.Ideal.Laws

@[expose] public section

noncomputable section

namespace Cert.Products

open Idealize.ShloMosaic Idealize.ShloMosaic.ValueIdx

/-- The corner that a whole-block access starts at. -/
theorem zero2 : (![0, 0] : Fin 2 → Nat) = fun _ => 0 := funext fun a => by fin_cases a <;> rfl
theorem zero3 : (![0, 0, 0] : Fin 3 → Nat) = fun _ => 0 := funext fun a => by fin_cases a <;> rfl

/-- A contraction over one axis, its operand indices known by coordinate, is a plain sum over that axis. -/
theorem contract_eq {sl sr so : Shape} {φ₁ φ₂ : FTy} (d : DotDims sl sr so) (n : Nat) (hr : d.contr.rank = 1)
    (hs : d.contr.size ⟨0, by omega⟩ = n) (x : FVec Ideal sl φ₁) (y : FVec Ideal sr φ₂) (j : so.Idx)
    (li : Fin n → sl.Idx) (ri : Fin n → sr.Idx)
    (hl : ∀ (q : d.contr.Idx) (k : Fin n), (q ⟨0, by omega⟩ : ℕ) = k.val → d.lhsIdx j q = li k)
    (hri : ∀ (q : d.contr.Idx) (k : Fin n), (q ⟨0, by omega⟩ : ℕ) = k.val → d.rhsIdx j q = ri k) :
    matmul d none x y (constant so .f32 0x00000000#32) j = ∑ k : Fin n, x (li k) * y (ri k) := by
  simp only [matmul]
  rw [Ideal.matmul_constant_zero_apply, ← Equiv.sum_comp (contrEquiv1 d n hr hs).symm]
  refine Finset.sum_congr rfl fun k _ => ?_
  rw [hl _ k (contrEquiv1_symm_val d n hr hs k), hri _ k (contrEquiv1_symm_val d n hr hs k)]

/-- The product of the transposed left operand and the right one: both are contracted on their rows. -/
theorem tn_apply {K M N : Nat} {φ₁ φ₂ : FTy} (wf : DotDims.WF ⟨2, ![K, M]⟩ ⟨2, ![K, N]⟩ ⟨2, ![M, N]⟩ [0] [0] [1] [1] [] [])
    (x : FVec Ideal ⟨2, ![K, M]⟩ φ₁) (y : FVec Ideal ⟨2, ![K, N]⟩ φ₂) (a : Fin M) (b : Fin N) :
    matmul (⟨[0], [0], [1], [1], [], [], wf⟩ : DotDims ⟨2, ![K, M]⟩ ⟨2, ![K, N]⟩ ⟨2, ![M, N]⟩) none x y
      (constant ⟨2, ![M, N]⟩ .f32 0x00000000#32) (ix2 a b) = ∑ k : Fin K, x (ix2 k a) * y (ix2 k b) :=
  contract_eq _ K rfl rfl x y (ix2 a b) (fun k => ix2 k a) (fun k => ix2 k b)
    (fun q k hq => funext fun e => Fin.ext (by
      match e with
      | ⟨0, _⟩ => exact (DotDims.lhsIdx_val_of_single _ rfl _ q).trans hq
      | ⟨1, _⟩ => rfl))
    (fun q k hq => funext fun e => Fin.ext (by
      match e with
      | ⟨0, _⟩ => exact (DotDims.rhsIdx_val_of_single _ rfl _ q).trans hq
      | ⟨1, _⟩ => rfl))

/-- The product of the left operand and the transposed right one: both are contracted on their columns. -/
theorem nt_apply {K M N : Nat} {φ₁ φ₂ : FTy} (wf : DotDims.WF ⟨2, ![M, K]⟩ ⟨2, ![N, K]⟩ ⟨2, ![M, N]⟩ [1] [1] [0] [0] [] [])
    (x : FVec Ideal ⟨2, ![M, K]⟩ φ₁) (y : FVec Ideal ⟨2, ![N, K]⟩ φ₂) (a : Fin M) (b : Fin N) :
    matmul (⟨[1], [1], [0], [0], [], [], wf⟩ : DotDims ⟨2, ![M, K]⟩ ⟨2, ![N, K]⟩ ⟨2, ![M, N]⟩) none x y
      (constant ⟨2, ![M, N]⟩ .f32 0x00000000#32) (ix2 a b) = ∑ k : Fin K, x (ix2 a k) * y (ix2 b k) :=
  contract_eq _ K rfl rfl x y (ix2 a b) (fun k => ix2 a k) (fun k => ix2 b k)
    (fun q k hq => funext fun e => Fin.ext (by
      match e with
      | ⟨0, _⟩ => rfl
      | ⟨1, _⟩ => exact (DotDims.lhsIdx_val_of_single _ rfl _ q).trans hq))
    (fun q k hq => funext fun e => Fin.ext (by
      match e with
      | ⟨0, _⟩ => rfl
      | ⟨1, _⟩ => exact (DotDims.rhsIdx_val_of_single _ rfl _ q).trans hq))

/-- The plain product: the left operand's columns against the right one's rows. -/
theorem nn_apply {K M N : Nat} {φ₁ φ₂ : FTy} (wf : DotDims.WF ⟨2, ![M, K]⟩ ⟨2, ![K, N]⟩ ⟨2, ![M, N]⟩ [1] [0] [0] [1] [] [])
    (x : FVec Ideal ⟨2, ![M, K]⟩ φ₁) (y : FVec Ideal ⟨2, ![K, N]⟩ φ₂) (a : Fin M) (b : Fin N) :
    matmul (⟨[1], [0], [0], [1], [], [], wf⟩ : DotDims ⟨2, ![M, K]⟩ ⟨2, ![K, N]⟩ ⟨2, ![M, N]⟩) none x y
      (constant ⟨2, ![M, N]⟩ .f32 0x00000000#32) (ix2 a b) = ∑ k : Fin K, x (ix2 a k) * y (ix2 k b) :=
  contract_eq _ K rfl rfl x y (ix2 a b) (fun k => ix2 a k) (fun k => ix2 k b)
    (fun q k hq => funext fun e => Fin.ext (by
      match e with
      | ⟨0, _⟩ => rfl
      | ⟨1, _⟩ => exact (DotDims.lhsIdx_val_of_single _ rfl _ q).trans hq))
    (fun q k hq => funext fun e => Fin.ext (by
      match e with
      | ⟨0, _⟩ => exact (DotDims.rhsIdx_val_of_single _ rfl _ q).trans hq
      | ⟨1, _⟩ => rfl))

/-- Row `k` of tile `s` of `m` rows is a row. -/
theorem row_lt {S m N s : Nat} (hN : S * m = N) (hs : s < S) (k : Fin m) : s * m + k.val < N := by
  have := k.isLt
  calc s * m + k.val < s * m + m := by omega
    _ = (s + 1) * m := by ring
    _ ≤ S * m := Nat.mul_le_mul_right m hs
    _ = N := hN

/-- The steps `S q, …, S q + S - 1` of a grid, each adding a tile of `m` rows, add up all `N` rows. -/
theorem sweep (S m N : Nat) (hN : S * m = N) (q : Nat) (add : Nat → EReal) (f : Fin N → EReal)
    (h : ∀ (s : Nat) (hs : s < S), add (S * q + s) = ∑ k : Fin m, f ⟨s * m + k.val, row_lt hN hs k⟩) :
    ∑ s ∈ Finset.range S, add (S * q + s) = ∑ k : Fin N, f k := by
  subst hN
  rw [Finset.sum_range, ← Equiv.sum_comp finProdFinEquiv f, Fintype.sum_prod_type]
  refine Finset.sum_congr rfl fun s _ => ?_
  rw [h s.val s.isLt]
  refine Finset.sum_congr rfl fun k _ => ?_
  congr 1
  apply Fin.ext
  show s.val * m + k.val = k.val + m * s.val
  ring

end Cert.Products

end
-- ==== Proof.Columns.lean ====
/-
  The weight gradient cut over its columns (`Kernel`), at the ideal values: every entry of the result is the sum over all
  token rows of the two operands' products, which is what the reference's gradient is.
-/
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Products
public import Idealize.ShloMosaic.Lib.Tactic

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.ValueIdx Cert.Products

section Cases

variable {F : FTy → Type} [FloatOps F]
variable (c : Dev nD) (i : grid0.Coords)
  (a2 : Memref sig .tc .vmem S1408x1024 .bf16) (h2 : a2.IsWhole) (a3 : Memref sig .tc .vmem S1408x1408 .bf16) (h3 : a3.IsWhole)
  (a4 : Memref sig .tc .vmem S1x1024x1408 .bf16) (h4 : a4.IsWhole) (a5 : Memref sig .tc .vmem S1024x1408 .f32) (h5 : a5.IsWhole)
  (x0 : Vec F S1408x1024 .bf16) (x1 : Vec F S1408x1408 .bf16) (xs : Vec F S1024x1408 .f32)

/-- The first step of a column block clears the accumulator and adds its product. -/
theorem sout_first (hc0 : cond0_0 i) (hc1 : ¬cond0_1 i) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1408) zero2, View.readCov_unit_zero (S := S1024x1408) _ zero2]
  simp only [View.readAt_eq_ld, h2.read_unread, h3.read_unread, View.ld_unit_zero (S := S1408x1024) zero2,
    View.ld_unit_zero (S := S1408x1408) zero2]

/-- A middle step adds its product to the accumulator. -/
theorem sout_middle (hc0 : ¬cond0_0 i) (hc1 : ¬cond0_1 i) :
    sout0_B_0 c i a2 h2 a3 h3 a4 h4 a5 h5 hc0 hc1 x0 x1 xs = k0_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero (S := S1024x1408) zero2]
  simp only [View.readAt_eq_ld, h2.read_unread, h3.read_unread, h5.read_unread, View.ld_unit_zero (S := S1408x1024) zero2,
    View.ld_unit_zero (S := S1408x1408) zero2, View.ld_unit_zero (S := S1024x1408) zero2]

/-- So does the last step, … -/
theorem sout_last (hc0 : ¬cond0_0 i) (hc1 : cond0_1 i) :
    sout0_C_0 c i a2 h2 a3 h3 a4 h4 a5 h5 hc0 hc1 x0 x1 xs = k0_pay2 xs x0 x1 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero (S := S1024x1408) zero2]
  simp only [View.readAt_eq_ld, h2.read_unread, h3.read_unread, h5.read_unread, View.ld_unit_zero (S := S1408x1024) zero2,
    View.ld_unit_zero (S := S1408x1408) zero2, View.ld_unit_zero (S := S1024x1408) zero2]

/-- … which then rounds the accumulator into the block of the result. -/
theorem out_last (hc0 : ¬cond0_0 i) (hc1 : cond0_1 i) :
    out0_C_2 c i a2 h2 a3 h3 a4 h4 a5 h5 hc0 hc1 x0 x1 xs = k0_pay3 (k0_pay2 xs x0 x1) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S1x1024x1408) zero3, View.readCov_unit_zero (S := S1024x1408) _ zero2]
  simp only [View.readAt_eq_ld, h2.read_unread, h3.read_unread, h5.read_unread, View.ld_unit_zero (S := S1408x1024) zero2,
    View.ld_unit_zero (S := S1408x1408) zero2, View.ld_unit_zero (S := S1024x1408) zero2]

end Cases

/-! ## The payloads at an entry -/

theorem clear_apply (a : Fin 1024) (b : Fin 1408) : k0_pay1 (F := Ideal) (ix2 a b) = 0 := by
  unfold k0_pay1
  rw [shapeCast_self]
  exact Ideal.ofBits_zero_f32

theorem step_apply (v : Vec Ideal S1024x1408 .f32) (x : Vec Ideal S1408x1024 .bf16) (y : Vec Ideal S1408x1408 .bf16)
    (a : Fin 1024) (b : Fin 1408) :
    k0_pay2 v x y (ix2 a b) = v (ix2 a b) + ∑ k : Fin 1408, x (ix2 k a) * y (ix2 k b) := by
  unfold k0_pay2
  rw [shapeCast_self]
  exact congrArg (v _ + ·) (Cert.Products.tn_apply _ x y a b)

theorem store_apply (v : Vec Ideal S1024x1408 .f32) (u : Fin 1) (a : Fin 1024) (b : Fin 1408) :
    k0_pay3 v (ix3 u a b) = v (ix2 a b) := by
  unfold k0_pay3
  refine (shapeCast_addUnit_apply _ _ _ _).trans ?_
  show v _ = v _
  congr 1
  funext e
  match e with
  | ⟨0, _⟩ => rfl
  | ⟨1, _⟩ => rfl

/-! ## The blocks of the operands -/

variable (m : (ℓ : Loc nD τ sig) → Buf (Elt Ideal) ℓ)

/-- The token rows as the program is given them. -/
abbrev rows (c : Dev nD) : Vec Ideal S8448x1024 .bf16 := m ((c : Thread nD τ).loc main_arg0)
/-- The cotangent's rows as the program is given them. -/
abbrev cots (c : Dev nD) : Vec Ideal S8448x5632 .bf16 := m ((c : Thread nD τ).loc main_arg2)

/-- Step `t`'s block of each. -/
abbrev rowsAt (c : Dev nD) (t : Fin cfg0.N) : Vec Ideal S1408x1024 .bf16 := iblk m c 0 t
abbrev cotsAt (c : Dev nD) (t : Fin cfg0.N) : Vec Ideal S1408x1408 .bf16 := iblk m c 1 t

theorem index0 : ∀ t : Fin cfg0.N, win0_0.index t (0 : Fin 2) = t.val % 6 ∧ win0_0.index t (1 : Fin 2) = 0 :=
  (by decide +kernel : ∀ t : Fin grid0.N, _)
theorem index1 : ∀ t : Fin cfg0.N, win0_1.index t (0 : Fin 2) = t.val % 6 ∧ win0_1.index t (1 : Fin 2) = t.val / 6 :=
  (by decide +kernel : ∀ t : Fin grid0.N, _)

/-- Step `t` reads token rows `1408 (t % 6) …`, every column. -/
theorem block0 (c : Dev nD) (t : Fin cfg0.N) (k : Fin 1408) (a : Fin 1024) (h : t.val % 6 * 1408 + k.val < 8448) :
    rowsAt m c t (ix2 k a) = rows m c (ix2 ⟨t.val % 6 * 1408 + k.val, h⟩ a) := by
  unfold rowsAt iblk
  rw [View.read_apply]
  show V m c main_arg0 _ = rows m c _
  unfold V
  congr 1
  funext e
  apply Fin.ext
  match e with
  | ⟨0, _⟩ => show win0_0.index t 0 * 1408 + 1 * k.val = t.val % 6 * 1408 + k.val; rw [(index0 t).1]; omega
  | ⟨1, _⟩ => show win0_0.index t 1 * 1024 + 1 * a.val = a.val; rw [(index0 t).2]; omega

/-- Step `t` reads the cotangent's rows `1408 (t % 6) …` in columns `1408 (t / 6) …`. -/
theorem block1 (c : Dev nD) (t : Fin cfg0.N) (k : Fin 1408) (b : Fin 1408) (h : t.val % 6 * 1408 + k.val < 8448)
    (h' : t.val / 6 * 1408 + b.val < 5632) :
    cotsAt m c t (ix2 k b)
      = cots m c (ix2 ⟨t.val % 6 * 1408 + k.val, h⟩ ⟨t.val / 6 * 1408 + b.val, h'⟩) := by
  unfold cotsAt iblk
  rw [View.read_apply]
  show V m c main_arg2 _ = cots m c _
  unfold V
  congr 1
  funext e
  apply Fin.ext
  match e with
  | ⟨0, _⟩ => show win0_1.index t 0 * 1408 + 1 * k.val = t.val % 6 * 1408 + k.val; rw [(index1 t).1]; omega
  | ⟨1, _⟩ => show win0_1.index t 1 * 1408 + 1 * b.val = t.val / 6 * 1408 + b.val; rw [(index1 t).2]; omega

/-! ## The accumulator is a partial sum -/

/-- What step `n` adds at an entry of the accumulator. -/
def addend (c : Dev nD) (n : Nat) (j : S1024x1408.Idx) : EReal :=
  if h : n < cfg0.N then ∑ k : Fin 1408, rowsAt m c ⟨n, h⟩ (ix2 k (j 0))
    * cotsAt m c ⟨n, h⟩ (ix2 k (j 1)) else 0

theorem scAt_first (c : Dev nD) (n : Nat) (h : n < cfg0.N) (hn : n % 6 = 0) (v : Vec Ideal S1024x1408 .f32)
    (j : S1024x1408.Idx) : scAt0_0 m c n h v j = 0 + addend m c n j := by
  unfold scAt0_0 addend
  rw [dif_pos hn, dif_neg (by omega : ¬n % 6 = 5), dif_pos h, sout_first]
  obtain ⟨a, b, rfl⟩ : ∃ a b, j = ix2 a b := ⟨j 0, j 1, eq_ix2 j⟩
  rw [step_apply, clear_apply]

theorem scAt_next (c : Dev nD) (n : Nat) (h : n < cfg0.N) (hn : ¬n % 6 = 0) (v : Vec Ideal S1024x1408 .f32)
    (j : S1024x1408.Idx) : scAt0_0 m c n h v j = v j + addend m c n j := by
  obtain ⟨a, b, rfl⟩ : ∃ a b, j = ix2 a b := ⟨j 0, j 1, eq_ix2 j⟩
  unfold scAt0_0 addend
  rw [dif_neg hn, dif_pos h]
  by_cases h1 : n % 6 = 5
  · rw [dif_pos h1, sout_last, step_apply]
  · rw [dif_neg h1, sout_middle, step_apply]

/-- The accumulator after the last of a column block's six steps. -/
theorem scratch_last (c : Dev nD) (t : Fin cfg0.N) (h : t.val % 6 = 5) (j : S1024x1408.Idx) :
    (outsAt0 m c t.val t.isLt).2 j = ∑ s ∈ Finset.range 6, addend m c (6 * (t.val / 6) + s) j := by
  rw [soutsAt0_0_eq]
  refine (Pipeline.accAt_add_apply _ _ (fun _ => 0) (addend m c) (6 * (t.val / 6)) 5
    (fun hb i => scAt_first m c _ hb (by omega) _ i) (fun n hb v i h1 h2 => scAt_next m c n hb (by omega) v i) (t.val % 6)
    (by omega) _ j).trans ?_
  rw [h, zero_add]

theorem outs_last (c : Dev nD) (t : Fin cfg0.N) (h : t.val % 6 = 5) :
    (outsAt0 m c t.val t.isLt).1 = k0_pay3 (outsAt0 m c t.val t.isLt).2 := by
  rw [outsAt0_C m c t (by omega) h, out_last, sout_last]

/-- THE RESULT at an entry: the sum over all token rows. -/
theorem result_apply (c : Dev nD) (q : Fin 4) (a : Fin 1024) (b : Fin 1408) :
    G2 m c (ix3 q a b) = ∑ k : Fin 8448, rows m c (ix2 k a) * cots m c (ix2 k ⟨q.val * 1408 + b.val, by omega⟩) := by
  have hN : cfg0.N = 24 := N_0
  have hp : pt2Of (ix3 q a b) = 6 * q.val + 5 := by
    show 6 * (1 * (q.val / 1 - 0) + 1 * (a.val / 1024 - 0) + 1 * (b.val / 1408 - 0)) + 5 = _
    have := a.isLt; have := b.isLt; omega
  have hl : loc2Of (ix3 q a b) = ix3 (0 : Fin 1) a b := by
    funext e
    apply Fin.ext
    match e with
    | ⟨0, _⟩ => exact Nat.mod_one _
    | ⟨1, _⟩ => exact Nat.mod_eq_of_lt a.isLt
    | ⟨2, _⟩ => exact Nat.mod_eq_of_lt b.isLt
  have ht : 6 * q.val + 5 < cfg0.N := by have := q.isLt; omega
  unfold G2
  rw [dif_pos (by rw [hp]; exact ht), hl, fold0_congr m c _ _ (6 * q.val + 5) (by omega) hp,
    ← outsAt0_sweep m c (6 * q.val + 5) ht, outs_last m c ⟨_, ht⟩ (by dsimp only; omega), store_apply,
    scratch_last m c ⟨_, ht⟩ (by dsimp only; omega)]
  have hd : (6 * q.val + 5) / 6 = q.val := by omega
  dsimp only
  rw [hd]
  refine Cert.Products.sweep 6 1408 8448 rfl q.val (fun n => addend m c n (ix2 a b)) _ fun s hs => ?_
  have hq := q.isLt
  unfold addend
  rw [dif_pos (by omega)]
  refine Finset.sum_congr rfl fun k _ => ?_
  have hm : (6 * q.val + s) % 6 = s := by omega
  have hd : (6 * q.val + s) / 6 = q.val := by omega
  rw [block0 m c _ k a (by dsimp only; omega), block1 m c _ k b (by dsimp only; omega) (by dsimp only; omega)]
  simp only [hm, hd]

end Cert.KernelIdeal.Value

namespace Cert.Columns

open Idealize.ShloMosaic Idealize.ShloMosaic.TcCoe Idealize.SL.Sem Idealize.ShloMosaic.ValueIdx

/-- The reference's gradient at an entry: the same sum, the factors in the other order. -/
theorem reference_apply (x : Vec Ideal ⟨2, ![8448, 1024]⟩ .bf16) (y : Vec Ideal ⟨2, ![8448, 5632]⟩ .bf16)
    (q : Fin 4) (a : Fin 1024) (b : Fin 1408) :
    Cert.ReferenceIdeal.Read.val_main_v11 (F := Ideal) x y (ix3 q a b)
      = ∑ k : Fin 8448, x (ix2 k a) * y (ix2 k ⟨q.val * 1408 + b.val, by omega⟩) := by
  have hq := q.isLt
  have ha := a.isLt
  have hb := b.isLt
  rw [Cert.ReferenceIdeal.Read.val_main_v11_apply]
  refine Eq.trans (b := Cert.ReferenceIdeal.Read.val_main_v10 (F := Ideal) x y (ix3 q a b)) rfl ?_
  rw [Cert.ReferenceIdeal.Read.val_main_v10_apply, Cert.ReferenceIdeal.Read.val_main_v9_apply,
    Cert.ReferenceIdeal.Read.val_main_v7_apply, Cert.ReferenceIdeal.Read.val_main_v6_apply]
  refine Finset.sum_congr rfl fun k _ => ?_
  rw [mul_comm, Cert.ReferenceIdeal.Read.val_main_v0_apply, Cert.ReferenceIdeal.Read.val_main_v5_apply]
  refine congrArg₂ (· * ·) (congrArg x ?_) (congrArg y ?_)
  · funext e
    apply Fin.ext
    match e with
    | ⟨0, _⟩ => rfl
    | ⟨1, _⟩ => show ((a.val * 4 + q.val) * 1408 + b.val) / 5632 = a.val; omega
  · funext e
    apply Fin.ext
    match e with
    | ⟨0, _⟩ => rfl
    | ⟨1, _⟩ => show ((a.val * 4 + q.val) * 1408 + b.val) % 5632 = q.val * 1408 + b.val; omega

/-- The kernel and the reference leave the same array. -/
theorem result_eq (m : (ℓ : Loc Cert.KernelIdeal.nD Cert.KernelIdeal.τ Cert.KernelIdeal.sig) → Buf (Elt Ideal) ℓ)
    (c : Dev Cert.KernelIdeal.nD) :
    Cert.KernelIdeal.Value.G2 m c
      = Cert.ReferenceIdeal.Read.val_main_v11 (F := Ideal) (Cert.KernelIdeal.Value.rows m c) (Cert.KernelIdeal.Value.cots m c) := by
  funext i
  obtain ⟨q, a, b, rfl⟩ : ∃ (q : Fin 4) (a : Fin 1024) (b : Fin 1408), i = ix3 q a b := ⟨i 0, i 1, i 2, eq_ix3 i⟩
  rw [Cert.KernelIdeal.Value.result_apply, reference_apply]

theorem algebraic : Cert.algebraic_KernelIdeal_ReferenceIdeal := fun m g m' g' _ hagree =>
  ⟨fun c => Cert.KernelIdeal.Value.G2 m c, Cert.KernelIdeal.Value.run m g,
    (θ_run Cert.ReferenceIdeal.defs _ _).mono (fun _ h c => ⟨(h c).1.trans (by
      rw [(hagree c).1, (hagree c).2.2, Cert.ReferenceIdeal.Read.val_main_v11_eq]
      exact (result_eq m c).symm), (h c).2⟩) (Cert.ReferenceIdeal.Value.run (F := Ideal) m' g')⟩

end Cert.Columns

end
-- ==== Proof.Transposed.lean ====
/-
  The product with a transposed weight (`Kernel2`), at the ideal values: every entry of the result is the sum over the
  model's columns of a cotangent row's and a weight row's products, which is what the reference's gradient is.
-/
module

public import proofs.«01_k».proof.Proof.Gen.Kernel2Ideal.Value
public import proofs.«01_k».proof.Proof.Gen.Reference2Ideal.Run
public import proofs.«01_k».proof.Proof.Gen.Reference2Ideal.Read
public import proofs.«01_k».proof.Defs
public import proofs.«01_k».proof.Proof.Products

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.ValueIdx Cert.Products

/-- The block a step leaves, at an entry: a row of its left block against row `b` of the weight's stacked parts. -/
theorem out_apply (x : Vec Ideal S768x1024 .bf16) (w : Vec Ideal S4x704x1024 .bf16) (r : Fin 768) (b : Fin 2816) :
    out0_2 x w (ix2 r b) = ∑ k : Fin 1024, x (ix2 r k) * w (ix3 ⟨b.val / 704, by omega⟩ ⟨b.val % 704, by omega⟩ k) := by
  unfold out0_2
  rw [View.canon_unit_zero (S := S768x2816) zero2, View.ld_unit_zero (S := S768x1024) zero2,
    View.ld_unit_zero (S := S4x704x1024) zero3]
  unfold k0_pay1
  refine (Cert.Products.nt_apply _ x _ r b).trans (Finset.sum_congr rfl fun k _ => ?_)
  congr 1
  refine shapeCast_apply w _ _ _ ?_
  rewrite [Shape.rowMajor_val_three, Shape.rowMajor_val_two]
  show (b.val / 704 * 704 + b.val % 704) * 1024 + k.val = b.val * 1024 + k.val
  omega

variable (m : (ℓ : Loc nD τ sig) → Buf (Elt Ideal) ℓ)

/-- The cotangent's rows and the weight as the program is given them. -/
abbrev cots (c : Dev nD) : Vec Ideal S8448x1024 .bf16 := m ((c : Thread nD τ).loc main_arg2)
abbrev weight (c : Dev nD) : Vec Ideal S4x704x1024 .bf16 := m ((c : Thread nD τ).loc main_arg1)

/-- Step `t`'s block of each: 768 rows of the cotangent, and all of the weight. -/
abbrev cotsAt (c : Dev nD) (t : Fin cfg0.N) : Vec Ideal S768x1024 .bf16 := iblk m c 0 t
abbrev weightAt (c : Dev nD) (t : Fin cfg0.N) : Vec Ideal S4x704x1024 .bf16 := iblk m c 1 t

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 3) = 0 ∧ win0_1.index t (1 : Fin 3) = 0 ∧ win0_1.index t (2 : Fin 3) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)

theorem block0 (c : Dev nD) (t : Fin cfg0.N) (r : Fin 768) (k : Fin 1024) (h : t.val * 768 + r.val < 8448) :
    cotsAt m c t (ix2 r k) = cots m c (ix2 ⟨t.val * 768 + r.val, h⟩ k) := by
  unfold cotsAt iblk
  rw [View.read_apply]
  show V m c main_arg2 _ = cots m c _
  unfold V
  congr 1
  funext e
  apply Fin.ext
  match e with
  | ⟨0, _⟩ => show win0_0.index t 0 * 768 + 1 * r.val = t.val * 768 + r.val; rw [(index0 t).1]; omega
  | ⟨1, _⟩ => show win0_0.index t 1 * 1024 + 1 * k.val = k.val; rw [(index0 t).2]; omega

theorem block1 (c : Dev nD) (t : Fin cfg0.N) : weightAt m c t = weight m c := by
  funext j
  unfold weightAt iblk
  rw [View.read_apply]
  show V m c main_arg1 _ = weight m c _
  unfold V
  congr 1
  funext e
  apply Fin.ext
  match e with
  | ⟨0, _⟩ => show win0_1.index t 0 * 4 + 1 * (j 0).val = (j 0).val; rw [(index1 t).1]; omega
  | ⟨1, _⟩ => show win0_1.index t 1 * 704 + 1 * (j 1).val = (j 1).val; rw [(index1 t).2.1]; omega
  | ⟨2, _⟩ => show win0_1.index t 2 * 1024 + 1 * (j 2).val = (j 2).val; rw [(index1 t).2.2]; omega

/-- THE RESULT at an entry: it lies in the block of step `i / 768`. -/
theorem result_apply (c : Dev nD) (i : Fin 8448) (b : Fin 2816) :
    ((dats m 0 c).arrAt 2 cfg0.N : Vec Ideal S8448x2816 .bf16) (ix2 i b)
      = ∑ k : Fin 1024, cots m c (ix2 i k) * weight m c (ix3 ⟨b.val / 704, by omega⟩ ⟨b.val % 704, by omega⟩ k) := by
  have hN : cfg0.N = 11 := N_0
  have hi := i.isLt
  have ht : i.val / 768 < cfg0.N := by omega
  have hr : i.val % 768 < 768 := Nat.mod_lt _ (by decide)
  have hb := congrFun (blocks2 m c ⟨_, ht⟩ (flush0_2 _)) (ix2 ⟨i.val % 768, hr⟩ b)
  rw [View.read_apply, flushed2] at hb
  have he : ((cfg0.win 2).blk ⟨i.val / 768, ht⟩).view.emb (ix2 ⟨i.val % 768, hr⟩ b) = (ix2 i b : S8448x2816.Idx) := by
    funext e
    apply Fin.ext
    match e with
    | ⟨0, _⟩ => show win0_2.index _ 0 * 768 + 1 * (i.val % 768) = i.val; rw [(index2 _).1]; dsimp only; omega
    | ⟨1, _⟩ => show win0_2.index _ 1 * 2816 + 1 * b.val = b.val; rw [(index2 _).2]; omega
  rw [he] at hb
  refine hb.trans ?_
  refine (out_apply (cotsAt m c ⟨_, ht⟩) (weightAt m c ⟨_, ht⟩) ⟨i.val % 768, hr⟩ b).trans ?_
  rw [block1]
  refine Finset.sum_congr rfl fun k _ => ?_
  rw [block0 m c _ _ k (by dsimp only; omega)]
  congr 4
  dsimp only
  omega

end Cert.Kernel2Ideal.Value

namespace Cert.Transposed

open Idealize.ShloMosaic Idealize.ShloMosaic.TcCoe Idealize.SL.Sem Idealize.ShloMosaic.ValueIdx

/-- The reference's gradient at an entry. -/
theorem reference_apply (w : Vec Ideal ⟨3, ![4, 704, 1024]⟩ .bf16) (y : Vec Ideal ⟨2, ![8448, 1024]⟩ .bf16)
    (i : Fin 8448) (b : Fin 2816) :
    Cert.Reference2Ideal.Read.val_main_v10 (F := Ideal) w y (ix2 i b)
      = ∑ k : Fin 1024, y (ix2 i k) * w (ix3 ⟨b.val / 704, by omega⟩ ⟨b.val % 704, by omega⟩ k) := by
  rw [Cert.Reference2Ideal.Read.val_main_v10_apply]
  refine Eq.trans (b := Cert.Reference2Ideal.Read.val_main_v7 (F := Ideal) w y (ix2 i b)) rfl ?_
  rw [Cert.Reference2Ideal.Read.val_main_v7_apply]
  refine Finset.sum_congr rfl fun k _ => ?_
  have hk := k.isLt
  have hb := b.isLt
  rw [Cert.Reference2Ideal.Read.val_main_v4_apply, Cert.Reference2Ideal.Read.val_main_v2_apply,
    Cert.Reference2Ideal.Read.val_main_v1_apply]
  refine congrArg₂ (· * ·) (congrArg y ?_) (congrArg w ?_)
  · funext e
    match e with
    | ⟨0, _⟩ => rfl
    | ⟨1, _⟩ => rfl
  · funext e
    apply Fin.ext
    match e with
    | ⟨0, _⟩ => show (b.val * 1024 + k.val) / 720896 = b.val / 704; omega
    | ⟨1, _⟩ => show (b.val * 1024 + k.val) / 1024 % 704 = b.val % 704; omega
    | ⟨2, _⟩ => show (b.val * 1024 + k.val) % 1024 = k.val; omega

/-- The kernel and the reference leave the same array. -/
theorem result_eq (m : (ℓ : Loc Cert.Kernel2Ideal.nD Cert.Kernel2Ideal.τ Cert.Kernel2Ideal.sig) → Buf (Elt Ideal) ℓ)
    (c : Dev Cert.Kernel2Ideal.nD) :
    (Cert.Kernel2Ideal.Gen.dats m 0 c).arrAt 2 Cert.Kernel2Ideal.cfg0.N
      = Cert.Reference2Ideal.Read.val_main_v10 (F := Ideal) (Cert.Kernel2Ideal.Value.weight m c) (Cert.Kernel2Ideal.Value.cots m c) := by
  refine funext fun (j : Cert.Kernel2Ideal.S8448x2816.Idx) => ?_
  obtain ⟨i, b, rfl⟩ : ∃ (i : Fin 8448) (b : Fin 2816), j = ix2 i b := ⟨j 0, j 1, eq_ix2 j⟩
  exact (Cert.Kernel2Ideal.Value.result_apply m c i b).trans (reference_apply _ _ i b).symm

theorem algebraic : Cert.algebraic_Kernel2Ideal_Reference2Ideal := fun m g m' g' _ hagree =>
  ⟨fun c => (Cert.Kernel2Ideal.Gen.dats m 0 c).arrAt 2 Cert.Kernel2Ideal.cfg0.N, Cert.Kernel2Ideal.Value.run_blocks m g,
    (θ_run Cert.Reference2Ideal.defs _ _).mono (fun _ h c => ⟨(h c).1.trans (by
      rw [(hagree c).2.1, (hagree c).2.2, Cert.Reference2Ideal.Read.val_main_v10_eq]
      exact (result_eq m c).symm), (h c).2⟩) (Cert.Reference2Ideal.Value.run (F := Ideal) m' g')⟩

end Cert.Transposed

end
-- ==== Proof.Rows.lean ====
/-
  The weight gradient whose rows are cut over the devices (`Kernel3`), at the ideal values: every entry of the result is the sum over all
  token rows of the two operands' products, which is what the reference's gradient is.
-/
module

public import proofs.«01_k».proof.Proof.Gen.Kernel3Ideal.Value
public import proofs.«01_k».proof.Proof.Gen.Reference3Ideal.Run
public import proofs.«01_k».proof.Proof.Gen.Reference3Ideal.Read
public import proofs.«01_k».proof.Defs
public import proofs.«01_k».proof.Proof.Products
public import Idealize.ShloMosaic.Lib.Tactic

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.ValueIdx Cert.Products

section Cases

variable {F : FTy → Type} [FloatOps F]
variable (c : Dev nD) (i : grid0.Coords)
  (a2 : Memref sig .tc .vmem S768x2816 .bf16) (h2 : a2.IsWhole) (a3 : Memref sig .tc .vmem S768x512 .bf16) (h3 : a3.IsWhole)
  (a4 : Memref sig .tc .vmem S4x704x512 .bf16) (h4 : a4.IsWhole) (a5 : Memref sig .tc .vmem S2816x512 .f32) (h5 : a5.IsWhole)
  (x0 : Vec F S768x2816 .bf16) (x1 : Vec F S768x512 .bf16) (xs : Vec F S2816x512 .f32)

/-- The first step of a column block clears the accumulator and adds its product. -/
theorem sout_first (hc0 : cond0_0 i) (hc1 : ¬cond0_1 i) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S2816x512) zero2, View.readCov_unit_zero (S := S2816x512) _ zero2]
  simp only [View.readAt_eq_ld, h2.read_unread, h3.read_unread, View.ld_unit_zero (S := S768x2816) zero2,
    View.ld_unit_zero (S := S768x512) zero2]

/-- A middle step adds its product to the accumulator. -/
theorem sout_middle (hc0 : ¬cond0_0 i) (hc1 : ¬cond0_1 i) :
    sout0_B_0 c i a2 h2 a3 h3 a4 h4 a5 h5 hc0 hc1 x0 x1 xs = k0_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero (S := S2816x512) zero2]
  simp only [View.readAt_eq_ld, h2.read_unread, h3.read_unread, h5.read_unread, View.ld_unit_zero (S := S768x2816) zero2,
    View.ld_unit_zero (S := S768x512) zero2, View.ld_unit_zero (S := S2816x512) zero2]

/-- So does the last step, … -/
theorem sout_last (hc0 : ¬cond0_0 i) (hc1 : cond0_1 i) :
    sout0_C_0 c i a2 h2 a3 h3 a4 h4 a5 h5 hc0 hc1 x0 x1 xs = k0_pay2 xs x0 x1 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero (S := S2816x512) zero2]
  simp only [View.readAt_eq_ld, h2.read_unread, h3.read_unread, h5.read_unread, View.ld_unit_zero (S := S768x2816) zero2,
    View.ld_unit_zero (S := S768x512) zero2, View.ld_unit_zero (S := S2816x512) zero2]

/-- … which then rounds the accumulator into the block of the result. -/
theorem out_last (hc0 : ¬cond0_0 i) (hc1 : cond0_1 i) :
    out0_C_2 c i a2 h2 a3 h3 a4 h4 a5 h5 hc0 hc1 x0 x1 xs = k0_pay3 (k0_pay2 xs x0 x1) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S4x704x512) zero3, View.readCov_unit_zero (S := S2816x512) _ zero2]
  simp only [View.readAt_eq_ld, h2.read_unread, h3.read_unread, h5.read_unread, View.ld_unit_zero (S := S768x2816) zero2,
    View.ld_unit_zero (S := S768x512) zero2, View.ld_unit_zero (S := S2816x512) zero2]

end Cases

/-! ## The payloads at an entry -/

theorem clear_apply (a : Fin 2816) (b : Fin 512) : k0_pay1 (F := Ideal) (ix2 a b) = 0 := by
  unfold k0_pay1
  rw [shapeCast_self]
  exact Ideal.ofBits_zero_f32

theorem step_apply (v : Vec Ideal S2816x512 .f32) (x : Vec Ideal S768x2816 .bf16) (y : Vec Ideal S768x512 .bf16)
    (a : Fin 2816) (b : Fin 512) :
    k0_pay2 v x y (ix2 a b) = v (ix2 a b) + ∑ k : Fin 768, x (ix2 k a) * y (ix2 k b) := by
  unfold k0_pay2
  rw [shapeCast_self]
  exact congrArg (v _ + ·) (Cert.Products.tn_apply _ x y a b)

theorem store_apply (v : Vec Ideal S2816x512 .f32) (q : Fin 4) (a : Fin 704) (b : Fin 512) :
    k0_pay3 v (ix3 q a b) = v (ix2 ⟨q.val * 704 + a.val, by omega⟩ b) := by
  unfold k0_pay3
  refine shapeCast_apply v _ _ _ ?_
  rewrite [Shape.rowMajor_val_three, Shape.rowMajor_val_two]
  show (q.val * 704 + a.val) * 512 + b.val = (q.val * 704 + a.val) * 512 + b.val
  rfl

/-! ## The blocks of the operands -/

variable (m : (ℓ : Loc nD τ sig) → Buf (Elt Ideal) ℓ)

/-- The token rows as the program is given them. -/
abbrev rows (c : Dev nD) : Vec Ideal S8448x2816 .bf16 := m ((c : Thread nD τ).loc main_arg0)
/-- The cotangent's rows as the program is given them. -/
abbrev cots (c : Dev nD) : Vec Ideal S8448x1024 .bf16 := m ((c : Thread nD τ).loc main_arg2)

/-- Step `t`'s block of each. -/
abbrev rowsAt (c : Dev nD) (t : Fin cfg0.N) : Vec Ideal S768x2816 .bf16 := iblk m c 0 t
abbrev cotsAt (c : Dev nD) (t : Fin cfg0.N) : Vec Ideal S768x512 .bf16 := iblk m c 1 t

theorem index0 : ∀ t : Fin cfg0.N, win0_0.index t (0 : Fin 2) = t.val % 11 ∧ win0_0.index t (1 : Fin 2) = 0 :=
  (by decide +kernel : ∀ t : Fin grid0.N, _)
theorem index1 : ∀ t : Fin cfg0.N, win0_1.index t (0 : Fin 2) = t.val % 11 ∧ win0_1.index t (1 : Fin 2) = t.val / 11 :=
  (by decide +kernel : ∀ t : Fin grid0.N, _)

/-- Step `t` reads token rows `768 (t % 11) …`, every column. -/
theorem block0 (c : Dev nD) (t : Fin cfg0.N) (k : Fin 768) (a : Fin 2816) (h : t.val % 11 * 768 + k.val < 8448) :
    rowsAt m c t (ix2 k a) = rows m c (ix2 ⟨t.val % 11 * 768 + k.val, h⟩ a) := by
  unfold rowsAt iblk
  rw [View.read_apply]
  show V m c main_arg0 _ = rows m c _
  unfold V
  congr 1
  funext e
  apply Fin.ext
  match e with
  | ⟨0, _⟩ => show win0_0.index t 0 * 768 + 1 * k.val = t.val % 11 * 768 + k.val; rw [(index0 t).1]; omega
  | ⟨1, _⟩ => show win0_0.index t 1 * 2816 + 1 * a.val = a.val; rw [(index0 t).2]; omega

/-- Step `t` reads the cotangent's rows `768 (t % 11) …` in columns `512 (t / 11) …`. -/
theorem block1 (c : Dev nD) (t : Fin cfg0.N) (k : Fin 768) (b : Fin 512) (h : t.val % 11 * 768 + k.val < 8448)
    (h' : t.val / 11 * 512 + b.val < 1024) :
    cotsAt m c t (ix2 k b)
      = cots m c (ix2 ⟨t.val % 11 * 768 + k.val, h⟩ ⟨t.val / 11 * 512 + b.val, h'⟩) := by
  unfold cotsAt iblk
  rw [View.read_apply]
  show V m c main_arg2 _ = cots m c _
  unfold V
  congr 1
  funext e
  apply Fin.ext
  match e with
  | ⟨0, _⟩ => show win0_1.index t 0 * 768 + 1 * k.val = t.val % 11 * 768 + k.val; rw [(index1 t).1]; omega
  | ⟨1, _⟩ => show win0_1.index t 1 * 512 + 1 * b.val = t.val / 11 * 512 + b.val; rw [(index1 t).2]; omega

/-! ## The accumulator is a partial sum -/

/-- What step `n` adds at an entry of the accumulator. -/
def addend (c : Dev nD) (n : Nat) (j : S2816x512.Idx) : EReal :=
  if h : n < cfg0.N then ∑ k : Fin 768, rowsAt m c ⟨n, h⟩ (ix2 k (j 0))
    * cotsAt m c ⟨n, h⟩ (ix2 k (j 1)) else 0

theorem scAt_first (c : Dev nD) (n : Nat) (h : n < cfg0.N) (hn : n % 11 = 0) (v : Vec Ideal S2816x512 .f32)
    (j : S2816x512.Idx) : scAt0_0 m c n h v j = 0 + addend m c n j := by
  unfold scAt0_0 addend
  rw [dif_pos hn, dif_neg (by omega : ¬n % 11 = 10), dif_pos h, sout_first]
  obtain ⟨a, b, rfl⟩ : ∃ a b, j = ix2 a b := ⟨j 0, j 1, eq_ix2 j⟩
  rw [step_apply, clear_apply]

theorem scAt_next (c : Dev nD) (n : Nat) (h : n < cfg0.N) (hn : ¬n % 11 = 0) (v : Vec Ideal S2816x512 .f32)
    (j : S2816x512.Idx) : scAt0_0 m c n h v j = v j + addend m c n j := by
  obtain ⟨a, b, rfl⟩ : ∃ a b, j = ix2 a b := ⟨j 0, j 1, eq_ix2 j⟩
  unfold scAt0_0 addend
  rw [dif_neg hn, dif_pos h]
  by_cases h1 : n % 11 = 10
  · rw [dif_pos h1, sout_last, step_apply]
  · rw [dif_neg h1, sout_middle, step_apply]

/-- The accumulator after the last of a column block's eleven steps. -/
theorem scratch_last (c : Dev nD) (t : Fin cfg0.N) (h : t.val % 11 = 10) (j : S2816x512.Idx) :
    (outsAt0 m c t.val t.isLt).2 j = ∑ s ∈ Finset.range 11, addend m c (11 * (t.val / 11) + s) j := by
  rw [soutsAt0_0_eq]
  refine (Pipeline.accAt_add_apply _ _ (fun _ => 0) (addend m c) (11 * (t.val / 11)) 10
    (fun hb i => scAt_first m c _ hb (by omega) _ i) (fun n hb v i h1 h2 => scAt_next m c n hb (by omega) v i) (t.val % 11)
    (by omega) _ j).trans ?_
  rw [h, zero_add]

theorem outs_last (c : Dev nD) (t : Fin cfg0.N) (h : t.val % 11 = 10) :
    (outsAt0 m c t.val t.isLt).1 = k0_pay3 (outsAt0 m c t.val t.isLt).2 := by
  rw [outsAt0_C m c t (by omega) h, out_last, sout_last]

/-- THE RESULT at an entry: the sum over all token rows. -/
theorem result_apply (c : Dev nD) (q : Fin 4) (a : Fin 704) (b : Fin 1024) :
    G2 m c (ix3 q a b) = ∑ k : Fin 8448, rows m c (ix2 k ⟨q.val * 704 + a.val, by omega⟩) * cots m c (ix2 k b) := by
  have hN : cfg0.N = 22 := N_0
  have hq := q.isLt
  have ha := a.isLt
  have hb := b.isLt
  have hb' : b.val % 512 < 512 := Nat.mod_lt _ (by decide)
  have hp : pt2Of (ix3 q a b) = 11 * (b.val / 512) + 10 := by
    show 11 * (2 * (q.val / 4 - 0) + 2 * (a.val / 704 - 0) + 1 * (b.val / 512 - 0)) + 10 = _
    omega
  have hl : loc2Of (ix3 q a b) = ix3 q a (⟨b.val % 512, hb'⟩ : Fin 512) := by
    funext e
    apply Fin.ext
    match e with
    | ⟨0, _⟩ => exact Nat.mod_eq_of_lt q.isLt
    | ⟨1, _⟩ => exact Nat.mod_eq_of_lt a.isLt
    | ⟨2, _⟩ => rfl
  have ht : 11 * (b.val / 512) + 10 < cfg0.N := by omega
  unfold G2
  rw [dif_pos (by rw [hp]; exact ht), hl, fold0_congr m c _ _ (11 * (b.val / 512) + 10) (by omega) hp,
    ← outsAt0_sweep m c (11 * (b.val / 512) + 10) ht, outs_last m c ⟨_, ht⟩ (by dsimp only; omega), store_apply,
    scratch_last m c ⟨_, ht⟩ (by dsimp only; omega)]
  have hd : (11 * (b.val / 512) + 10) / 11 = b.val / 512 := by omega
  dsimp only
  rw [hd]
  refine Cert.Products.sweep 11 768 8448 rfl (b.val / 512) (fun n => addend m c n (ix2 _ _)) _ fun s hs => ?_
  unfold addend
  rw [dif_pos (by omega)]
  refine Finset.sum_congr rfl fun k _ => ?_
  have hm : (11 * (b.val / 512) + s) % 11 = s := by omega
  have hd : (11 * (b.val / 512) + s) / 11 = b.val / 512 := by omega
  have hc : (⟨b.val / 512 * 512 + b.val % 512, by omega⟩ : Fin 1024) = b := Fin.ext (Nat.div_add_mod' _ _)
  rw [block0 m c _ k _ (by dsimp only; omega), block1 m c _ k _ (by dsimp only; omega) (by dsimp only; omega)]
  simp only [hm, hd, hc]

end Cert.Kernel3Ideal.Value

namespace Cert.Rows

open Idealize.ShloMosaic Idealize.ShloMosaic.TcCoe Idealize.SL.Sem Idealize.ShloMosaic.ValueIdx

/-- The reference's gradient at an entry: the same sum, the factors in the other order. -/
theorem reference_apply (x : Vec Ideal ⟨2, ![8448, 2816]⟩ .bf16) (y : Vec Ideal ⟨2, ![8448, 1024]⟩ .bf16)
    (q : Fin 4) (a : Fin 704) (b : Fin 1024) :
    Cert.Reference3Ideal.Read.val_main_v9 (F := Ideal) x y (ix3 q a b)
      = ∑ k : Fin 8448, x (ix2 k ⟨q.val * 704 + a.val, by omega⟩) * y (ix2 k b) := by
  have hq := q.isLt
  have ha := a.isLt
  have hb := b.isLt
  rw [Cert.Reference3Ideal.Read.val_main_v9_apply]
  refine Eq.trans (b := Cert.Reference3Ideal.Read.val_main_v8 (F := Ideal) x y (ix3 q a b)) rfl ?_
  rw [Cert.Reference3Ideal.Read.val_main_v8_apply, Cert.Reference3Ideal.Read.val_main_v6_apply,
    Cert.Reference3Ideal.Read.val_main_v5_apply]
  refine Finset.sum_congr rfl fun k _ => ?_
  rw [mul_comm, Cert.Reference3Ideal.Read.val_main_v0_apply, Cert.Reference3Ideal.Read.val_main_v4_apply]
  refine congrArg₂ (· * ·) (congrArg x ?_) (congrArg y ?_)
  · funext e
    apply Fin.ext
    match e with
    | ⟨0, _⟩ => rfl
    | ⟨1, _⟩ => show ((q.val * 704 + a.val) * 1024 + b.val) / 1024 = q.val * 704 + a.val; omega
  · funext e
    apply Fin.ext
    match e with
    | ⟨0, _⟩ => rfl
    | ⟨1, _⟩ => show ((q.val * 704 + a.val) * 1024 + b.val) % 1024 = b.val; omega

/-- The kernel and the reference leave the same array. -/
theorem result_eq (m : (ℓ : Loc Cert.Kernel3Ideal.nD Cert.Kernel3Ideal.τ Cert.Kernel3Ideal.sig) → Buf (Elt Ideal) ℓ)
    (c : Dev Cert.Kernel3Ideal.nD) :
    Cert.Kernel3Ideal.Value.G2 m c
      = Cert.Reference3Ideal.Read.val_main_v9 (F := Ideal) (Cert.Kernel3Ideal.Value.rows m c) (Cert.Kernel3Ideal.Value.cots m c) := by
  funext i
  obtain ⟨q, a, b, rfl⟩ : ∃ (q : Fin 4) (a : Fin 704) (b : Fin 1024), i = ix3 q a b := ⟨i 0, i 1, i 2, eq_ix3 i⟩
  rw [Cert.Kernel3Ideal.Value.result_apply, reference_apply]

theorem algebraic : Cert.algebraic_Kernel3Ideal_Reference3Ideal := fun m g m' g' _ hagree =>
  ⟨fun c => Cert.Kernel3Ideal.Value.G2 m c, Cert.Kernel3Ideal.Value.run m g,
    (θ_run Cert.Reference3Ideal.defs _ _).mono (fun _ h c => ⟨(h c).1.trans (by
      rw [(hagree c).1, (hagree c).2.2, Cert.Reference3Ideal.Read.val_main_v9_eq]
      exact (result_eq m c).symm), (h c).2⟩) (Cert.Reference3Ideal.Value.run (F := Ideal) m' g')⟩

end Cert.Rows

end
-- ==== Proof.Plain.lean ====
/-
  The plain product with a weight in column parts (`Kernel4`), at the ideal values: every entry of the result is the sum
  over the model's columns of a token row's and a weight column's products, which is what the reference's product is.
-/
module

public import proofs.«01_k».proof.Proof.Gen.Kernel4Ideal.Value
public import proofs.«01_k».proof.Proof.Gen.Reference4Ideal.Run
public import proofs.«01_k».proof.Proof.Gen.Reference4Ideal.Read
public import proofs.«01_k».proof.Defs
public import proofs.«01_k».proof.Proof.Products
public import Idealize.ShloMosaic.Lib.Pipeline.ValueKit.Tiles

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Idealize.ShloMosaic.ValueIdx Cert.Products

/-- One part's product at an entry. -/
theorem part_apply (x : Vec Ideal S768x1024 .bf16) (w : Vec Ideal S1x1024x1408 .bf16) (r : Fin 768) (b : Fin 1408) :
    k0_pay1 x w (ix2 r b) = ∑ k : Fin 1024, x (ix2 r k) * w (ix3 0 k b) := by
  unfold k0_pay1
  refine (Cert.Products.nn_apply _ x _ r b).trans (Finset.sum_congr rfl fun k _ => ?_)
  congr 1
  refine shapeCast_apply w _ _ _ ?_
  rewrite [Shape.rowMajor_val_three, Shape.rowMajor_val_two]
  show (0 * 1024 + k.val) * 1408 + b.val = k.val * 1408 + b.val
  omega

/-- The entry in column `b` is in part `b / 1408` of the weight, at its column `b % 1408`. -/
def entry (x : Vec Ideal S768x1024 .bf16) (w : Vec Ideal S4x1024x1408 .bf16) (r : Fin 768) (b : Fin 5632) : EReal :=
  ∑ k : Fin 1024, x (ix2 r k) * w (ix3 ⟨b.val / 1408, by omega⟩ k ⟨b.val % 1408, by omega⟩)

/-- The store of part `p` holds, wherever it covers, the block's entry. -/
theorem part_at (x : Vec Ideal S768x1024 .bf16) (w : Vec Ideal S4x1024x1408 .bf16) (r : Fin 768) (b : Fin 5632)
    (p : Fin 4) (inb : ∀ a, (![p.val, 0, 0] : Fin 3 → Nat) a + S1x1024x1408.size a ≤ S4x1024x1408.size a)
    (y : S768x1408.Idx) (h0 : r.val = 0 + (y 0).val) (h1 : b.val = p.val * 1408 + (y 1).val) :
    k0_pay1 x (View.ld w (Rect.unit (s := S4x1024x1408) ![p.val, 0, 0] S1x1024x1408.size inb)) y = entry x w r b := by
  obtain ⟨r', b', rfl⟩ : ∃ (r' : Fin 768) (b' : Fin 1408), y = ix2 r' b' := ⟨y 0, y 1, eq_ix2 y⟩
  have h0 : r.val = 0 + r'.val := h0
  have h1 : b.val = p.val * 1408 + b'.val := h1
  have hb := b'.isLt
  obtain rfl : r = r' := Fin.ext (by omega)
  rw [part_apply]
  refine Finset.sum_congr rfl fun k _ => ?_
  congr 1
  show w _ = w _
  congr 1
  funext e
  apply Fin.ext
  match e with
  | ⟨0, _⟩ => show p.val + 1 * 0 = b.val / 1408; omega
  | ⟨1, _⟩ => show 0 + 1 * k.val = k.val; omega
  | ⟨2, _⟩ => show 0 + 1 * b'.val = b.val % 1408; omega

/-- The block a step leaves, at an entry: the four stores tile it. -/
theorem out_apply (x : Vec Ideal S768x1024 .bf16) (w : Vec Ideal S4x1024x1408 .bf16) (r : Fin 768) (b : Fin 5632) :
    out0_2 x w (ix2 r b) = entry x w r b := by
  unfold out0_2
  rw [View.ld_unit_zero (S := S768x1024) zero2]
  refine View.canon_eq_of_allAt _ _ _ (cover0_2 _ _ _ _ _) ?_
  refine View.allAt_cons_unit _ _ _ _ _ (fun y hy => part_at x w r b 3 _ y (hy 0) (hy 1)) ?_
  refine View.allAt_cons_unit _ _ _ _ _ (fun y hy => part_at x w r b 2 _ y (hy 0) (hy 1)) ?_
  refine View.allAt_cons_unit _ _ _ _ _ (fun y hy => part_at x w r b 1 _ y (hy 0) (hy 1)) ?_
  exact View.allAt_cons_unit _ _ _ _ _ (fun y hy => part_at x w r b 0 _ y (hy 0) (by
    have h : b.val = 0 + (y 1).val := hy 1
    show b.val = 0 * 1408 + (y 1).val
    omega)) (View.allAt_nil _ _)

variable (m : (ℓ : Loc nD τ sig) → Buf (Elt Ideal) ℓ)

/-- The token rows and the weight as the program is given them. -/
abbrev rows (c : Dev nD) : Vec Ideal S8448x1024 .bf16 := m ((c : Thread nD τ).loc main_arg0)
abbrev weight (c : Dev nD) : Vec Ideal S4x1024x1408 .bf16 := m ((c : Thread nD τ).loc main_arg1)

/-- Step `t`'s block of each: 768 token rows, and all of the weight. -/
abbrev rowsAt (c : Dev nD) (t : Fin cfg0.N) : Vec Ideal S768x1024 .bf16 := iblk m c 0 t
abbrev weightAt (c : Dev nD) (t : Fin cfg0.N) : Vec Ideal S4x1024x1408 .bf16 := iblk m c 1 t

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 3) = 0 ∧ win0_1.index t (1 : Fin 3) = 0 ∧ win0_1.index t (2 : Fin 3) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)

theorem block0 (c : Dev nD) (t : Fin cfg0.N) (r : Fin 768) (k : Fin 1024) (h : t.val * 768 + r.val < 8448) :
    rowsAt m c t (ix2 r k) = rows m c (ix2 ⟨t.val * 768 + r.val, h⟩ k) := by
  unfold rowsAt iblk
  rw [View.read_apply]
  show V m c main_arg0 _ = rows m c _
  unfold V
  congr 1
  funext e
  apply Fin.ext
  match e with
  | ⟨0, _⟩ => show win0_0.index t 0 * 768 + 1 * r.val = t.val * 768 + r.val; rw [(index0 t).1]; omega
  | ⟨1, _⟩ => show win0_0.index t 1 * 1024 + 1 * k.val = k.val; rw [(index0 t).2]; omega

theorem block1 (c : Dev nD) (t : Fin cfg0.N) : weightAt m c t = weight m c := by
  funext j
  unfold weightAt iblk
  rw [View.read_apply]
  show V m c main_arg1 _ = weight m c _
  unfold V
  congr 1
  funext e
  apply Fin.ext
  match e with
  | ⟨0, _⟩ => show win0_1.index t 0 * 4 + 1 * (j 0).val = (j 0).val; rw [(index1 t).1]; omega
  | ⟨1, _⟩ => show win0_1.index t 1 * 1024 + 1 * (j 1).val = (j 1).val; rw [(index1 t).2.1]; omega
  | ⟨2, _⟩ => show win0_1.index t 2 * 1408 + 1 * (j 2).val = (j 2).val; rw [(index1 t).2.2]; omega

/-- THE RESULT at an entry: it lies in the block of step `i / 768`. -/
theorem result_apply (c : Dev nD) (i : Fin 8448) (b : Fin 5632) :
    ((dats m 0 c).arrAt 2 cfg0.N : Vec Ideal S8448x5632 .bf16) (ix2 i b)
      = ∑ k : Fin 1024, rows m c (ix2 i k) * weight m c (ix3 ⟨b.val / 1408, by omega⟩ k ⟨b.val % 1408, by omega⟩) := by
  have hN : cfg0.N = 11 := N_0
  have hi := i.isLt
  have ht : i.val / 768 < cfg0.N := by omega
  have hr : i.val % 768 < 768 := Nat.mod_lt _ (by decide)
  have hb := congrFun (blocks2 m c ⟨_, ht⟩ (flush0_2 _)) (ix2 ⟨i.val % 768, hr⟩ b)
  rw [View.read_apply, flushed2] at hb
  have he : ((cfg0.win 2).blk ⟨i.val / 768, ht⟩).view.emb (ix2 ⟨i.val % 768, hr⟩ b) = (ix2 i b : S8448x5632.Idx) := by
    funext e
    apply Fin.ext
    match e with
    | ⟨0, _⟩ => show win0_2.index _ 0 * 768 + 1 * (i.val % 768) = i.val; rw [(index2 _).1]; dsimp only; omega
    | ⟨1, _⟩ => show win0_2.index _ 1 * 5632 + 1 * b.val = b.val; rw [(index2 _).2]; omega
  rw [he] at hb
  refine hb.trans ?_
  refine (out_apply (rowsAt m c ⟨_, ht⟩) (weightAt m c ⟨_, ht⟩) ⟨i.val % 768, hr⟩ b).trans ?_
  unfold entry
  rw [block1]
  refine Finset.sum_congr rfl fun k _ => ?_
  rw [block0 m c _ _ k (by dsimp only; omega)]
  congr 4
  dsimp only
  omega

end Cert.Kernel4Ideal.Value

namespace Cert.Plain

open Idealize.ShloMosaic Idealize.ShloMosaic.TcCoe Idealize.SL.Sem Idealize.ShloMosaic.ValueIdx

/-- The reference's product at an entry. -/
theorem reference_apply (x : Vec Ideal ⟨2, ![8448, 1024]⟩ .bf16) (w : Vec Ideal ⟨3, ![4, 1024, 1408]⟩ .bf16)
    (i : Fin 8448) (b : Fin 5632) :
    Cert.Reference4Ideal.Read.val_main_v5 (F := Ideal) x w (ix2 i b)
      = ∑ k : Fin 1024, x (ix2 i k) * w (ix3 ⟨b.val / 1408, by omega⟩ k ⟨b.val % 1408, by omega⟩) := by
  rw [Cert.Reference4Ideal.Read.val_main_v5_apply]
  refine Eq.trans (b := Cert.Reference4Ideal.Read.val_main_v4 (F := Ideal) x w (ix2 i b)) rfl ?_
  rw [Cert.Reference4Ideal.Read.val_main_v4_apply]
  refine Finset.sum_congr rfl fun k _ => ?_
  have hk := k.isLt
  have hb := b.isLt
  rw [Cert.Reference4Ideal.Read.val_main_v0_apply, Cert.Reference4Ideal.Read.val_main_v3_apply,
    Cert.Reference4Ideal.Read.val_main_v2_apply, Cert.Reference4Ideal.Read.val_main_v1_apply]
  refine congrArg₂ (· * ·) (congrArg x ?_) (congrArg w ?_)
  · funext e
    match e with
    | ⟨0, _⟩ => rfl
    | ⟨1, _⟩ => rfl
  · funext e
    apply Fin.ext
    match e with
    | ⟨0, _⟩ => show (k.val * 5632 + b.val) / 1408 % 4 = b.val / 1408; omega
    | ⟨1, _⟩ => show (k.val * 5632 + b.val) / 5632 = k.val; omega
    | ⟨2, _⟩ => show (k.val * 5632 + b.val) % 1408 = b.val % 1408; omega

/-- The kernel and the reference leave the same array. -/
theorem result_eq (m : (ℓ : Loc Cert.Kernel4Ideal.nD Cert.Kernel4Ideal.τ Cert.Kernel4Ideal.sig) → Buf (Elt Ideal) ℓ)
    (c : Dev Cert.Kernel4Ideal.nD) :
    (Cert.Kernel4Ideal.Gen.dats m 0 c).arrAt 2 Cert.Kernel4Ideal.cfg0.N
      = Cert.Reference4Ideal.Read.val_main_v5 (F := Ideal) (Cert.Kernel4Ideal.Value.rows m c) (Cert.Kernel4Ideal.Value.weight m c) := by
  refine funext fun (j : Cert.Kernel4Ideal.S8448x5632.Idx) => ?_
  obtain ⟨i, b, rfl⟩ : ∃ (i : Fin 8448) (b : Fin 5632), j = ix2 i b := ⟨j 0, j 1, eq_ix2 j⟩
  exact (Cert.Kernel4Ideal.Value.result_apply m c i b).trans (reference_apply _ _ i b).symm

theorem algebraic : Cert.algebraic_Kernel4Ideal_Reference4Ideal := fun m g m' g' _ hagree =>
  ⟨fun c => (Cert.Kernel4Ideal.Gen.dats m 0 c).arrAt 2 Cert.Kernel4Ideal.cfg0.N, Cert.Kernel4Ideal.Value.run_blocks m g,
    (θ_run Cert.Reference4Ideal.defs _ _).mono (fun _ h c => ⟨(h c).1.trans (by
      rw [(hagree c).1, (hagree c).2, Cert.Reference4Ideal.Read.val_main_v5_eq]
      exact (result_eq m c).symm), (h c).2⟩) (Cert.Reference4Ideal.Value.run (F := Ideal) m' g')⟩

end Cert.Plain

end
-- ==== Proof.OutAbTransposed.lean ====
/-
  The gradient of the convolution mixer's output projection's input, kept in single precision (`Kernel5`), at the ideal values: every entry of the result is the sum over the
  model's columns of a cotangent row's and a weight row's products, which is what the reference's gradient is.
-/
module

public import proofs.«01_k».proof.Proof.Gen.Kernel5Ideal.Value
public import proofs.«01_k».proof.Proof.Gen.Reference5Ideal.Run
public import proofs.«01_k».proof.Proof.Gen.Reference5Ideal.Read
public import proofs.«01_k».proof.Defs
public import proofs.«01_k».proof.Proof.Products

@[expose] public section

set_option maxRecDepth 16384

noncomputable section

namespace Cert.Kernel5Ideal.Value

open Cert.Kernel5Ideal Cert.Kernel5Ideal.Gen Idealize.ShloMosaic Idealize.ShloMosaic.TcCoe Idealize.SL.Sem
open Idealize.ShloMosaic.ValueIdx Cert.Products

/-- The block a step leaves, at an entry: a row of its left block against row `b` of the weight's stacked parts. -/
theorem out_apply (x : Vec Ideal S768x1024 .bf16) (w : Vec Ideal S4x256x1024 .bf16) (r : Fin 768) (b : Fin 1024) :
    out0_2 x w (ix2 r b) = ∑ k : Fin 1024, x (ix2 r k) * w (ix3 ⟨b.val / 256, by omega⟩ ⟨b.val % 256, by omega⟩ k) := by
  unfold out0_2
  rw [View.canon_unit_zero (S := S768x1024) zero2, View.ld_unit_zero (S := S768x1024) zero2,
    View.ld_unit_zero (S := S4x256x1024) zero3]
  unfold k0_pay1
  refine (Cert.Products.nt_apply _ x _ r b).trans (Finset.sum_congr rfl fun k _ => ?_)
  congr 1
  refine shapeCast_apply w _ _ _ ?_
  rewrite [Shape.rowMajor_val_three, Shape.rowMajor_val_two]
  show (b.val / 256 * 256 + b.val % 256) * 1024 + k.val = b.val * 1024 + k.val
  omega

variable (m : (ℓ : Loc nD τ sig) → Buf (Elt Ideal) ℓ)

/-- The cotangent's rows and the weight as the program is given them. -/
abbrev cots (c : Dev nD) : Vec Ideal S8448x1024 .bf16 := m ((c : Thread nD τ).loc main_arg2)
abbrev weight (c : Dev nD) : Vec Ideal S4x256x1024 .bf16 := m ((c : Thread nD τ).loc main_arg1)

/-- Step `t`'s block of each: 768 rows of the cotangent, and all of the weight. -/
abbrev cotsAt (c : Dev nD) (t : Fin cfg0.N) : Vec Ideal S768x1024 .bf16 := iblk m c 0 t
abbrev weightAt (c : Dev nD) (t : Fin cfg0.N) : Vec Ideal S4x256x1024 .bf16 := iblk m c 1 t

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 3) = 0 ∧ win0_1.index t (1 : Fin 3) = 0 ∧ win0_1.index t (2 : Fin 3) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)

theorem block0 (c : Dev nD) (t : Fin cfg0.N) (r : Fin 768) (k : Fin 1024) (h : t.val * 768 + r.val < 8448) :
    cotsAt m c t (ix2 r k) = cots m c (ix2 ⟨t.val * 768 + r.val, h⟩ k) := by
  unfold cotsAt iblk
  rw [View.read_apply]
  show V m c main_arg2 _ = cots m c _
  unfold V
  congr 1
  funext e
  apply Fin.ext
  match e with
  | ⟨0, _⟩ => show win0_0.index t 0 * 768 + 1 * r.val = t.val * 768 + r.val; rw [(index0 t).1]; omega
  | ⟨1, _⟩ => show win0_0.index t 1 * 1024 + 1 * k.val = k.val; rw [(index0 t).2]; omega

theorem block1 (c : Dev nD) (t : Fin cfg0.N) : weightAt m c t = weight m c := by
  funext j
  unfold weightAt iblk
  rw [View.read_apply]
  show V m c main_arg1 _ = weight m c _
  unfold V
  congr 1
  funext e
  apply Fin.ext
  match e with
  | ⟨0, _⟩ => show win0_1.index t 0 * 4 + 1 * (j 0).val = (j 0).val; rw [(index1 t).1]; omega
  | ⟨1, _⟩ => show win0_1.index t 1 * 256 + 1 * (j 1).val = (j 1).val; rw [(index1 t).2.1]; omega
  | ⟨2, _⟩ => show win0_1.index t 2 * 1024 + 1 * (j 2).val = (j 2).val; rw [(index1 t).2.2]; omega

/-- THE RESULT at an entry: it lies in the block of step `i / 768`. -/
theorem result_apply (c : Dev nD) (i : Fin 8448) (b : Fin 1024) :
    ((dats m 0 c).arrAt 2 cfg0.N : Vec Ideal S8448x1024 .f32) (ix2 i b)
      = ∑ k : Fin 1024, cots m c (ix2 i k) * weight m c (ix3 ⟨b.val / 256, by omega⟩ ⟨b.val % 256, by omega⟩ k) := by
  have hN : cfg0.N = 11 := N_0
  have hi := i.isLt
  have ht : i.val / 768 < cfg0.N := by omega
  have hr : i.val % 768 < 768 := Nat.mod_lt _ (by decide)
  have hb := congrFun (blocks2 m c ⟨_, ht⟩ (flush0_2 _)) (ix2 ⟨i.val % 768, hr⟩ b)
  rw [View.read_apply, flushed2] at hb
  have he : ((cfg0.win 2).blk ⟨i.val / 768, ht⟩).view.emb (ix2 ⟨i.val % 768, hr⟩ b) = (ix2 i b : S8448x1024.Idx) := by
    funext e
    apply Fin.ext
    match e with
    | ⟨0, _⟩ => show win0_2.index _ 0 * 768 + 1 * (i.val % 768) = i.val; rw [(index2 _).1]; dsimp only; omega
    | ⟨1, _⟩ => show win0_2.index _ 1 * 1024 + 1 * b.val = b.val; rw [(index2 _).2]; omega
  rw [he] at hb
  refine hb.trans ?_
  refine (out_apply (cotsAt m c ⟨_, ht⟩) (weightAt m c ⟨_, ht⟩) ⟨i.val % 768, hr⟩ b).trans ?_
  rw [block1]
  refine Finset.sum_congr rfl fun k _ => ?_
  rw [block0 m c _ _ k (by dsimp only; omega)]
  congr 4
  dsimp only
  omega

end Cert.Kernel5Ideal.Value

namespace Cert.OutAbTransposed

open Idealize.ShloMosaic Idealize.ShloMosaic.TcCoe Idealize.SL.Sem Idealize.ShloMosaic.ValueIdx

/-- The reference's gradient at an entry. -/
theorem reference_apply (w : Vec Ideal ⟨3, ![4, 256, 1024]⟩ .bf16) (y : Vec Ideal ⟨2, ![8448, 1024]⟩ .bf16)
    (i : Fin 8448) (b : Fin 1024) :
    Cert.Reference5Ideal.Read.val_main_v7 (F := Ideal) w y (ix2 i b)
      = ∑ k : Fin 1024, y (ix2 i k) * w (ix3 ⟨b.val / 256, by omega⟩ ⟨b.val % 256, by omega⟩ k) := by
  rw [Cert.Reference5Ideal.Read.val_main_v7_apply]
  refine Finset.sum_congr rfl fun k _ => ?_
  have hk := k.isLt
  have hb := b.isLt
  rw [Cert.Reference5Ideal.Read.val_main_v4_apply, Cert.Reference5Ideal.Read.val_main_v2_apply,
    Cert.Reference5Ideal.Read.val_main_v1_apply]
  refine congrArg₂ (· * ·) (congrArg y ?_) (congrArg w ?_)
  · funext e
    match e with
    | ⟨0, _⟩ => rfl
    | ⟨1, _⟩ => rfl
  · funext e
    apply Fin.ext
    match e with
    | ⟨0, _⟩ => show (b.val * 1024 + k.val) / 262144 = b.val / 256; omega
    | ⟨1, _⟩ => show (b.val * 1024 + k.val) / 1024 % 256 = b.val % 256; omega
    | ⟨2, _⟩ => show (b.val * 1024 + k.val) % 1024 = k.val; omega

/-- The kernel and the reference leave the same array. -/
theorem result_eq (m : (ℓ : Loc Cert.Kernel5Ideal.nD Cert.Kernel5Ideal.τ Cert.Kernel5Ideal.sig) → Buf (Elt Ideal) ℓ)
    (c : Dev Cert.Kernel5Ideal.nD) :
    (Cert.Kernel5Ideal.Gen.dats m 0 c).arrAt 2 Cert.Kernel5Ideal.cfg0.N
      = Cert.Reference5Ideal.Read.val_main_v7 (F := Ideal) (Cert.Kernel5Ideal.Value.weight m c) (Cert.Kernel5Ideal.Value.cots m c) := by
  refine funext fun (j : Cert.Kernel5Ideal.S8448x1024.Idx) => ?_
  obtain ⟨i, b, rfl⟩ : ∃ (i : Fin 8448) (b : Fin 1024), j = ix2 i b := ⟨j 0, j 1, eq_ix2 j⟩
  exact (Cert.Kernel5Ideal.Value.result_apply m c i b).trans (reference_apply _ _ i b).symm

theorem algebraic : Cert.algebraic_Kernel5Ideal_Reference5Ideal := fun m g m' g' _ hagree =>
  ⟨fun c => (Cert.Kernel5Ideal.Gen.dats m 0 c).arrAt 2 Cert.Kernel5Ideal.cfg0.N, Cert.Kernel5Ideal.Value.run_blocks m g,
    (θ_run Cert.Reference5Ideal.defs _ _).mono (fun _ h c => ⟨(h c).1.trans (by
      rw [(hagree c).2.1, (hagree c).2.2, Cert.Reference5Ideal.Read.val_main_v7_eq]
      exact (result_eq m c).symm), (h c).2⟩) (Cert.Reference5Ideal.Value.run (F := Ideal) m' g')⟩

end Cert.OutAbTransposed

end
-- ==== Proof.OutTransposed.lean ====
/-
  The gradient of the attention's output projection's input (`Kernel6`), at the ideal values: every entry of the result is the sum over the
  model's columns of a cotangent row's and a weight row's products, which is what the reference's gradient is.
-/
module

public import proofs.«01_k».proof.Proof.Gen.Kernel6Ideal.Value
public import proofs.«01_k».proof.Proof.Gen.Reference6Ideal.Run
public import proofs.«01_k».proof.Proof.Gen.Reference6Ideal.Read
public import proofs.«01_k».proof.Defs
public import proofs.«01_k».proof.Proof.Products

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Idealize.ShloMosaic.ValueIdx Cert.Products

/-- The block a step leaves, at an entry: a row of its left block against row `b` of the weight's stacked parts. -/
theorem out_apply (x : Vec Ideal S768x1024 .bf16) (w : Vec Ideal S4x256x1024 .bf16) (r : Fin 768) (b : Fin 1024) :
    out0_2 x w (ix2 r b) = ∑ k : Fin 1024, x (ix2 r k) * w (ix3 ⟨b.val / 256, by omega⟩ ⟨b.val % 256, by omega⟩ k) := by
  unfold out0_2
  rw [View.canon_unit_zero (S := S768x1024) zero2, View.ld_unit_zero (S := S768x1024) zero2,
    View.ld_unit_zero (S := S4x256x1024) zero3]
  unfold k0_pay1
  refine (Cert.Products.nt_apply _ x _ r b).trans (Finset.sum_congr rfl fun k _ => ?_)
  congr 1
  refine shapeCast_apply w _ _ _ ?_
  rewrite [Shape.rowMajor_val_three, Shape.rowMajor_val_two]
  show (b.val / 256 * 256 + b.val % 256) * 1024 + k.val = b.val * 1024 + k.val
  omega

variable (m : (ℓ : Loc nD τ sig) → Buf (Elt Ideal) ℓ)

/-- The cotangent's rows and the weight as the program is given them. -/
abbrev cots (c : Dev nD) : Vec Ideal S8448x1024 .bf16 := m ((c : Thread nD τ).loc main_arg2)
abbrev weight (c : Dev nD) : Vec Ideal S4x256x1024 .bf16 := m ((c : Thread nD τ).loc main_arg1)

/-- Step `t`'s block of each: 768 rows of the cotangent, and all of the weight. -/
abbrev cotsAt (c : Dev nD) (t : Fin cfg0.N) : Vec Ideal S768x1024 .bf16 := iblk m c 0 t
abbrev weightAt (c : Dev nD) (t : Fin cfg0.N) : Vec Ideal S4x256x1024 .bf16 := iblk m c 1 t

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 3) = 0 ∧ win0_1.index t (1 : Fin 3) = 0 ∧ win0_1.index t (2 : Fin 3) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)

theorem block0 (c : Dev nD) (t : Fin cfg0.N) (r : Fin 768) (k : Fin 1024) (h : t.val * 768 + r.val < 8448) :
    cotsAt m c t (ix2 r k) = cots m c (ix2 ⟨t.val * 768 + r.val, h⟩ k) := by
  unfold cotsAt iblk
  rw [View.read_apply]
  show V m c main_arg2 _ = cots m c _
  unfold V
  congr 1
  funext e
  apply Fin.ext
  match e with
  | ⟨0, _⟩ => show win0_0.index t 0 * 768 + 1 * r.val = t.val * 768 + r.val; rw [(index0 t).1]; omega
  | ⟨1, _⟩ => show win0_0.index t 1 * 1024 + 1 * k.val = k.val; rw [(index0 t).2]; omega

theorem block1 (c : Dev nD) (t : Fin cfg0.N) : weightAt m c t = weight m c := by
  funext j
  unfold weightAt iblk
  rw [View.read_apply]
  show V m c main_arg1 _ = weight m c _
  unfold V
  congr 1
  funext e
  apply Fin.ext
  match e with
  | ⟨0, _⟩ => show win0_1.index t 0 * 4 + 1 * (j 0).val = (j 0).val; rw [(index1 t).1]; omega
  | ⟨1, _⟩ => show win0_1.index t 1 * 256 + 1 * (j 1).val = (j 1).val; rw [(index1 t).2.1]; omega
  | ⟨2, _⟩ => show win0_1.index t 2 * 1024 + 1 * (j 2).val = (j 2).val; rw [(index1 t).2.2]; omega

/-- THE RESULT at an entry: it lies in the block of step `i / 768`. -/
theorem result_apply (c : Dev nD) (i : Fin 8448) (b : Fin 1024) :
    ((dats m 0 c).arrAt 2 cfg0.N : Vec Ideal S8448x1024 .bf16) (ix2 i b)
      = ∑ k : Fin 1024, cots m c (ix2 i k) * weight m c (ix3 ⟨b.val / 256, by omega⟩ ⟨b.val % 256, by omega⟩ k) := by
  have hN : cfg0.N = 11 := N_0
  have hi := i.isLt
  have ht : i.val / 768 < cfg0.N := by omega
  have hr : i.val % 768 < 768 := Nat.mod_lt _ (by decide)
  have hb := congrFun (blocks2 m c ⟨_, ht⟩ (flush0_2 _)) (ix2 ⟨i.val % 768, hr⟩ b)
  rw [View.read_apply, flushed2] at hb
  have he : ((cfg0.win 2).blk ⟨i.val / 768, ht⟩).view.emb (ix2 ⟨i.val % 768, hr⟩ b) = (ix2 i b : S8448x1024.Idx) := by
    funext e
    apply Fin.ext
    match e with
    | ⟨0, _⟩ => show win0_2.index _ 0 * 768 + 1 * (i.val % 768) = i.val; rw [(index2 _).1]; dsimp only; omega
    | ⟨1, _⟩ => show win0_2.index _ 1 * 1024 + 1 * b.val = b.val; rw [(index2 _).2]; omega
  rw [he] at hb
  refine hb.trans ?_
  refine (out_apply (cotsAt m c ⟨_, ht⟩) (weightAt m c ⟨_, ht⟩) ⟨i.val % 768, hr⟩ b).trans ?_
  rw [block1]
  refine Finset.sum_congr rfl fun k _ => ?_
  rw [block0 m c _ _ k (by dsimp only; omega)]
  congr 4
  dsimp only
  omega

end Cert.Kernel6Ideal.Value

namespace Cert.OutTransposed

open Idealize.ShloMosaic Idealize.ShloMosaic.TcCoe Idealize.SL.Sem Idealize.ShloMosaic.ValueIdx

/-- The reference's gradient at an entry. -/
theorem reference_apply (w : Vec Ideal ⟨3, ![4, 256, 1024]⟩ .bf16) (y : Vec Ideal ⟨2, ![8448, 1024]⟩ .bf16)
    (i : Fin 8448) (b : Fin 1024) :
    Cert.Reference6Ideal.Read.val_main_v10 (F := Ideal) w y (ix2 i b)
      = ∑ k : Fin 1024, y (ix2 i k) * w (ix3 ⟨b.val / 256, by omega⟩ ⟨b.val % 256, by omega⟩ k) := by
  rw [Cert.Reference6Ideal.Read.val_main_v10_apply]
  refine Eq.trans (b := Cert.Reference6Ideal.Read.val_main_v7 (F := Ideal) w y (ix2 i b)) rfl ?_
  rw [Cert.Reference6Ideal.Read.val_main_v7_apply]
  refine Finset.sum_congr rfl fun k _ => ?_
  have hk := k.isLt
  have hb := b.isLt
  rw [Cert.Reference6Ideal.Read.val_main_v4_apply, Cert.Reference6Ideal.Read.val_main_v2_apply,
    Cert.Reference6Ideal.Read.val_main_v1_apply]
  refine congrArg₂ (· * ·) (congrArg y ?_) (congrArg w ?_)
  · funext e
    match e with
    | ⟨0, _⟩ => rfl
    | ⟨1, _⟩ => rfl
  · funext e
    apply Fin.ext
    match e with
    | ⟨0, _⟩ => show (b.val * 1024 + k.val) / 262144 = b.val / 256; omega
    | ⟨1, _⟩ => show (b.val * 1024 + k.val) / 1024 % 256 = b.val % 256; omega
    | ⟨2, _⟩ => show (b.val * 1024 + k.val) % 1024 = k.val; omega

/-- The kernel and the reference leave the same array. -/
theorem result_eq (m : (ℓ : Loc Cert.Kernel6Ideal.nD Cert.Kernel6Ideal.τ Cert.Kernel6Ideal.sig) → Buf (Elt Ideal) ℓ)
    (c : Dev Cert.Kernel6Ideal.nD) :
    (Cert.Kernel6Ideal.Gen.dats m 0 c).arrAt 2 Cert.Kernel6Ideal.cfg0.N
      = Cert.Reference6Ideal.Read.val_main_v10 (F := Ideal) (Cert.Kernel6Ideal.Value.weight m c) (Cert.Kernel6Ideal.Value.cots m c) := by
  refine funext fun (j : Cert.Kernel6Ideal.S8448x1024.Idx) => ?_
  obtain ⟨i, b, rfl⟩ : ∃ (i : Fin 8448) (b : Fin 1024), j = ix2 i b := ⟨j 0, j 1, eq_ix2 j⟩
  exact (Cert.Kernel6Ideal.Value.result_apply m c i b).trans (reference_apply _ _ i b).symm

theorem algebraic : Cert.algebraic_Kernel6Ideal_Reference6Ideal := fun m g m' g' _ hagree =>
  ⟨fun c => (Cert.Kernel6Ideal.Gen.dats m 0 c).arrAt 2 Cert.Kernel6Ideal.cfg0.N, Cert.Kernel6Ideal.Value.run_blocks m g,
    (θ_run Cert.Reference6Ideal.defs _ _).mono (fun _ h c => ⟨(h c).1.trans (by
      rw [(hagree c).2.1, (hagree c).2.2, Cert.Reference6Ideal.Read.val_main_v10_eq]
      exact (result_eq m c).symm), (h c).2⟩) (Cert.Reference6Ideal.Value.run (F := Ideal) m' g')⟩

end Cert.OutTransposed

end
-- ==== Proof.OutRows.lean ====
/-
  The gradient of the mixers' output projections, whose rows are cut over the devices (`Kernel7`), at the ideal values: every entry of the result is the sum over all
  token rows of the two operands' products, which is what the reference's gradient is.
-/
module

public import proofs.«01_k».proof.Proof.Gen.Kernel7Ideal.Value
public import proofs.«01_k».proof.Proof.Gen.Reference7Ideal.Run
public import proofs.«01_k».proof.Proof.Gen.Reference7Ideal.Read
public import proofs.«01_k».proof.Defs
public import proofs.«01_k».proof.Proof.Products
public import Idealize.ShloMosaic.Lib.Tactic

@[expose] public section

set_option maxRecDepth 16384

noncomputable section

namespace Cert.Kernel7Ideal.Value

open Cert.Kernel7Ideal Cert.Kernel7Ideal.Gen Idealize.ShloMosaic Idealize.ShloMosaic.TcCoe Idealize.SL.Sem
open Idealize.ShloMosaic.ValueIdx Cert.Products

section Cases

variable {F : FTy → Type} [FloatOps F]
variable (c : Dev nD) (i : grid0.Coords)
  (a2 : Memref sig .tc .vmem S768x1024 .bf16) (h2 : a2.IsWhole) (a3 : Memref sig .tc .vmem S768x512 .bf16) (h3 : a3.IsWhole)
  (a4 : Memref sig .tc .vmem S4x256x512 .bf16) (h4 : a4.IsWhole) (a5 : Memref sig .tc .vmem S1024x512 .f32) (h5 : a5.IsWhole)
  (x0 : Vec F S768x1024 .bf16) (x1 : Vec F S768x512 .bf16) (xs : Vec F S1024x512 .f32)

/-- The first step of a column block clears the accumulator and adds its product. -/
theorem sout_first (hc0 : cond0_0 i) (hc1 : ¬cond0_1 i) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x512) zero2, View.readCov_unit_zero (S := S1024x512) _ zero2]
  simp only [View.readAt_eq_ld, h2.read_unread, h3.read_unread, View.ld_unit_zero (S := S768x1024) zero2,
    View.ld_unit_zero (S := S768x512) zero2]

/-- A middle step adds its product to the accumulator. -/
theorem sout_middle (hc0 : ¬cond0_0 i) (hc1 : ¬cond0_1 i) :
    sout0_B_0 c i a2 h2 a3 h3 a4 h4 a5 h5 hc0 hc1 x0 x1 xs = k0_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero (S := S1024x512) zero2]
  simp only [View.readAt_eq_ld, h2.read_unread, h3.read_unread, h5.read_unread, View.ld_unit_zero (S := S768x1024) zero2,
    View.ld_unit_zero (S := S768x512) zero2, View.ld_unit_zero (S := S1024x512) zero2]

/-- So does the last step, … -/
theorem sout_last (hc0 : ¬cond0_0 i) (hc1 : cond0_1 i) :
    sout0_C_0 c i a2 h2 a3 h3 a4 h4 a5 h5 hc0 hc1 x0 x1 xs = k0_pay2 xs x0 x1 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero (S := S1024x512) zero2]
  simp only [View.readAt_eq_ld, h2.read_unread, h3.read_unread, h5.read_unread, View.ld_unit_zero (S := S768x1024) zero2,
    View.ld_unit_zero (S := S768x512) zero2, View.ld_unit_zero (S := S1024x512) zero2]

/-- … which then rounds the accumulator into the block of the result. -/
theorem out_last (hc0 : ¬cond0_0 i) (hc1 : cond0_1 i) :
    out0_C_2 c i a2 h2 a3 h3 a4 h4 a5 h5 hc0 hc1 x0 x1 xs = k0_pay3 (k0_pay2 xs x0 x1) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S4x256x512) zero3, View.readCov_unit_zero (S := S1024x512) _ zero2]
  simp only [View.readAt_eq_ld, h2.read_unread, h3.read_unread, h5.read_unread, View.ld_unit_zero (S := S768x1024) zero2,
    View.ld_unit_zero (S := S768x512) zero2, View.ld_unit_zero (S := S1024x512) zero2]

end Cases

/-! ## The payloads at an entry -/

theorem clear_apply (a : Fin 1024) (b : Fin 512) : k0_pay1 (F := Ideal) (ix2 a b) = 0 := by
  unfold k0_pay1
  rw [shapeCast_self]
  exact Ideal.ofBits_zero_f32

theorem step_apply (v : Vec Ideal S1024x512 .f32) (x : Vec Ideal S768x1024 .bf16) (y : Vec Ideal S768x512 .bf16)
    (a : Fin 1024) (b : Fin 512) :
    k0_pay2 v x y (ix2 a b) = v (ix2 a b) + ∑ k : Fin 768, x (ix2 k a) * y (ix2 k b) := by
  unfold k0_pay2
  rw [shapeCast_self]
  exact congrArg (v _ + ·) (Cert.Products.tn_apply _ x y a b)

theorem store_apply (v : Vec Ideal S1024x512 .f32) (q : Fin 4) (a : Fin 256) (b : Fin 512) :
    k0_pay3 v (ix3 q a b) = v (ix2 ⟨q.val * 256 + a.val, by omega⟩ b) := by
  unfold k0_pay3
  refine shapeCast_apply v _ _ _ ?_
  rewrite [Shape.rowMajor_val_three, Shape.rowMajor_val_two]
  show (q.val * 256 + a.val) * 512 + b.val = (q.val * 256 + a.val) * 512 + b.val
  rfl

/-! ## The blocks of the operands -/

variable (m : (ℓ : Loc nD τ sig) → Buf (Elt Ideal) ℓ)

/-- The token rows as the program is given them. -/
abbrev rows (c : Dev nD) : Vec Ideal S8448x1024 .bf16 := m ((c : Thread nD τ).loc main_arg0)
/-- The cotangent's rows as the program is given them. -/
abbrev cots (c : Dev nD) : Vec Ideal S8448x1024 .bf16 := m ((c : Thread nD τ).loc main_arg2)

/-- Step `t`'s block of each. -/
abbrev rowsAt (c : Dev nD) (t : Fin cfg0.N) : Vec Ideal S768x1024 .bf16 := iblk m c 0 t
abbrev cotsAt (c : Dev nD) (t : Fin cfg0.N) : Vec Ideal S768x512 .bf16 := iblk m c 1 t

theorem index0 : ∀ t : Fin cfg0.N, win0_0.index t (0 : Fin 2) = t.val % 11 ∧ win0_0.index t (1 : Fin 2) = 0 :=
  (by decide +kernel : ∀ t : Fin grid0.N, _)
theorem index1 : ∀ t : Fin cfg0.N, win0_1.index t (0 : Fin 2) = t.val % 11 ∧ win0_1.index t (1 : Fin 2) = t.val / 11 :=
  (by decide +kernel : ∀ t : Fin grid0.N, _)

/-- Step `t` reads token rows `768 (t % 11) …`, every column. -/
theorem block0 (c : Dev nD) (t : Fin cfg0.N) (k : Fin 768) (a : Fin 1024) (h : t.val % 11 * 768 + k.val < 8448) :
    rowsAt m c t (ix2 k a) = rows m c (ix2 ⟨t.val % 11 * 768 + k.val, h⟩ a) := by
  unfold rowsAt iblk
  rw [View.read_apply]
  show V m c main_arg0 _ = rows m c _
  unfold V
  congr 1
  funext e
  apply Fin.ext
  match e with
  | ⟨0, _⟩ => show win0_0.index t 0 * 768 + 1 * k.val = t.val % 11 * 768 + k.val; rw [(index0 t).1]; omega
  | ⟨1, _⟩ => show win0_0.index t 1 * 1024 + 1 * a.val = a.val; rw [(index0 t).2]; omega

/-- Step `t` reads the cotangent's rows `768 (t % 11) …` in columns `512 (t / 11) …`. -/
theorem block1 (c : Dev nD) (t : Fin cfg0.N) (k : Fin 768) (b : Fin 512) (h : t.val % 11 * 768 + k.val < 8448)
    (h' : t.val / 11 * 512 + b.val < 1024) :
    cotsAt m c t (ix2 k b)
      = cots m c (ix2 ⟨t.val % 11 * 768 + k.val, h⟩ ⟨t.val / 11 * 512 + b.val, h'⟩) := by
  unfold cotsAt iblk
  rw [View.read_apply]
  show V m c main_arg2 _ = cots m c _
  unfold V
  congr 1
  funext e
  apply Fin.ext
  match e with
  | ⟨0, _⟩ => show win0_1.index t 0 * 768 + 1 * k.val = t.val % 11 * 768 + k.val; rw [(index1 t).1]; omega
  | ⟨1, _⟩ => show win0_1.index t 1 * 512 + 1 * b.val = t.val / 11 * 512 + b.val; rw [(index1 t).2]; omega

/-! ## The accumulator is a partial sum -/

/-- What step `n` adds at an entry of the accumulator. -/
def addend (c : Dev nD) (n : Nat) (j : S1024x512.Idx) : EReal :=
  if h : n < cfg0.N then ∑ k : Fin 768, rowsAt m c ⟨n, h⟩ (ix2 k (j 0))
    * cotsAt m c ⟨n, h⟩ (ix2 k (j 1)) else 0

theorem scAt_first (c : Dev nD) (n : Nat) (h : n < cfg0.N) (hn : n % 11 = 0) (v : Vec Ideal S1024x512 .f32)
    (j : S1024x512.Idx) : scAt0_0 m c n h v j = 0 + addend m c n j := by
  unfold scAt0_0 addend
  rw [dif_pos hn, dif_neg (by omega : ¬n % 11 = 10), dif_pos h, sout_first]
  obtain ⟨a, b, rfl⟩ : ∃ a b, j = ix2 a b := ⟨j 0, j 1, eq_ix2 j⟩
  rw [step_apply, clear_apply]

theorem scAt_next (c : Dev nD) (n : Nat) (h : n < cfg0.N) (hn : ¬n % 11 = 0) (v : Vec Ideal S1024x512 .f32)
    (j : S1024x512.Idx) : scAt0_0 m c n h v j = v j + addend m c n j := by
  obtain ⟨a, b, rfl⟩ : ∃ a b, j = ix2 a b := ⟨j 0, j 1, eq_ix2 j⟩
  unfold scAt0_0 addend
  rw [dif_neg hn, dif_pos h]
  by_cases h1 : n % 11 = 10
  · rw [dif_pos h1, sout_last, step_apply]
  · rw [dif_neg h1, sout_middle, step_apply]

/-- The accumulator after the last of a column block's eleven steps. -/
theorem scratch_last (c : Dev nD) (t : Fin cfg0.N) (h : t.val % 11 = 10) (j : S1024x512.Idx) :
    (outsAt0 m c t.val t.isLt).2 j = ∑ s ∈ Finset.range 11, addend m c (11 * (t.val / 11) + s) j := by
  rw [soutsAt0_0_eq]
  refine (Pipeline.accAt_add_apply _ _ (fun _ => 0) (addend m c) (11 * (t.val / 11)) 10
    (fun hb i => scAt_first m c _ hb (by omega) _ i) (fun n hb v i h1 h2 => scAt_next m c n hb (by omega) v i) (t.val % 11)
    (by omega) _ j).trans ?_
  rw [h, zero_add]

theorem outs_last (c : Dev nD) (t : Fin cfg0.N) (h : t.val % 11 = 10) :
    (outsAt0 m c t.val t.isLt).1 = k0_pay3 (outsAt0 m c t.val t.isLt).2 := by
  rw [outsAt0_C m c t (by omega) h, out_last, sout_last]

/-- THE RESULT at an entry: the sum over all token rows. -/
theorem result_apply (c : Dev nD) (q : Fin 4) (a : Fin 256) (b : Fin 1024) :
    G2 m c (ix3 q a b) = ∑ k : Fin 8448, rows m c (ix2 k ⟨q.val * 256 + a.val, by omega⟩) * cots m c (ix2 k b) := by
  have hN : cfg0.N = 22 := N_0
  have hq := q.isLt
  have ha := a.isLt
  have hb := b.isLt
  have hb' : b.val % 512 < 512 := Nat.mod_lt _ (by decide)
  have hp : pt2Of (ix3 q a b) = 11 * (b.val / 512) + 10 := by
    show 11 * (2 * (q.val / 4 - 0) + 2 * (a.val / 256 - 0) + 1 * (b.val / 512 - 0)) + 10 = _
    omega
  have hl : loc2Of (ix3 q a b) = ix3 q a (⟨b.val % 512, hb'⟩ : Fin 512) := by
    funext e
    apply Fin.ext
    match e with
    | ⟨0, _⟩ => exact Nat.mod_eq_of_lt q.isLt
    | ⟨1, _⟩ => exact Nat.mod_eq_of_lt a.isLt
    | ⟨2, _⟩ => rfl
  have ht : 11 * (b.val / 512) + 10 < cfg0.N := by omega
  unfold G2
  rw [dif_pos (by rw [hp]; exact ht), hl, fold0_congr m c _ _ (11 * (b.val / 512) + 10) (by omega) hp,
    ← outsAt0_sweep m c (11 * (b.val / 512) + 10) ht, outs_last m c ⟨_, ht⟩ (by dsimp only; omega), store_apply,
    scratch_last m c ⟨_, ht⟩ (by dsimp only; omega)]
  have hd : (11 * (b.val / 512) + 10) / 11 = b.val / 512 := by omega
  dsimp only
  rw [hd]
  refine Cert.Products.sweep 11 768 8448 rfl (b.val / 512) (fun n => addend m c n (ix2 _ _)) _ fun s hs => ?_
  unfold addend
  rw [dif_pos (by omega)]
  refine Finset.sum_congr rfl fun k _ => ?_
  have hm : (11 * (b.val / 512) + s) % 11 = s := by omega
  have hd : (11 * (b.val / 512) + s) / 11 = b.val / 512 := by omega
  have hc : (⟨b.val / 512 * 512 + b.val % 512, by omega⟩ : Fin 1024) = b := Fin.ext (Nat.div_add_mod' _ _)
  rw [block0 m c _ k _ (by dsimp only; omega), block1 m c _ k _ (by dsimp only; omega) (by dsimp only; omega)]
  simp only [hm, hd, hc]

end Cert.Kernel7Ideal.Value

namespace Cert.OutRows

open Idealize.ShloMosaic Idealize.ShloMosaic.TcCoe Idealize.SL.Sem Idealize.ShloMosaic.ValueIdx

/-- The reference's gradient at an entry: the same sum, the factors in the other order. -/
theorem reference_apply (x : Vec Ideal ⟨2, ![8448, 1024]⟩ .bf16) (y : Vec Ideal ⟨2, ![8448, 1024]⟩ .bf16)
    (q : Fin 4) (a : Fin 256) (b : Fin 1024) :
    Cert.Reference7Ideal.Read.val_main_v9 (F := Ideal) x y (ix3 q a b)
      = ∑ k : Fin 8448, x (ix2 k ⟨q.val * 256 + a.val, by omega⟩) * y (ix2 k b) := by
  have hq := q.isLt
  have ha := a.isLt
  have hb := b.isLt
  rw [Cert.Reference7Ideal.Read.val_main_v9_apply]
  refine Eq.trans (b := Cert.Reference7Ideal.Read.val_main_v8 (F := Ideal) x y (ix3 q a b)) rfl ?_
  rw [Cert.Reference7Ideal.Read.val_main_v8_apply, Cert.Reference7Ideal.Read.val_main_v6_apply,
    Cert.Reference7Ideal.Read.val_main_v5_apply]
  refine Finset.sum_congr rfl fun k _ => ?_
  rw [mul_comm, Cert.Reference7Ideal.Read.val_main_v0_apply, Cert.Reference7Ideal.Read.val_main_v4_apply]
  refine congrArg₂ (· * ·) (congrArg x ?_) (congrArg y ?_)
  · funext e
    apply Fin.ext
    match e with
    | ⟨0, _⟩ => rfl
    | ⟨1, _⟩ => show ((q.val * 256 + a.val) * 1024 + b.val) / 1024 = q.val * 256 + a.val; omega
  · funext e
    apply Fin.ext
    match e with
    | ⟨0, _⟩ => rfl
    | ⟨1, _⟩ => show ((q.val * 256 + a.val) * 1024 + b.val) % 1024 = b.val; omega

/-- The kernel and the reference leave the same array. -/
theorem result_eq (m : (ℓ : Loc Cert.Kernel7Ideal.nD Cert.Kernel7Ideal.τ Cert.Kernel7Ideal.sig) → Buf (Elt Ideal) ℓ)
    (c : Dev Cert.Kernel7Ideal.nD) :
    Cert.Kernel7Ideal.Value.G2 m c
      = Cert.Reference7Ideal.Read.val_main_v9 (F := Ideal) (Cert.Kernel7Ideal.Value.rows m c) (Cert.Kernel7Ideal.Value.cots m c) := by
  funext i
  obtain ⟨q, a, b, rfl⟩ : ∃ (q : Fin 4) (a : Fin 256) (b : Fin 1024), i = ix3 q a b := ⟨i 0, i 1, i 2, eq_ix3 i⟩
  rw [Cert.Kernel7Ideal.Value.result_apply, reference_apply]

theorem algebraic : Cert.algebraic_Kernel7Ideal_Reference7Ideal := fun m g m' g' _ hagree =>
  ⟨fun c => Cert.Kernel7Ideal.Value.G2 m c, Cert.Kernel7Ideal.Value.run m g,
    (θ_run Cert.Reference7Ideal.defs _ _).mono (fun _ h c => ⟨(h c).1.trans (by
      rw [(hagree c).1, (hagree c).2.2, Cert.Reference7Ideal.Read.val_main_v9_eq]
      exact (result_eq m c).symm), (h c).2⟩) (Cert.Reference7Ideal.Value.run (F := Ideal) m' g')⟩

end Cert.OutRows

end
-- ==== Proof.InPlain.lean ====
/-
  The mixers' input projection, its weight in column parts (`Kernel8`), at the ideal values: every entry of the result is the sum
  over the model's columns of a token row's and a weight column's products, which is what the reference's product is.
-/
module

public import proofs.«01_k».proof.Proof.Gen.Kernel8Ideal.Value
public import proofs.«01_k».proof.Proof.Gen.Reference8Ideal.Run
public import proofs.«01_k».proof.Proof.Gen.Reference8Ideal.Read
public import proofs.«01_k».proof.Defs
public import proofs.«01_k».proof.Proof.Products
public import Idealize.ShloMosaic.Lib.Pipeline.ValueKit.Tiles

@[expose] public section

set_option maxRecDepth 16384

noncomputable section

namespace Cert.Kernel8Ideal.Value

open Cert.Kernel8Ideal Cert.Kernel8Ideal.Gen Idealize.ShloMosaic Idealize.ShloMosaic.TcCoe Idealize.SL.Sem
open Idealize.ShloMosaic.ValueIdx Cert.Products

/-- One part's product at an entry. -/
theorem part_apply (x : Vec Ideal S768x1024 .bf16) (w : Vec Ideal S1x1024x640 .bf16) (r : Fin 768) (b : Fin 640) :
    k0_pay1 x w (ix2 r b) = ∑ k : Fin 1024, x (ix2 r k) * w (ix3 0 k b) := by
  unfold k0_pay1
  refine (Cert.Products.nn_apply _ x _ r b).trans (Finset.sum_congr rfl fun k _ => ?_)
  congr 1
  refine shapeCast_apply w _ _ _ ?_
  rewrite [Shape.rowMajor_val_three, Shape.rowMajor_val_two]
  show (0 * 1024 + k.val) * 640 + b.val = k.val * 640 + b.val
  omega

/-- The entry in column `b` is in part `b / 640` of the weight, at its column `b % 640`. -/
def entry (x : Vec Ideal S768x1024 .bf16) (w : Vec Ideal S4x1024x640 .bf16) (r : Fin 768) (b : Fin 2560) : EReal :=
  ∑ k : Fin 1024, x (ix2 r k) * w (ix3 ⟨b.val / 640, by omega⟩ k ⟨b.val % 640, by omega⟩)

/-- The store of part `p` holds, wherever it covers, the block's entry. -/
theorem part_at (x : Vec Ideal S768x1024 .bf16) (w : Vec Ideal S4x1024x640 .bf16) (r : Fin 768) (b : Fin 2560)
    (p : Fin 4) (inb : ∀ a, (![p.val, 0, 0] : Fin 3 → Nat) a + S1x1024x640.size a ≤ S4x1024x640.size a)
    (y : S768x640.Idx) (h0 : r.val = 0 + (y 0).val) (h1 : b.val = p.val * 640 + (y 1).val) :
    k0_pay1 x (View.ld w (Rect.unit (s := S4x1024x640) ![p.val, 0, 0] S1x1024x640.size inb)) y = entry x w r b := by
  obtain ⟨r', b', rfl⟩ : ∃ (r' : Fin 768) (b' : Fin 640), y = ix2 r' b' := ⟨y 0, y 1, eq_ix2 y⟩
  have h0 : r.val = 0 + r'.val := h0
  have h1 : b.val = p.val * 640 + b'.val := h1
  have hb := b'.isLt
  obtain rfl : r = r' := Fin.ext (by omega)
  rw [part_apply]
  refine Finset.sum_congr rfl fun k _ => ?_
  congr 1
  show w _ = w _
  congr 1
  funext e
  apply Fin.ext
  match e with
  | ⟨0, _⟩ => show p.val + 1 * 0 = b.val / 640; omega
  | ⟨1, _⟩ => show 0 + 1 * k.val = k.val; omega
  | ⟨2, _⟩ => show 0 + 1 * b'.val = b.val % 640; omega

/-- The block a step leaves, at an entry: the four stores tile it. -/
theorem out_apply (x : Vec Ideal S768x1024 .bf16) (w : Vec Ideal S4x1024x640 .bf16) (r : Fin 768) (b : Fin 2560) :
    out0_2 x w (ix2 r b) = entry x w r b := by
  unfold out0_2
  rw [View.ld_unit_zero (S := S768x1024) zero2]
  refine View.canon_eq_of_allAt _ _ _ (cover0_2 _ _ _ _ _) ?_
  refine View.allAt_cons_unit _ _ _ _ _ (fun y hy => part_at x w r b 3 _ y (hy 0) (hy 1)) ?_
  refine View.allAt_cons_unit _ _ _ _ _ (fun y hy => part_at x w r b 2 _ y (hy 0) (hy 1)) ?_
  refine View.allAt_cons_unit _ _ _ _ _ (fun y hy => part_at x w r b 1 _ y (hy 0) (hy 1)) ?_
  exact View.allAt_cons_unit _ _ _ _ _ (fun y hy => part_at x w r b 0 _ y (hy 0) (by
    have h : b.val = 0 + (y 1).val := hy 1
    show b.val = 0 * 640 + (y 1).val
    omega)) (View.allAt_nil _ _)

variable (m : (ℓ : Loc nD τ sig) → Buf (Elt Ideal) ℓ)

/-- The token rows and the weight as the program is given them. -/
abbrev rows (c : Dev nD) : Vec Ideal S8448x1024 .bf16 := m ((c : Thread nD τ).loc main_arg0)
abbrev weight (c : Dev nD) : Vec Ideal S4x1024x640 .bf16 := m ((c : Thread nD τ).loc main_arg1)

/-- Step `t`'s block of each: 768 token rows, and all of the weight. -/
abbrev rowsAt (c : Dev nD) (t : Fin cfg0.N) : Vec Ideal S768x1024 .bf16 := iblk m c 0 t
abbrev weightAt (c : Dev nD) (t : Fin cfg0.N) : Vec Ideal S4x1024x640 .bf16 := iblk m c 1 t

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 3) = 0 ∧ win0_1.index t (1 : Fin 3) = 0 ∧ win0_1.index t (2 : Fin 3) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)

theorem block0 (c : Dev nD) (t : Fin cfg0.N) (r : Fin 768) (k : Fin 1024) (h : t.val * 768 + r.val < 8448) :
    rowsAt m c t (ix2 r k) = rows m c (ix2 ⟨t.val * 768 + r.val, h⟩ k) := by
  unfold rowsAt iblk
  rw [View.read_apply]
  show V m c main_arg0 _ = rows m c _
  unfold V
  congr 1
  funext e
  apply Fin.ext
  match e with
  | ⟨0, _⟩ => show win0_0.index t 0 * 768 + 1 * r.val = t.val * 768 + r.val; rw [(index0 t).1]; omega
  | ⟨1, _⟩ => show win0_0.index t 1 * 1024 + 1 * k.val = k.val; rw [(index0 t).2]; omega

theorem block1 (c : Dev nD) (t : Fin cfg0.N) : weightAt m c t = weight m c := by
  funext j
  unfold weightAt iblk
  rw [View.read_apply]
  show V m c main_arg1 _ = weight m c _
  unfold V
  congr 1
  funext e
  apply Fin.ext
  match e with
  | ⟨0, _⟩ => show win0_1.index t 0 * 4 + 1 * (j 0).val = (j 0).val; rw [(index1 t).1]; omega
  | ⟨1, _⟩ => show win0_1.index t 1 * 1024 + 1 * (j 1).val = (j 1).val; rw [(index1 t).2.1]; omega
  | ⟨2, _⟩ => show win0_1.index t 2 * 640 + 1 * (j 2).val = (j 2).val; rw [(index1 t).2.2]; omega

/-- THE RESULT at an entry: it lies in the block of step `i / 768`. -/
theorem result_apply (c : Dev nD) (i : Fin 8448) (b : Fin 2560) :
    ((dats m 0 c).arrAt 2 cfg0.N : Vec Ideal S8448x2560 .bf16) (ix2 i b)
      = ∑ k : Fin 1024, rows m c (ix2 i k) * weight m c (ix3 ⟨b.val / 640, by omega⟩ k ⟨b.val % 640, by omega⟩) := by
  have hN : cfg0.N = 11 := N_0
  have hi := i.isLt
  have ht : i.val / 768 < cfg0.N := by omega
  have hr : i.val % 768 < 768 := Nat.mod_lt _ (by decide)
  have hb := congrFun (blocks2 m c ⟨_, ht⟩ (flush0_2 _)) (ix2 ⟨i.val % 768, hr⟩ b)
  rw [View.read_apply, flushed2] at hb
  have he : ((cfg0.win 2).blk ⟨i.val / 768, ht⟩).view.emb (ix2 ⟨i.val % 768, hr⟩ b) = (ix2 i b : S8448x2560.Idx) := by
    funext e
    apply Fin.ext
    match e with
    | ⟨0, _⟩ => show win0_2.index _ 0 * 768 + 1 * (i.val % 768) = i.val; rw [(index2 _).1]; dsimp only; omega
    | ⟨1, _⟩ => show win0_2.index _ 1 * 2560 + 1 * b.val = b.val; rw [(index2 _).2]; omega
  rw [he] at hb
  refine hb.trans ?_
  refine (out_apply (rowsAt m c ⟨_, ht⟩) (weightAt m c ⟨_, ht⟩) ⟨i.val % 768, hr⟩ b).trans ?_
  unfold entry
  rw [block1]
  refine Finset.sum_congr rfl fun k _ => ?_
  rw [block0 m c _ _ k (by dsimp only; omega)]
  congr 4
  dsimp only
  omega

end Cert.Kernel8Ideal.Value

namespace Cert.InPlain

open Idealize.ShloMosaic Idealize.ShloMosaic.TcCoe Idealize.SL.Sem Idealize.ShloMosaic.ValueIdx

/-- The reference's product at an entry. -/
theorem reference_apply (x : Vec Ideal ⟨2, ![8448, 1024]⟩ .bf16) (w : Vec Ideal ⟨3, ![4, 1024, 640]⟩ .bf16)
    (i : Fin 8448) (b : Fin 2560) :
    Cert.Reference8Ideal.Read.val_main_v5 (F := Ideal) x w (ix2 i b)
      = ∑ k : Fin 1024, x (ix2 i k) * w (ix3 ⟨b.val / 640, by omega⟩ k ⟨b.val % 640, by omega⟩) := by
  rw [Cert.Reference8Ideal.Read.val_main_v5_apply]
  refine Eq.trans (b := Cert.Reference8Ideal.Read.val_main_v4 (F := Ideal) x w (ix2 i b)) rfl ?_
  rw [Cert.Reference8Ideal.Read.val_main_v4_apply]
  refine Finset.sum_congr rfl fun k _ => ?_
  have hk := k.isLt
  have hb := b.isLt
  rw [Cert.Reference8Ideal.Read.val_main_v0_apply, Cert.Reference8Ideal.Read.val_main_v3_apply,
    Cert.Reference8Ideal.Read.val_main_v2_apply, Cert.Reference8Ideal.Read.val_main_v1_apply]
  refine congrArg₂ (· * ·) (congrArg x ?_) (congrArg w ?_)
  · funext e
    match e with
    | ⟨0, _⟩ => rfl
    | ⟨1, _⟩ => rfl
  · funext e
    apply Fin.ext
    match e with
    | ⟨0, _⟩ => show (k.val * 2560 + b.val) / 640 % 4 = b.val / 640; omega
    | ⟨1, _⟩ => show (k.val * 2560 + b.val) / 2560 = k.val; omega
    | ⟨2, _⟩ => show (k.val * 2560 + b.val) % 640 = b.val % 640; omega

/-- The kernel and the reference leave the same array. -/
theorem result_eq (m : (ℓ : Loc Cert.Kernel8Ideal.nD Cert.Kernel8Ideal.τ Cert.Kernel8Ideal.sig) → Buf (Elt Ideal) ℓ)
    (c : Dev Cert.Kernel8Ideal.nD) :
    (Cert.Kernel8Ideal.Gen.dats m 0 c).arrAt 2 Cert.Kernel8Ideal.cfg0.N
      = Cert.Reference8Ideal.Read.val_main_v5 (F := Ideal) (Cert.Kernel8Ideal.Value.rows m c) (Cert.Kernel8Ideal.Value.weight m c) := by
  refine funext fun (j : Cert.Kernel8Ideal.S8448x2560.Idx) => ?_
  obtain ⟨i, b, rfl⟩ : ∃ (i : Fin 8448) (b : Fin 2560), j = ix2 i b := ⟨j 0, j 1, eq_ix2 j⟩
  exact (Cert.Kernel8Ideal.Value.result_apply m c i b).trans (reference_apply _ _ i b).symm

theorem algebraic : Cert.algebraic_Kernel8Ideal_Reference8Ideal := fun m g m' g' _ hagree =>
  ⟨fun c => (Cert.Kernel8Ideal.Gen.dats m 0 c).arrAt 2 Cert.Kernel8Ideal.cfg0.N, Cert.Kernel8Ideal.Value.run_blocks m g,
    (θ_run Cert.Reference8Ideal.defs _ _).mono (fun _ h c => ⟨(h c).1.trans (by
      rw [(hagree c).1, (hagree c).2, Cert.Reference8Ideal.Read.val_main_v5_eq]
      exact (result_eq m c).symm), (h c).2⟩) (Cert.Reference8Ideal.Value.run (F := Ideal) m' g')⟩

end Cert.InPlain

end
-- ==== Proof.InColumns.lean ====
/-
  The gradient of the mixers' input projection `w_in_ab`, cut over its columns (`Kernel9`), at the ideal values: every entry of the result is the sum over all
  token rows of the two operands' products, which is what the reference's gradient is.
-/
module

public import proofs.«01_k».proof.Proof.Gen.Kernel9Ideal.Value
public import proofs.«01_k».proof.Proof.Gen.Reference9Ideal.Run
public import proofs.«01_k».proof.Proof.Gen.Reference9Ideal.Read
public import proofs.«01_k».proof.Defs
public import proofs.«01_k».proof.Proof.Products
public import Idealize.ShloMosaic.Lib.Tactic

@[expose] public section

set_option maxRecDepth 16384

noncomputable section

namespace Cert.Kernel9Ideal.Value

open Cert.Kernel9Ideal Cert.Kernel9Ideal.Gen Idealize.ShloMosaic Idealize.ShloMosaic.TcCoe Idealize.SL.Sem
open Idealize.ShloMosaic.ValueIdx Cert.Products

section Cases

variable {F : FTy → Type} [FloatOps F]
variable (c : Dev nD) (i : grid0.Coords)
  (a2 : Memref sig .tc .vmem S1408x1024 .bf16) (h2 : a2.IsWhole) (a3 : Memref sig .tc .vmem S1408x640 .bf16) (h3 : a3.IsWhole)
  (a4 : Memref sig .tc .vmem S1x1024x640 .bf16) (h4 : a4.IsWhole) (a5 : Memref sig .tc .vmem S1024x640 .f32) (h5 : a5.IsWhole)
  (x0 : Vec F S1408x1024 .bf16) (x1 : Vec F S1408x640 .bf16) (xs : Vec F S1024x640 .f32)

/-- The first step of a column block clears the accumulator and adds its product. -/
theorem sout_first (hc0 : cond0_0 i) (hc1 : ¬cond0_1 i) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x640) zero2, View.readCov_unit_zero (S := S1024x640) _ zero2]
  simp only [View.readAt_eq_ld, h2.read_unread, h3.read_unread, View.ld_unit_zero (S := S1408x1024) zero2,
    View.ld_unit_zero (S := S1408x640) zero2]

/-- A middle step adds its product to the accumulator. -/
theorem sout_middle (hc0 : ¬cond0_0 i) (hc1 : ¬cond0_1 i) :
    sout0_B_0 c i a2 h2 a3 h3 a4 h4 a5 h5 hc0 hc1 x0 x1 xs = k0_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero (S := S1024x640) zero2]
  simp only [View.readAt_eq_ld, h2.read_unread, h3.read_unread, h5.read_unread, View.ld_unit_zero (S := S1408x1024) zero2,
    View.ld_unit_zero (S := S1408x640) zero2, View.ld_unit_zero (S := S1024x640) zero2]

/-- So does the last step, … -/
theorem sout_last (hc0 : ¬cond0_0 i) (hc1 : cond0_1 i) :
    sout0_C_0 c i a2 h2 a3 h3 a4 h4 a5 h5 hc0 hc1 x0 x1 xs = k0_pay2 xs x0 x1 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero (S := S1024x640) zero2]
  simp only [View.readAt_eq_ld, h2.read_unread, h3.read_unread, h5.read_unread, View.ld_unit_zero (S := S1408x1024) zero2,
    View.ld_unit_zero (S := S1408x640) zero2, View.ld_unit_zero (S := S1024x640) zero2]

/-- … which then rounds the accumulator into the block of the result. -/
theorem out_last (hc0 : ¬cond0_0 i) (hc1 : cond0_1 i) :
    out0_C_2 c i a2 h2 a3 h3 a4 h4 a5 h5 hc0 hc1 x0 x1 xs = k0_pay3 (k0_pay2 xs x0 x1) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S1x1024x640) zero3, View.readCov_unit_zero (S := S1024x640) _ zero2]
  simp only [View.readAt_eq_ld, h2.read_unread, h3.read_unread, h5.read_unread, View.ld_unit_zero (S := S1408x1024) zero2,
    View.ld_unit_zero (S := S1408x640) zero2, View.ld_unit_zero (S := S1024x640) zero2]

end Cases

/-! ## The payloads at an entry -/

theorem clear_apply (a : Fin 1024) (b : Fin 640) : k0_pay1 (F := Ideal) (ix2 a b) = 0 := by
  unfold k0_pay1
  rw [shapeCast_self]
  exact Ideal.ofBits_zero_f32

theorem step_apply (v : Vec Ideal S1024x640 .f32) (x : Vec Ideal S1408x1024 .bf16) (y : Vec Ideal S1408x640 .bf16)
    (a : Fin 1024) (b : Fin 640) :
    k0_pay2 v x y (ix2 a b) = v (ix2 a b) + ∑ k : Fin 1408, x (ix2 k a) * y (ix2 k b) := by
  unfold k0_pay2
  rw [shapeCast_self]
  exact congrArg (v _ + ·) (Cert.Products.tn_apply _ x y a b)

theorem store_apply (v : Vec Ideal S1024x640 .f32) (u : Fin 1) (a : Fin 1024) (b : Fin 640) :
    k0_pay3 v (ix3 u a b) = v (ix2 a b) := by
  unfold k0_pay3
  refine (shapeCast_addUnit_apply _ _ _ _).trans ?_
  show v _ = v _
  congr 1
  funext e
  match e with
  | ⟨0, _⟩ => rfl
  | ⟨1, _⟩ => rfl

/-! ## The blocks of the operands -/

variable (m : (ℓ : Loc nD τ sig) → Buf (Elt Ideal) ℓ)

/-- The token rows as the program is given them. -/
abbrev rows (c : Dev nD) : Vec Ideal S8448x1024 .bf16 := m ((c : Thread nD τ).loc main_arg0)
/-- The cotangent's rows as the program is given them. -/
abbrev cots (c : Dev nD) : Vec Ideal S8448x2560 .bf16 := m ((c : Thread nD τ).loc main_arg2)

/-- Step `t`'s block of each. -/
abbrev rowsAt (c : Dev nD) (t : Fin cfg0.N) : Vec Ideal S1408x1024 .bf16 := iblk m c 0 t
abbrev cotsAt (c : Dev nD) (t : Fin cfg0.N) : Vec Ideal S1408x640 .bf16 := iblk m c 1 t

theorem index0 : ∀ t : Fin cfg0.N, win0_0.index t (0 : Fin 2) = t.val % 6 ∧ win0_0.index t (1 : Fin 2) = 0 :=
  (by decide +kernel : ∀ t : Fin grid0.N, _)
theorem index1 : ∀ t : Fin cfg0.N, win0_1.index t (0 : Fin 2) = t.val % 6 ∧ win0_1.index t (1 : Fin 2) = t.val / 6 :=
  (by decide +kernel : ∀ t : Fin grid0.N, _)

/-- Step `t` reads token rows `1408 (t % 6) …`, every column. -/
theorem block0 (c : Dev nD) (t : Fin cfg0.N) (k : Fin 1408) (a : Fin 1024) (h : t.val % 6 * 1408 + k.val < 8448) :
    rowsAt m c t (ix2 k a) = rows m c (ix2 ⟨t.val % 6 * 1408 + k.val, h⟩ a) := by
  unfold rowsAt iblk
  rw [View.read_apply]
  show V m c main_arg0 _ = rows m c _
  unfold V
  congr 1
  funext e
  apply Fin.ext
  match e with
  | ⟨0, _⟩ => show win0_0.index t 0 * 1408 + 1 * k.val = t.val % 6 * 1408 + k.val; rw [(index0 t).1]; omega
  | ⟨1, _⟩ => show win0_0.index t 1 * 1024 + 1 * a.val = a.val; rw [(index0 t).2]; omega

/-- Step `t` reads the cotangent's rows `1408 (t % 6) …` in columns `640 (t / 6) …`. -/
theorem block1 (c : Dev nD) (t : Fin cfg0.N) (k : Fin 1408) (b : Fin 640) (h : t.val % 6 * 1408 + k.val < 8448)
    (h' : t.val / 6 * 640 + b.val < 2560) :
    cotsAt m c t (ix2 k b)
      = cots m c (ix2 ⟨t.val % 6 * 1408 + k.val, h⟩ ⟨t.val / 6 * 640 + b.val, h'⟩) := by
  unfold cotsAt iblk
  rw [View.read_apply]
  show V m c main_arg2 _ = cots m c _
  unfold V
  congr 1
  funext e
  apply Fin.ext
  match e with
  | ⟨0, _⟩ => show win0_1.index t 0 * 1408 + 1 * k.val = t.val % 6 * 1408 + k.val; rw [(index1 t).1]; omega
  | ⟨1, _⟩ => show win0_1.index t 1 * 640 + 1 * b.val = t.val / 6 * 640 + b.val; rw [(index1 t).2]; omega

/-! ## The accumulator is a partial sum -/

/-- What step `n` adds at an entry of the accumulator. -/
def addend (c : Dev nD) (n : Nat) (j : S1024x640.Idx) : EReal :=
  if h : n < cfg0.N then ∑ k : Fin 1408, rowsAt m c ⟨n, h⟩ (ix2 k (j 0))
    * cotsAt m c ⟨n, h⟩ (ix2 k (j 1)) else 0

theorem scAt_first (c : Dev nD) (n : Nat) (h : n < cfg0.N) (hn : n % 6 = 0) (v : Vec Ideal S1024x640 .f32)
    (j : S1024x640.Idx) : scAt0_0 m c n h v j = 0 + addend m c n j := by
  unfold scAt0_0 addend
  rw [dif_pos hn, dif_neg (by omega : ¬n % 6 = 5), dif_pos h, sout_first]
  obtain ⟨a, b, rfl⟩ : ∃ a b, j = ix2 a b := ⟨j 0, j 1, eq_ix2 j⟩
  rw [step_apply, clear_apply]

theorem scAt_next (c : Dev nD) (n : Nat) (h : n < cfg0.N) (hn : ¬n % 6 = 0) (v : Vec Ideal S1024x640 .f32)
    (j : S1024x640.Idx) : scAt0_0 m c n h v j = v j + addend m c n j := by
  obtain ⟨a, b, rfl⟩ : ∃ a b, j = ix2 a b := ⟨j 0, j 1, eq_ix2 j⟩
  unfold scAt0_0 addend
  rw [dif_neg hn, dif_pos h]
  by_cases h1 : n % 6 = 5
  · rw [dif_pos h1, sout_last, step_apply]
  · rw [dif_neg h1, sout_middle, step_apply]

/-- The accumulator after the last of a column block's six steps. -/
theorem scratch_last (c : Dev nD) (t : Fin cfg0.N) (h : t.val % 6 = 5) (j : S1024x640.Idx) :
    (outsAt0 m c t.val t.isLt).2 j = ∑ s ∈ Finset.range 6, addend m c (6 * (t.val / 6) + s) j := by
  rw [soutsAt0_0_eq]
  refine (Pipeline.accAt_add_apply _ _ (fun _ => 0) (addend m c) (6 * (t.val / 6)) 5
    (fun hb i => scAt_first m c _ hb (by omega) _ i) (fun n hb v i h1 h2 => scAt_next m c n hb (by omega) v i) (t.val % 6)
    (by omega) _ j).trans ?_
  rw [h, zero_add]

theorem outs_last (c : Dev nD) (t : Fin cfg0.N) (h : t.val % 6 = 5) :
    (outsAt0 m c t.val t.isLt).1 = k0_pay3 (outsAt0 m c t.val t.isLt).2 := by
  rw [outsAt0_C m c t (by omega) h, out_last, sout_last]

/-- THE RESULT at an entry: the sum over all token rows. -/
theorem result_apply (c : Dev nD) (q : Fin 4) (a : Fin 1024) (b : Fin 640) :
    G2 m c (ix3 q a b) = ∑ k : Fin 8448, rows m c (ix2 k a) * cots m c (ix2 k ⟨q.val * 640 + b.val, by omega⟩) := by
  have hN : cfg0.N = 24 := N_0
  have hp : pt2Of (ix3 q a b) = 6 * q.val + 5 := by
    show 6 * (1 * (q.val / 1 - 0) + 1 * (a.val / 1024 - 0) + 1 * (b.val / 640 - 0)) + 5 = _
    have := a.isLt; have := b.isLt; omega
  have hl : loc2Of (ix3 q a b) = ix3 (0 : Fin 1) a b := by
    funext e
    apply Fin.ext
    match e with
    | ⟨0, _⟩ => exact Nat.mod_one _
    | ⟨1, _⟩ => exact Nat.mod_eq_of_lt a.isLt
    | ⟨2, _⟩ => exact Nat.mod_eq_of_lt b.isLt
  have ht : 6 * q.val + 5 < cfg0.N := by have := q.isLt; omega
  unfold G2
  rw [dif_pos (by rw [hp]; exact ht), hl, fold0_congr m c _ _ (6 * q.val + 5) (by omega) hp,
    ← outsAt0_sweep m c (6 * q.val + 5) ht, outs_last m c ⟨_, ht⟩ (by dsimp only; omega), store_apply,
    scratch_last m c ⟨_, ht⟩ (by dsimp only; omega)]
  have hd : (6 * q.val + 5) / 6 = q.val := by omega
  dsimp only
  rw [hd]
  refine Cert.Products.sweep 6 1408 8448 rfl q.val (fun n => addend m c n (ix2 a b)) _ fun s hs => ?_
  have hq := q.isLt
  unfold addend
  rw [dif_pos (by omega)]
  refine Finset.sum_congr rfl fun k _ => ?_
  have hm : (6 * q.val + s) % 6 = s := by omega
  have hd : (6 * q.val + s) / 6 = q.val := by omega
  rw [block0 m c _ k a (by dsimp only; omega), block1 m c _ k b (by dsimp only; omega) (by dsimp only; omega)]
  simp only [hm, hd]

end Cert.Kernel9Ideal.Value

namespace Cert.InColumns

open Idealize.ShloMosaic Idealize.ShloMosaic.TcCoe Idealize.SL.Sem Idealize.ShloMosaic.ValueIdx

/-- The reference's gradient at an entry: the same sum, the factors in the other order. -/
theorem reference_apply (x : Vec Ideal ⟨2, ![8448, 1024]⟩ .bf16) (y : Vec Ideal ⟨2, ![8448, 2560]⟩ .bf16)
    (q : Fin 4) (a : Fin 1024) (b : Fin 640) :
    Cert.Reference9Ideal.Read.val_main_v11 (F := Ideal) x y (ix3 q a b)
      = ∑ k : Fin 8448, x (ix2 k a) * y (ix2 k ⟨q.val * 640 + b.val, by omega⟩) := by
  have hq := q.isLt
  have ha := a.isLt
  have hb := b.isLt
  rw [Cert.Reference9Ideal.Read.val_main_v11_apply]
  refine Eq.trans (b := Cert.Reference9Ideal.Read.val_main_v10 (F := Ideal) x y (ix3 q a b)) rfl ?_
  rw [Cert.Reference9Ideal.Read.val_main_v10_apply, Cert.Reference9Ideal.Read.val_main_v9_apply,
    Cert.Reference9Ideal.Read.val_main_v7_apply, Cert.Reference9Ideal.Read.val_main_v6_apply]
  refine Finset.sum_congr rfl fun k _ => ?_
  rw [mul_comm, Cert.Reference9Ideal.Read.val_main_v0_apply, Cert.Reference9Ideal.Read.val_main_v5_apply]
  refine congrArg₂ (· * ·) (congrArg x ?_) (congrArg y ?_)
  · funext e
    apply Fin.ext
    match e with
    | ⟨0, _⟩ => rfl
    | ⟨1, _⟩ => show ((a.val * 4 + q.val) * 640 + b.val) / 2560 = a.val; omega
  · funext e
    apply Fin.ext
    match e with
    | ⟨0, _⟩ => rfl
    | ⟨1, _⟩ => show ((a.val * 4 + q.val) * 640 + b.val) % 2560 = q.val * 640 + b.val; omega

/-- The kernel and the reference leave the same array. -/
theorem result_eq (m : (ℓ : Loc Cert.Kernel9Ideal.nD Cert.Kernel9Ideal.τ Cert.Kernel9Ideal.sig) → Buf (Elt Ideal) ℓ)
    (c : Dev Cert.Kernel9Ideal.nD) :
    Cert.Kernel9Ideal.Value.G2 m c
      = Cert.Reference9Ideal.Read.val_main_v11 (F := Ideal) (Cert.Kernel9Ideal.Value.rows m c) (Cert.Kernel9Ideal.Value.cots m c) := by
  funext i
  obtain ⟨q, a, b, rfl⟩ : ∃ (q : Fin 4) (a : Fin 1024) (b : Fin 640), i = ix3 q a b := ⟨i 0, i 1, i 2, eq_ix3 i⟩
  rw [Cert.Kernel9Ideal.Value.result_apply, reference_apply]

theorem algebraic : Cert.algebraic_Kernel9Ideal_Reference9Ideal := fun m g m' g' _ hagree =>
  ⟨fun c => Cert.Kernel9Ideal.Value.G2 m c, Cert.Kernel9Ideal.Value.run m g,
    (θ_run Cert.Reference9Ideal.defs _ _).mono (fun _ h c => ⟨(h c).1.trans (by
      rw [(hagree c).1, (hagree c).2.2, Cert.Reference9Ideal.Read.val_main_v11_eq]
      exact (result_eq m c).symm), (h c).2⟩) (Cert.Reference9Ideal.Value.run (F := Ideal) m' g')⟩

end Cert.InColumns

end
-- ==== Proof.QkvColumns.lean ====
/-
  The gradient of the attention's input projection `w_qkv`, cut over its columns (`Kernel10`), at the ideal values: every entry of the result is the sum over all
  token rows of the two operands' products, which is what the reference's gradient is.
-/
module

public import proofs.«01_k».proof.Proof.Gen.Kernel10Ideal.Value
public import proofs.«01_k».proof.Proof.Gen.Reference10Ideal.Run
public import proofs.«01_k».proof.Proof.Gen.Reference10Ideal.Read
public import proofs.«01_k».proof.Defs
public import proofs.«01_k».proof.Proof.Products
public import Idealize.ShloMosaic.Lib.Tactic

@[expose] public section

set_option maxRecDepth 16384

noncomputable section

namespace Cert.Kernel10Ideal.Value

open Cert.Kernel10Ideal Cert.Kernel10Ideal.Gen Idealize.ShloMosaic Idealize.ShloMosaic.TcCoe Idealize.SL.Sem
open Idealize.ShloMosaic.ValueIdx Cert.Products

section Cases

variable {F : FTy → Type} [FloatOps F]
variable (c : Dev nD) (i : grid0.Coords)
  (a2 : Memref sig .tc .vmem S1408x1024 .bf16) (h2 : a2.IsWhole) (a3 : Memref sig .tc .vmem S1408x384 .bf16) (h3 : a3.IsWhole)
  (a4 : Memref sig .tc .vmem S1x1024x384 .bf16) (h4 : a4.IsWhole) (a5 : Memref sig .tc .vmem S1024x384 .f32) (h5 : a5.IsWhole)
  (x0 : Vec F S1408x1024 .bf16) (x1 : Vec F S1408x384 .bf16) (xs : Vec F S1024x384 .f32)

/-- The first step of a column block clears the accumulator and adds its product. -/
theorem sout_first (hc0 : cond0_0 i) (hc1 : ¬cond0_1 i) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x384) zero2, View.readCov_unit_zero (S := S1024x384) _ zero2]
  simp only [View.readAt_eq_ld, h2.read_unread, h3.read_unread, View.ld_unit_zero (S := S1408x1024) zero2,
    View.ld_unit_zero (S := S1408x384) zero2]

/-- A middle step adds its product to the accumulator. -/
theorem sout_middle (hc0 : ¬cond0_0 i) (hc1 : ¬cond0_1 i) :
    sout0_B_0 c i a2 h2 a3 h3 a4 h4 a5 h5 hc0 hc1 x0 x1 xs = k0_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero (S := S1024x384) zero2]
  simp only [View.readAt_eq_ld, h2.read_unread, h3.read_unread, h5.read_unread, View.ld_unit_zero (S := S1408x1024) zero2,
    View.ld_unit_zero (S := S1408x384) zero2, View.ld_unit_zero (S := S1024x384) zero2]

/-- So does the last step, … -/
theorem sout_last (hc0 : ¬cond0_0 i) (hc1 : cond0_1 i) :
    sout0_C_0 c i a2 h2 a3 h3 a4 h4 a5 h5 hc0 hc1 x0 x1 xs = k0_pay2 xs x0 x1 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero (S := S1024x384) zero2]
  simp only [View.readAt_eq_ld, h2.read_unread, h3.read_unread, h5.read_unread, View.ld_unit_zero (S := S1408x1024) zero2,
    View.ld_unit_zero (S := S1408x384) zero2, View.ld_unit_zero (S := S1024x384) zero2]

/-- … which then rounds the accumulator into the block of the result. -/
theorem out_last (hc0 : ¬cond0_0 i) (hc1 : cond0_1 i) :
    out0_C_2 c i a2 h2 a3 h3 a4 h4 a5 h5 hc0 hc1 x0 x1 xs = k0_pay3 (k0_pay2 xs x0 x1) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S1x1024x384) zero3, View.readCov_unit_zero (S := S1024x384) _ zero2]
  simp only [View.readAt_eq_ld, h2.read_unread, h3.read_unread, h5.read_unread, View.ld_unit_zero (S := S1408x1024) zero2,
    View.ld_unit_zero (S := S1408x384) zero2, View.ld_unit_zero (S := S1024x384) zero2]

end Cases

/-! ## The payloads at an entry -/

theorem clear_apply (a : Fin 1024) (b : Fin 384) : k0_pay1 (F := Ideal) (ix2 a b) = 0 := by
  unfold k0_pay1
  rw [shapeCast_self]
  exact Ideal.ofBits_zero_f32

theorem step_apply (v : Vec Ideal S1024x384 .f32) (x : Vec Ideal S1408x1024 .bf16) (y : Vec Ideal S1408x384 .bf16)
    (a : Fin 1024) (b : Fin 384) :
    k0_pay2 v x y (ix2 a b) = v (ix2 a b) + ∑ k : Fin 1408, x (ix2 k a) * y (ix2 k b) := by
  unfold k0_pay2
  rw [shapeCast_self]
  exact congrArg (v _ + ·) (Cert.Products.tn_apply _ x y a b)

theorem store_apply (v : Vec Ideal S1024x384 .f32) (u : Fin 1) (a : Fin 1024) (b : Fin 384) :
    k0_pay3 v (ix3 u a b) = v (ix2 a b) := by
  unfold k0_pay3
  refine (shapeCast_addUnit_apply _ _ _ _).trans ?_
  show v _ = v _
  congr 1
  funext e
  match e with
  | ⟨0, _⟩ => rfl
  | ⟨1, _⟩ => rfl

/-! ## The blocks of the operands -/

variable (m : (ℓ : Loc nD τ sig) → Buf (Elt Ideal) ℓ)

/-- The token rows as the program is given them. -/
abbrev rows (c : Dev nD) : Vec Ideal S8448x1024 .bf16 := m ((c : Thread nD τ).loc main_arg0)
/-- The cotangent's rows as the program is given them. -/
abbrev cots (c : Dev nD) : Vec Ideal S8448x1536 .bf16 := m ((c : Thread nD τ).loc main_arg2)

/-- Step `t`'s block of each. -/
abbrev rowsAt (c : Dev nD) (t : Fin cfg0.N) : Vec Ideal S1408x1024 .bf16 := iblk m c 0 t
abbrev cotsAt (c : Dev nD) (t : Fin cfg0.N) : Vec Ideal S1408x384 .bf16 := iblk m c 1 t

theorem index0 : ∀ t : Fin cfg0.N, win0_0.index t (0 : Fin 2) = t.val % 6 ∧ win0_0.index t (1 : Fin 2) = 0 :=
  (by decide +kernel : ∀ t : Fin grid0.N, _)
theorem index1 : ∀ t : Fin cfg0.N, win0_1.index t (0 : Fin 2) = t.val % 6 ∧ win0_1.index t (1 : Fin 2) = t.val / 6 :=
  (by decide +kernel : ∀ t : Fin grid0.N, _)

/-- Step `t` reads token rows `1408 (t % 6) …`, every column. -/
theorem block0 (c : Dev nD) (t : Fin cfg0.N) (k : Fin 1408) (a : Fin 1024) (h : t.val % 6 * 1408 + k.val < 8448) :
    rowsAt m c t (ix2 k a) = rows m c (ix2 ⟨t.val % 6 * 1408 + k.val, h⟩ a) := by
  unfold rowsAt iblk
  rw [View.read_apply]
  show V m c main_arg0 _ = rows m c _
  unfold V
  congr 1
  funext e
  apply Fin.ext
  match e with
  | ⟨0, _⟩ => show win0_0.index t 0 * 1408 + 1 * k.val = t.val % 6 * 1408 + k.val; rw [(index0 t).1]; omega
  | ⟨1, _⟩ => show win0_0.index t 1 * 1024 + 1 * a.val = a.val; rw [(index0 t).2]; omega

/-- Step `t` reads the cotangent's rows `1408 (t % 6) …` in columns `384 (t / 6) …`. -/
theorem block1 (c : Dev nD) (t : Fin cfg0.N) (k : Fin 1408) (b : Fin 384) (h : t.val % 6 * 1408 + k.val < 8448)
    (h' : t.val / 6 * 384 + b.val < 1536) :
    cotsAt m c t (ix2 k b)
      = cots m c (ix2 ⟨t.val % 6 * 1408 + k.val, h⟩ ⟨t.val / 6 * 384 + b.val, h'⟩) := by
  unfold cotsAt iblk
  rw [View.read_apply]
  show V m c main_arg2 _ = cots m c _
  unfold V
  congr 1
  funext e
  apply Fin.ext
  match e with
  | ⟨0, _⟩ => show win0_1.index t 0 * 1408 + 1 * k.val = t.val % 6 * 1408 + k.val; rw [(index1 t).1]; omega
  | ⟨1, _⟩ => show win0_1.index t 1 * 384 + 1 * b.val = t.val / 6 * 384 + b.val; rw [(index1 t).2]; omega

/-! ## The accumulator is a partial sum -/

/-- What step `n` adds at an entry of the accumulator. -/
def addend (c : Dev nD) (n : Nat) (j : S1024x384.Idx) : EReal :=
  if h : n < cfg0.N then ∑ k : Fin 1408, rowsAt m c ⟨n, h⟩ (ix2 k (j 0))
    * cotsAt m c ⟨n, h⟩ (ix2 k (j 1)) else 0

theorem scAt_first (c : Dev nD) (n : Nat) (h : n < cfg0.N) (hn : n % 6 = 0) (v : Vec Ideal S1024x384 .f32)
    (j : S1024x384.Idx) : scAt0_0 m c n h v j = 0 + addend m c n j := by
  unfold scAt0_0 addend
  rw [dif_pos hn, dif_neg (by omega : ¬n % 6 = 5), dif_pos h, sout_first]
  obtain ⟨a, b, rfl⟩ : ∃ a b, j = ix2 a b := ⟨j 0, j 1, eq_ix2 j⟩
  rw [step_apply, clear_apply]

theorem scAt_next (c : Dev nD) (n : Nat) (h : n < cfg0.N) (hn : ¬n % 6 = 0) (v : Vec Ideal S1024x384 .f32)
    (j : S1024x384.Idx) : scAt0_0 m c n h v j = v j + addend m c n j := by
  obtain ⟨a, b, rfl⟩ : ∃ a b, j = ix2 a b := ⟨j 0, j 1, eq_ix2 j⟩
  unfold scAt0_0 addend
  rw [dif_neg hn, dif_pos h]
  by_cases h1 : n % 6 = 5
  · rw [dif_pos h1, sout_last, step_apply]
  · rw [dif_neg h1, sout_middle, step_apply]

/-- The accumulator after the last of a column block's six steps. -/
theorem scratch_last (c : Dev nD) (t : Fin cfg0.N) (h : t.val % 6 = 5) (j : S1024x384.Idx) :
    (outsAt0 m c t.val t.isLt).2 j = ∑ s ∈ Finset.range 6, addend m c (6 * (t.val / 6) + s) j := by
  rw [soutsAt0_0_eq]
  refine (Pipeline.accAt_add_apply _ _ (fun _ => 0) (addend m c) (6 * (t.val / 6)) 5
    (fun hb i => scAt_first m c _ hb (by omega) _ i) (fun n hb v i h1 h2 => scAt_next m c n hb (by omega) v i) (t.val % 6)
    (by omega) _ j).trans ?_
  rw [h, zero_add]

theorem outs_last (c : Dev nD) (t : Fin cfg0.N) (h : t.val % 6 = 5) :
    (outsAt0 m c t.val t.isLt).1 = k0_pay3 (outsAt0 m c t.val t.isLt).2 := by
  rw [outsAt0_C m c t (by omega) h, out_last, sout_last]

/-- THE RESULT at an entry: the sum over all token rows. -/
theorem result_apply (c : Dev nD) (q : Fin 4) (a : Fin 1024) (b : Fin 384) :
    G2 m c (ix3 q a b) = ∑ k : Fin 8448, rows m c (ix2 k a) * cots m c (ix2 k ⟨q.val * 384 + b.val, by omega⟩) := by
  have hN : cfg0.N = 24 := N_0
  have hp : pt2Of (ix3 q a b) = 6 * q.val + 5 := by
    show 6 * (1 * (q.val / 1 - 0) + 1 * (a.val / 1024 - 0) + 1 * (b.val / 384 - 0)) + 5 = _
    have := a.isLt; have := b.isLt; omega
  have hl : loc2Of (ix3 q a b) = ix3 (0 : Fin 1) a b := by
    funext e
    apply Fin.ext
    match e with
    | ⟨0, _⟩ => exact Nat.mod_one _
    | ⟨1, _⟩ => exact Nat.mod_eq_of_lt a.isLt
    | ⟨2, _⟩ => exact Nat.mod_eq_of_lt b.isLt
  have ht : 6 * q.val + 5 < cfg0.N := by have := q.isLt; omega
  unfold G2
  rw [dif_pos (by rw [hp]; exact ht), hl, fold0_congr m c _ _ (6 * q.val + 5) (by omega) hp,
    ← outsAt0_sweep m c (6 * q.val + 5) ht, outs_last m c ⟨_, ht⟩ (by dsimp only; omega), store_apply,
    scratch_last m c ⟨_, ht⟩ (by dsimp only; omega)]
  have hd : (6 * q.val + 5) / 6 = q.val := by omega
  dsimp only
  rw [hd]
  refine Cert.Products.sweep 6 1408 8448 rfl q.val (fun n => addend m c n (ix2 a b)) _ fun s hs => ?_
  have hq := q.isLt
  unfold addend
  rw [dif_pos (by omega)]
  refine Finset.sum_congr rfl fun k _ => ?_
  have hm : (6 * q.val + s) % 6 = s := by omega
  have hd : (6 * q.val + s) / 6 = q.val := by omega
  rw [block0 m c _ k a (by dsimp only; omega), block1 m c _ k b (by dsimp only; omega) (by dsimp only; omega)]
  simp only [hm, hd]

end Cert.Kernel10Ideal.Value

namespace Cert.QkvColumns

open Idealize.ShloMosaic Idealize.ShloMosaic.TcCoe Idealize.SL.Sem Idealize.ShloMosaic.ValueIdx

/-- The reference's gradient at an entry: the same sum, the factors in the other order. -/
theorem reference_apply (x : Vec Ideal ⟨2, ![8448, 1024]⟩ .bf16) (y : Vec Ideal ⟨2, ![8448, 1536]⟩ .bf16)
    (q : Fin 4) (a : Fin 1024) (b : Fin 384) :
    Cert.Reference10Ideal.Read.val_main_v11 (F := Ideal) x y (ix3 q a b)
      = ∑ k : Fin 8448, x (ix2 k a) * y (ix2 k ⟨q.val * 384 + b.val, by omega⟩) := by
  have hq := q.isLt
  have ha := a.isLt
  have hb := b.isLt
  rw [Cert.Reference10Ideal.Read.val_main_v11_apply]
  refine Eq.trans (b := Cert.Reference10Ideal.Read.val_main_v10 (F := Ideal) x y (ix3 q a b)) rfl ?_
  rw [Cert.Reference10Ideal.Read.val_main_v10_apply, Cert.Reference10Ideal.Read.val_main_v9_apply,
    Cert.Reference10Ideal.Read.val_main_v7_apply, Cert.Reference10Ideal.Read.val_main_v6_apply]
  refine Finset.sum_congr rfl fun k _ => ?_
  rw [mul_comm, Cert.Reference10Ideal.Read.val_main_v0_apply, Cert.Reference10Ideal.Read.val_main_v5_apply]
  refine congrArg₂ (· * ·) (congrArg x ?_) (congrArg y ?_)
  · funext e
    apply Fin.ext
    match e with
    | ⟨0, _⟩ => rfl
    | ⟨1, _⟩ => show ((a.val * 4 + q.val) * 384 + b.val) / 1536 = a.val; omega
  · funext e
    apply Fin.ext
    match e with
    | ⟨0, _⟩ => rfl
    | ⟨1, _⟩ => show ((a.val * 4 + q.val) * 384 + b.val) % 1536 = q.val * 384 + b.val; omega

/-- The kernel and the reference leave the same array. -/
theorem result_eq (m : (ℓ : Loc Cert.Kernel10Ideal.nD Cert.Kernel10Ideal.τ Cert.Kernel10Ideal.sig) → Buf (Elt Ideal) ℓ)
    (c : Dev Cert.Kernel10Ideal.nD) :
    Cert.Kernel10Ideal.Value.G2 m c
      = Cert.Reference10Ideal.Read.val_main_v11 (F := Ideal) (Cert.Kernel10Ideal.Value.rows m c) (Cert.Kernel10Ideal.Value.cots m c) := by
  funext i
  obtain ⟨q, a, b, rfl⟩ : ∃ (q : Fin 4) (a : Fin 1024) (b : Fin 384), i = ix3 q a b := ⟨i 0, i 1, i 2, eq_ix3 i⟩
  rw [Cert.Kernel10Ideal.Value.result_apply, reference_apply]

theorem algebraic : Cert.algebraic_Kernel10Ideal_Reference10Ideal := fun m g m' g' _ hagree =>
  ⟨fun c => Cert.Kernel10Ideal.Value.G2 m c, Cert.Kernel10Ideal.Value.run m g,
    (θ_run Cert.Reference10Ideal.defs _ _).mono (fun _ h c => ⟨(h c).1.trans (by
      rw [(hagree c).1, (hagree c).2.2, Cert.Reference10Ideal.Read.val_main_v11_eq]
      exact (result_eq m c).symm), (h c).2⟩) (Cert.Reference10Ideal.Value.run (F := Ideal) m' g')⟩

end Cert.QkvColumns

end
-- ==== Proof.UpRuns.lean ====
/- What the two cases of the run of the kernel body share: the branch condition and the memory of the windows. -/
module

public import proofs.«01_k».proof.Proof.Gen.Kernel11Ideal.Frame
public import proofs.«01_k».proof.Proof.Gen.Kernel11Ideal.Launch
public import proofs.«01_k».proof.Proof.Gen.Kernel11Ideal.Skeleton
public import proofs.«01_k».proof.Proof.Gen.Kernel11Ideal.Points
public import Idealize.ShloMosaic.Lib.Pipeline.FrameBody
public import Idealize.ShloMosaic.Lib.Ring
public import Idealize.ShloMosaic.Lib.Tactic
public import Idealize.ShloMosaic.Lib.WordCmp

@[expose] public section

-- the blocks have long axes
set_option maxRecDepth 16384

noncomputable section

namespace Cert.Kernel11Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the point. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, e0]
    word_cmp
   : ∀ t : Fin grid0.N, cond0_0 (grid0.coords t) ↔ t.val % 33 = 0)

/-! ## The memory of the windows -/

/-- One staging buffer of output window 11, through which its contents are stated (which one does not matter). -/
abbrev VO0_11 : View sig .tc .vmem S256x5632 .bf16 := (Memref.whole cc0_stg11_0 : Memref sig .tc .vmem S256x5632 .bf16).view
/-- One staging buffer of output window 12, through which its contents are stated (which one does not matter). -/
abbrev VO0_12 : View sig .tc .vmem S256x1024 .f32 := (Memref.whole cc0_stg12_0 : Memref sig .tc .vmem S256x1024 .f32).view
/-- One staging buffer of output window 13, through which its contents are stated (which one does not matter). -/
abbrev VO0_13 : View sig .tc .vmem S256x1024 .bf16 := (Memref.whole cc0_stg13_0 : Memref sig .tc .vmem S256x1024 .bf16).view
/-- One staging buffer of output window 14, through which its contents are stated (which one does not matter). -/
abbrev VO0_14 : View sig .tc .vmem S2x2x8x1024 .f32 := (Memref.whole cc0_stg14_0 : Memref sig .tc .vmem S2x2x8x1024 .f32).view
/-- One staging buffer of output window 15, through which its contents are stated (which one does not matter). -/
abbrev VO0_15 : View sig .tc .vmem S8x1024 .f32 := (Memref.whole cc0_stg15_0 : Memref sig .tc .vmem S8x1024 .f32).view
/-- One staging buffer of output window 16, through which its contents are stated (which one does not matter). -/
abbrev VO0_16 : View sig .tc .vmem S2x8x1024 .f32 := (Memref.whole cc0_stg16_0 : Memref sig .tc .vmem S2x8x1024 .f32).view
/-- Each window's current staging memref at point `t`, spelled as the pipeline passes it (`bodyAt0`), and its wholeness. -/
abbrev ms0_0 (t : Fin cfg0.N) : Memref sig .tc .vmem S16x5632 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x5632 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x5632 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x5632 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x1024x1408 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x6x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x6x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x5632 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S2x2x8x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S8x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S2x8x1024 .f32 := win0_16.stage (cfg0.slots t 16)
abbrev hs0_16 (t : Fin cfg0.N) : (ms0_16 t).IsWhole := hstage0_16 ((cfg0.slots t 16).cast nbuf0_16)

end Cert.Kernel11Ideal.Gen

end
-- ==== Proof.UpRunA.lean ====
/- The run of the kernel body at the first grid point, where the accumulators are zeroed. -/
module

public import proofs.«01_k».proof.Proof.UpRuns

@[expose] public section

-- the blocks have long axes
set_option maxRecDepth 16384

noncomputable section

namespace Cert.Kernel11Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the body is long
set_option maxHeartbeats 2000000 in
/-- What the body's stores leave in each output's staging memref, as pieces (last first) in case A (the first point), with the
    proof that on whole staging memrefs — the inputs' at their contents, the other outputs' at
    anything, the body runs to the continuation holding the inputs' as they were,
    each output's buffer with its pieces written. -/
noncomputable def kernelRun0_A (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) :
    Σ' (L11 : List (View.Piece (Elt F) S256x5632 .bf16)), Σ' (L12 : List (View.Piece (Elt F) S256x1024 .f32)), Σ' (L13 : List (View.Piece (Elt F) S256x1024 .bf16)), Σ' (L14 : List (View.Piece (Elt F) S2x2x8x1024 .f32)), Σ' (L15 : List (View.Piece (Elt F) S8x1024 .f32)), { L16 : List (View.Piece (Elt F) S2x8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc0_ffn_up_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc0_ffn_up_bwd_eq_skeleton]; unfold cc0_ffn_up_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    -- the accumulator's cells were all zeroed first, so reading any box of it after the first of the two blocks is added
    -- gives what was stored
    have hrd : ∀ (hrdW : (Rect.unit (s := S2x2x8x1024) (k0_off2 i) S1x1x8x1024.size (k0_off2_inb i)).shape.Idx → Elt F .f32) (hrdZ : (Rect.unit (s := S2x2x8x1024) ![0, 0, 0, 0] S2x2x8x1024.size inb_S2x2x8x1024_S2x2x8x1024_0_0_0_0).shape.Idx → Elt F .f32) (hrdF : BufTy.Contents (Elt F) arg15.view.ty) (hrdB : LoadRect S2x2x8x1024), arg15.view.readAt (Elt F) hrdB (arg15.view.writes (Elt F) hrdF [⟨Rect.unit (s := S2x2x8x1024) (k0_off2 i) S1x1x8x1024.size (k0_off2_inb i), hrdW⟩, ⟨Rect.unit (s := S2x2x8x1024) ![0, 0, 0, 0] S2x2x8x1024.size inb_S2x2x8x1024_S2x2x8x1024_0_0_0_0, hrdZ⟩]) = arg15.view.readCov [⟨Rect.unit (s := S2x2x8x1024) (k0_off2 i) S1x1x8x1024.size (k0_off2_inb i), hrdW⟩, ⟨Rect.unit (s := S2x2x8x1024) ![0, 0, 0, 0] S2x2x8x1024.size inb_S2x2x8x1024_S2x2x8x1024_0_0_0_0, hrdZ⟩] hrdB :=
      fun hrdW hrdZ hrdF hrdB => View.readAt_writes_of_cover _ hrdF _ hrdB (fun hrdJ => View.cover_of_wholeMem _ (View.Piece.wholeMem_cons (View.Piece.wholeMem_here (decide_eq_true ⟨(show ∀ a : Fin 4, (![0, 0, 0, 0] : Fin 4 → ℕ) a = 0 by decide), fun _ => rfl, fun _ => rfl⟩))) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.Kernel11Ideal.Gen

end
-- ==== Proof.UpRunB.lean ====
/- The run of the kernel body at the later grid points, where the accumulators carry on. -/
module

public import proofs.«01_k».proof.Proof.UpRunA

@[expose] public section

-- the blocks have long axes
set_option maxRecDepth 16384

noncomputable section

namespace Cert.Kernel11Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the body is long
set_option maxHeartbeats 1976000 in
/-- What the body's stores leave in each output's staging memref, as pieces (last first) in case B (the later points), with the
    proof that on whole staging memrefs — the inputs' at their contents, the outputs it reads before covering (14, 15, 16) at their running contents `xo·`, the other outputs' at
    anything, the body runs to the continuation holding the inputs' as they were,
    each output's buffer with its pieces written. -/
noncomputable def kernelRun0_B (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : ¬cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) (xo14 : Vec F S2x2x8x1024 .f32) (xo15 : Vec F S8x1024 .f32) (xo16 : Vec F S2x8x1024 .f32) :
    Σ' (L11 : List (View.Piece (Elt F) S256x5632 .bf16)), Σ' (L12 : List (View.Piece (Elt F) S256x1024 .f32)), Σ' (L13 : List (View.Piece (Elt F) S256x1024 .bf16)), Σ' (L14 : List (View.Piece (Elt F) S2x2x8x1024 .f32)), Σ' (L15 : List (View.Piece (Elt F) S8x1024 .f32)), { L16 : List (View.Piece (Elt F) S2x8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xo14 ∗ owns (c : Thread nD τ) arg16 fullShare xo15 ∗ owns (c : Thread nD τ) arg17 fullShare xo16
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (arg15.view.loc (c : Thread nD τ) ↦[arg15.view.set]{fullShare} arg15.view.writes (Elt F) (harg15.unread xo14) L14) ∗ (∃ f, arg16.view.loc (c : Thread nD τ) ↦[arg16.view.set]{fullShare} arg16.view.writes (Elt F) f L15) ∗ (arg17.view.loc (c : Thread nD τ) ↦[arg17.view.set]{fullShare} arg17.view.writes (Elt F) (harg17.unread xo16) L16)) -∗ K ⟨⟩))
          ⊢ wp frame (wpE (defs₀ (F := F)) Variants.none c none) E (cc0_ffn_up_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc0_ffn_up_bwd_eq_skeleton]; unfold cc0_ffn_up_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%f16, %hf16, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg15.eq_unread hf14; obtain rfl := harg16.eq_unread hf15; obtain rfl := harg17.eq_unread hf16
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexact H14
    isplitl [H15]; · iexists _; iexact H15
    iexact H16

end Cert.Kernel11Ideal.Gen

end
-- ==== Proof.UpFrame.lean ====
/- The frame of the ideal gradient of the up-projection: what each grid point leaves in each output, point after point. -/
module

public import proofs.«01_k».proof.Proof.UpRunB
public import Idealize.ShloMosaic.Lib.Claim

@[expose] public section

-- the blocks have long axes
set_option maxRecDepth 16384

noncomputable section

namespace Cert.Kernel11Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 11 tile its block (44 stores of `S256x128`), so they cover it. -/
theorem cover0_A_11 (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) (y : S256x5632.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).1 S256x128.size (by sl_kernel_rfl) y

/-- What case A leaves in output 11's staging buffer: its pieces read back over junk. -/
def out0_A_11 (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) : Vec F S256x5632 .bf16 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).1)

/-- Case A's pieces for output 12 tile its block (1 store of `S256x1024`), so they cover it. -/
theorem cover0_A_12 (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.1 S256x1024.size (by sl_kernel_rfl) y

/-- What case A leaves in output 12's staging buffer: its pieces read back over junk. -/
def out0_A_12 (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) : Vec F S256x1024 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.1)

/-- Case A's pieces for output 13 tile its block (1 store of `S256x1024`), so they cover it. -/
theorem cover0_A_13 (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.1 S256x1024.size (by sl_kernel_rfl) y

/-- What case A leaves in output 13's staging buffer: its pieces read back over junk. -/
def out0_A_13 (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) : Vec F S256x1024 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.1)

/-- In case A the whole of output 14's block is zeroed first, so the pieces cover it wherever the others fall. -/
theorem cover0_A_14 (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) (y : S2x2x8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.1 (by sl_whole_mem) y

/-- What case A leaves in output 14's staging buffer: its pieces read back over junk. -/
def out0_A_14 (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) : Vec F S2x2x8x1024 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.1)

/-- Case A's pieces for output 15 tile its block (2 stores of `S8x1024`), so they cover it. -/
theorem cover0_A_15 (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) (y : S8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.2.1 S8x1024.size (by sl_kernel_rfl) y

/-- What case A leaves in output 15's staging buffer: its pieces read back over junk. -/
def out0_A_15 (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) : Vec F S8x1024 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.2.1)

/-- In case A the whole of output 16's block is zeroed first, so the pieces cover it wherever the others fall. -/
theorem cover0_A_16 (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) (y : S2x8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.2.2.1 (by sl_whole_mem) y

/-- What case A leaves in output 16's staging buffer: its pieces read back over junk. -/
def out0_A_16 (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) : Vec F S2x8x1024 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).2.2.2.2.2.1)

/-- Case B's pieces for output 11 tile its block (44 stores of `S256x128`), so they cover it. -/
theorem cover0_B_11 (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : ¬cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) (xo14 : Vec F S2x2x8x1024 .f32) (xo15 : Vec F S8x1024 .f32) (xo16 : Vec F S2x8x1024 .f32) (y : S256x5632.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo14 xo15 xo16).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo14 xo15 xo16).1 S256x128.size (by sl_kernel_rfl) y

/-- What case B leaves in output 11's staging buffer: its pieces read back over junk. -/
def out0_B_11 (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : ¬cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) (xo14 : Vec F S2x2x8x1024 .f32) (xo15 : Vec F S8x1024 .f32) (xo16 : Vec F S2x8x1024 .f32) : Vec F S256x5632 .bf16 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo14 xo15 xo16).1)

/-- Case B's pieces for output 12 tile its block (1 store of `S256x1024`), so they cover it. -/
theorem cover0_B_12 (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : ¬cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) (xo14 : Vec F S2x2x8x1024 .f32) (xo15 : Vec F S8x1024 .f32) (xo16 : Vec F S2x8x1024 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo14 xo15 xo16).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo14 xo15 xo16).2.1 S256x1024.size (by sl_kernel_rfl) y

/-- What case B leaves in output 12's staging buffer: its pieces read back over junk. -/
def out0_B_12 (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : ¬cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) (xo14 : Vec F S2x2x8x1024 .f32) (xo15 : Vec F S8x1024 .f32) (xo16 : Vec F S2x8x1024 .f32) : Vec F S256x1024 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo14 xo15 xo16).2.1)

/-- Case B's pieces for output 13 tile its block (1 store of `S256x1024`), so they cover it. -/
theorem cover0_B_13 (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : ¬cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) (xo14 : Vec F S2x2x8x1024 .f32) (xo15 : Vec F S8x1024 .f32) (xo16 : Vec F S2x8x1024 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo14 xo15 xo16).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo14 xo15 xo16).2.2.1 S256x1024.size (by sl_kernel_rfl) y

/-- What case B leaves in output 13's staging buffer: its pieces read back over junk. -/
def out0_B_13 (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : ¬cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) (xo14 : Vec F S2x2x8x1024 .f32) (xo15 : Vec F S8x1024 .f32) (xo16 : Vec F S2x8x1024 .f32) : Vec F S256x1024 .bf16 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo14 xo15 xo16).2.2.1)

/-- What case B leaves in output 14's staging buffer: its stores read back over what the point before left there (they do not cover the block). -/
def out0_B_14 (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : ¬cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) (xo14 : Vec F S2x2x8x1024 .f32) (xo15 : Vec F S8x1024 .f32) (xo16 : Vec F S2x8x1024 .f32) : Vec F S2x2x8x1024 .f32 :=
  arg15.view.read (Elt F) (arg15.view.writes (Elt F) (harg15.unread xo14) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo14 xo15 xo16).2.2.2.1)

/-- Case B's pieces for output 15 tile its block (1 store of `S8x1024`), so they cover it. -/
theorem cover0_B_15 (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : ¬cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) (xo14 : Vec F S2x2x8x1024 .f32) (xo15 : Vec F S8x1024 .f32) (xo16 : Vec F S2x8x1024 .f32) (y : S8x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo14 xo15 xo16).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo14 xo15 xo16).2.2.2.2.1 S8x1024.size (by sl_kernel_rfl) y

/-- What case B leaves in output 15's staging buffer: its pieces read back over junk. -/
def out0_B_15 (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : ¬cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) (xo14 : Vec F S2x2x8x1024 .f32) (xo15 : Vec F S8x1024 .f32) (xo16 : Vec F S2x8x1024 .f32) : Vec F S8x1024 .f32 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo14 xo15 xo16).2.2.2.2.1)

/-- What case B leaves in output 16's staging buffer: its stores read back over what the point before left there (they do not cover the block). -/
def out0_B_16 (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole) (hc0 : ¬cond0_0 i)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32) (xo14 : Vec F S2x2x8x1024 .f32) (xo15 : Vec F S8x1024 .f32) (xo16 : Vec F S2x8x1024 .f32) : Vec F S2x8x1024 .f32 :=
  arg17.view.read (Elt F) (arg17.view.writes (Elt F) (harg17.unread xo16) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo14 xo15 xo16).2.2.2.2.2.1)

/-! ## What the outputs hold after each point -/

/-- What the outputs' buffers hold after the body at point `n`, in the order of the outputs: the first point's case at the
    first, the later points' case after it, which starts its sums from what the point before left. -/
def outsAt0 (c : Dev nD) : (n : ℕ) → n < cfg0.N → Vec F S256x5632 .bf16 × Vec F S256x1024 .f32 × Vec F S256x1024 .bf16 × Vec F S2x2x8x1024 .f32 × Vec F S8x1024 .f32 × Vec F S2x8x1024 .f32
  | 0, hn => (out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩))
  | n + 1, hn =>
    if h0 : (n + 1) % 33 = 0 then
      (out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩))
    else
      (out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 33 = 0) :
    outsAt0 m c t.val t.isLt = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 33 = 0) :
    outsAt0 m c t.val t.isLt = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; nothing owed; and each input's share of its
    array, an array that several inputs read being dealt among them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
    | ⟨13, _⟩ => (outsAt0 m c t.val t.isLt).2.2.1
    | ⟨14, _⟩ => (outsAt0 m c t.val t.isLt).2.2.2.1
    | ⟨15, _⟩ => (outsAt0 m c t.val t.isLt).2.2.2.2.1
    | ⟨16, _⟩ => (outsAt0 m c t.val t.isLt).2.2.2.2.2
    | ⟨_ + 17, h⟩ => absurd h (Nat.not_lt.2 (Nat.le_add_left _ _))
  Φ _ := Pipeline.ΦA spec0 c
  q w := Pipeline.shareOf spec0 w
  owed _ := 0

/-- The proof data's arrays are what the call finds there. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]
theorem after0_14 (c : Dev nD) (t : Fin cfg0.N) : (dats m 0 c).after 14 t = (outsAt0 m c t.val t.isLt).2.2.2.1 := by dsimp only [dats]
theorem after0_15 (c : Dev nD) (t : Fin cfg0.N) : (dats m 0 c).after 15 t = (outsAt0 m c t.val t.isLt).2.2.2.2.1 := by dsimp only [dats]
theorem after0_16 (c : Dev nD) (t : Fin cfg0.N) : (dats m 0 c).after 16 t = (outsAt0 m c t.val t.isLt).2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
/-- At a point of case B output 14's current staging buffer holds what the body left at the point before: the point is
    not the first, the buffer was not written back between (`flush0_14`), and the whole of it is kept. -/
theorem before0_14_B (c : Dev nD) (t : Fin cfg0.N) (h0 : ¬t.val % 33 = 0) (d) :
    (dats m 0 c).before 14 t d = (outsAt0 m c (t.val - 1) (Nat.lt_of_le_of_lt (Nat.sub_le _ _) t.isLt)).2.2.2.1 := by
  have hN : t.val < 33 := lt_of_lt_of_eq t.isLt (show cfg0.N = 33 from N_0)
  rw [Dat.before_out_kept _ 14 rfl t (by omega) (Bool.eq_false_iff.mpr fun h => by have := (flush0_14 _).mp h; dsimp only at this; omega)
    (fun _ => rfl) (fun _ _ => rfl)]
  dsimp only [dats]
/-- At a point of case B output 15's current staging buffer holds what the body left at the point before: the point is
    not the first, the buffer was not written back between (`flush0_15`), and the whole of it is kept. -/
theorem before0_15_B (c : Dev nD) (t : Fin cfg0.N) (h0 : ¬t.val % 33 = 0) (d) :
    (dats m 0 c).before 15 t d = (outsAt0 m c (t.val - 1) (Nat.lt_of_le_of_lt (Nat.sub_le _ _) t.isLt)).2.2.2.2.1 := by
  have hN : t.val < 33 := lt_of_lt_of_eq t.isLt (show cfg0.N = 33 from N_0)
  rw [Dat.before_out_kept _ 15 rfl t (by omega) (Bool.eq_false_iff.mpr fun h => by have := (flush0_15 _).mp h; dsimp only at this; omega)
    (fun _ => rfl) (fun _ _ => rfl)]
  dsimp only [dats]
/-- At a point of case B output 16's current staging buffer holds what the body left at the point before: the point is
    not the first, the buffer was not written back between (`flush0_16`), and the whole of it is kept. -/
theorem before0_16_B (c : Dev nD) (t : Fin cfg0.N) (h0 : ¬t.val % 33 = 0) (d) :
    (dats m 0 c).before 16 t d = (outsAt0 m c (t.val - 1) (Nat.lt_of_le_of_lt (Nat.sub_le _ _) t.isLt)).2.2.2.2.2 := by
  have hN : t.val < 33 := lt_of_lt_of_eq t.isLt (show cfg0.N = 33 from N_0)
  rw [Dat.before_out_kept _ 16 rfl t (by omega) (Bool.eq_false_iff.mpr fun h => by have := (flush0_16 _).mp h; dsimp only at this; omega)
    (fun _ => rfl) (fun _ _ => rfl)]
  dsimp only [dats]

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 3200000 in
/-- The body at any point: the inputs' memrefs hold their blocks (`before0_W`); the point is the first or a later one,
    where the sums hold what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  have hN : t.val < 33 := lt_of_lt_of_eq t.isLt (show cfg0.N = 33 from N_0)
  by_cases h0 : t.val % 33 = 0
  · rw [outsAt0_A m c t h0]
    unfold out0_A_11 out0_A_12 out0_A_13 out0_A_14 out0_A_15 out0_A_16; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRun0_A c (grid0.coords t) _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iintro ⟨H0, H1, H2, H3, H4, H5, H6, H7, H8, H9, H10, ⟨%e11, H11⟩, ⟨%e12, H12⟩, ⟨%e13, H13⟩, ⟨%e14, H14⟩, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _)
    unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _)
  · rw [outsAt0_B m c t h0]
    simp only [before0_14_B m c t h0, before0_15_B m c t h0, before0_16_B m c t h0]
    unfold out0_B_11 out0_B_12 out0_B_13 out0_B_14 out0_B_15 out0_B_16; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRun0_B c (grid0.coords t) _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexact H14
    isplitl [H15]; · iexact H15
    isplitl [H16]; · iexact H16
    iintro ⟨H0, H1, H2, H3, H4, H5, H6, H7, H8, H9, H10, ⟨%e11, H11⟩, ⟨%e12, H12⟩, ⟨%e13, H13⟩, H14, ⟨%e15, H15⟩, H16⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; rfl
    isplitl [H15]
    · unfold owns; iexists _; isplitr
      swap; · iexact H15
      ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H16
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body does at every point what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run of the program, with every counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- From any memory with zero counters the program ends, with every array of the call at what the points wrote back and
    every other buffer as the call found it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the program ends with its arguments unchanged and every counter at zero, over any format of numbers. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel11Ideal.Gen

end
-- ==== Proof.UpValue.lean ====
/- What the run of the whole grid leaves in each output array. -/
module

public import proofs.«01_k».proof.Proof.UpFrame
public import Idealize.ShloMosaic.Lib.Pipeline.Value

@[expose] public section

noncomputable section

namespace Cert.Kernel11Ideal.Value

open Cert.Kernel11Ideal Cert.Kernel11Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- What point `t` writes back to output 11's array: what the run leaves in its buffer, read through the block. -/
theorem flushed11 (c : Dev nD) (t : Fin cfg0.N) :
    (dats m 0 c).flushed 11 t = (cfg0.win 11).cut (grid0.coords t) ((outsAt0 m c t.val t.isLt).1) := by
  show (cfg0.win 11).cut (grid0.coords t) ((dats m 0 c).after 11 t) = _
  rw [after0_11]

/-- At the first point that is what the case's stores leave there. -/
theorem flushed11_A (c : Dev nD) (t : Fin cfg0.N) (h0 : t.val % 33 = 0) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed11, outsAt0_A m c t h0]

/-- At a later point that is what the case's stores leave there. -/
theorem flushed11_B (c : Dev nD) (t : Fin cfg0.N) (h0 : ¬t.val % 33 = 0) :
    (dats m 0 c).flushed 11 t = (cfg0.win 11).cut (grid0.coords t) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed11, outsAt0_B m c t h0]

/-- Distinct points write distinct blocks. -/
theorem idx_inj11 : ∀ t t' : Fin cfg0.N, win0_11.index t = win0_11.index t' → t = t' :=
  (by decide +kernel : ∀ t t' : Fin grid0.N, win0_11.index t = win0_11.index t' → t = t')

/-- So two flushing points' blocks share no array index. -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- Block `t` of the final array is what point `t` wrote back, as no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- What point `t` writes back to output 12's array: what the run leaves in its buffer, read through the block. -/
theorem flushed12 (c : Dev nD) (t : Fin cfg0.N) :
    (dats m 0 c).flushed 12 t = (cfg0.win 12).cut (grid0.coords t) ((outsAt0 m c t.val t.isLt).2.1) := by
  show (cfg0.win 12).cut (grid0.coords t) ((dats m 0 c).after 12 t) = _
  rw [after0_12]

/-- At the first point that is what the case's stores leave there. -/
theorem flushed12_A (c : Dev nD) (t : Fin cfg0.N) (h0 : t.val % 33 = 0) :
    (dats m 0 c).flushed 12 t = (cfg0.win 12).cut (grid0.coords t) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed12, outsAt0_A m c t h0]

/-- At a later point that is what the case's stores leave there. -/
theorem flushed12_B (c : Dev nD) (t : Fin cfg0.N) (h0 : ¬t.val % 33 = 0) :
    (dats m 0 c).flushed 12 t = (cfg0.win 12).cut (grid0.coords t) (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed12, outsAt0_B m c t h0]

/-- Distinct points write distinct blocks. -/
theorem idx_inj12 : ∀ t t' : Fin cfg0.N, win0_12.index t = win0_12.index t' → t = t' :=
  (by decide +kernel : ∀ t t' : Fin grid0.N, win0_12.index t = win0_12.index t' → t = t')

/-- So two flushing points' blocks share no array index. -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- Block `t` of the final array is what point `t` wrote back, as no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- What point `t` writes back to output 13's array: what the run leaves in its buffer, read through the block. -/
theorem flushed13 (c : Dev nD) (t : Fin cfg0.N) :
    (dats m 0 c).flushed 13 t = (cfg0.win 13).cut (grid0.coords t) ((outsAt0 m c t.val t.isLt).2.2.1) := by
  show (cfg0.win 13).cut (grid0.coords t) ((dats m 0 c).after 13 t) = _
  rw [after0_13]

/-- At the first point that is what the case's stores leave there. -/
theorem flushed13_A (c : Dev nD) (t : Fin cfg0.N) (h0 : t.val % 33 = 0) :
    (dats m 0 c).flushed 13 t = (cfg0.win 13).cut (grid0.coords t) (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed13, outsAt0_A m c t h0]

/-- At a later point that is what the case's stores leave there. -/
theorem flushed13_B (c : Dev nD) (t : Fin cfg0.N) (h0 : ¬t.val % 33 = 0) :
    (dats m 0 c).flushed 13 t = (cfg0.win 13).cut (grid0.coords t) (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed13, outsAt0_B m c t h0]

/-- Distinct points write distinct blocks. -/
theorem idx_inj13 : ∀ t t' : Fin cfg0.N, win0_13.index t = win0_13.index t' → t = t' :=
  (by decide +kernel : ∀ t t' : Fin grid0.N, win0_13.index t = win0_13.index t' → t = t')

/-- So two flushing points' blocks share no array index. -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- Block `t` of the final array is what point `t` wrote back, as no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- After the run output 11's array holds what the points wrote back to it. -/
theorem post11 (r : PUnit × MemSt nD τ sig (Elt F)) (h : Pipeline.FramePost cfgs (dats m) 0 (V m) r) (c : Dev nD) :
    r.2.mem ((c : Thread nD τ).loc main_v0_0) = (dats m 0 c).arrAt 11 cfg0.N :=
  (h c).1 11

/-- After the run output 12's array holds what the points wrote back to it. -/
theorem post12 (r : PUnit × MemSt nD τ sig (Elt F)) (h : Pipeline.FramePost cfgs (dats m) 0 (V m) r) (c : Dev nD) :
    r.2.mem ((c : Thread nD τ).loc main_v0_1) = (dats m 0 c).arrAt 12 cfg0.N :=
  (h c).1 12

/-- After the run output 13's array holds what the points wrote back to it. -/
theorem post13 (r : PUnit × MemSt nD τ sig (Elt F)) (h : Pipeline.FramePost cfgs (dats m) 0 (V m) r) (c : Dev nD) :
    r.2.mem ((c : Thread nD τ).loc main_v0_2) = (dats m 0 c).arrAt 13 cfg0.N :=
  (h c).1 13

/-- After the run output 14's array holds what the points wrote back to it. -/
theorem post14 (r : PUnit × MemSt nD τ sig (Elt F)) (h : Pipeline.FramePost cfgs (dats m) 0 (V m) r) (c : Dev nD) :
    r.2.mem ((c : Thread nD τ).loc main_v0_3) = (dats m 0 c).arrAt 14 cfg0.N :=
  (h c).1 14

/-- After the run output 15's array holds what the points wrote back to it. -/
theorem post15 (r : PUnit × MemSt nD τ sig (Elt F)) (h : Pipeline.FramePost cfgs (dats m) 0 (V m) r) (c : Dev nD) :
    r.2.mem ((c : Thread nD τ).loc main_v0_4) = (dats m 0 c).arrAt 15 cfg0.N :=
  (h c).1 15

/-- After the run output 16's array holds what the points wrote back to it. -/
theorem post16 (r : PUnit × MemSt nD τ sig (Elt F)) (h : Pipeline.FramePost cfgs (dats m) 0 (V m) r) (c : Dev nD) :
    r.2.mem ((c : Thread nD τ).loc main_v0_5) = (dats m 0 c).arrAt 16 cfg0.N :=
  (h c).1 16

/-- After the run argument 0 is as it was: input 2 reads it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the run argument 1 is as it was: input 3 reads it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- After the run argument 2 is as it was: input 4 reads it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- After the run argument 3 is as it was: input 5 reads it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- After the run argument 4 is as it was: input 6 reads it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 6).trans (((dats m 0 c).arrAt_in 6 rfl _).trans ((A_eq m c 6).trans (V_main_arg4 m c)))

/-- After the run argument 5 is as it was: input 10 reads it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 10).trans (((dats m 0 c).arrAt_in 10 rfl _).trans ((A_eq m c 10).trans (V_main_arg5 m c)))

/-- After the run argument 6 is as it was: input 8 reads it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 8).trans (((dats m 0 c).arrAt_in 8 rfl _).trans ((A_eq m c 8).trans (V_main_arg6 m c)))

/-- After the run argument 7 is as it was: input 9 reads it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 9).trans (((dats m 0 c).arrAt_in 9 rfl _).trans ((A_eq m c 9).trans (V_main_arg7 m c)))

/-- After the whole run each output array holds what the points wrote back, and the arguments are unchanged. -/
theorem run_blocks : θ_run defs (onTc (τ := τ) (main (F := F))) ⟨m, fun _ => 0, ρ⟩ fun r => ∀ c : Dev nD,
      r.2.mem ((c : Thread nD τ).loc main_v0_0) = (dats m 0 c).arrAt 11 cfg0.N
      ∧ r.2.mem ((c : Thread nD τ).loc main_v0_1) = (dats m 0 c).arrAt 12 cfg0.N
      ∧ r.2.mem ((c : Thread nD τ).loc main_v0_2) = (dats m 0 c).arrAt 13 cfg0.N
      ∧ r.2.mem ((c : Thread nD τ).loc main_v0_3) = (dats m 0 c).arrAt 14 cfg0.N
      ∧ r.2.mem ((c : Thread nD τ).loc main_v0_4) = (dats m 0 c).arrAt 15 cfg0.N
      ∧ r.2.mem ((c : Thread nD τ).loc main_v0_5) = (dats m 0 c).arrAt 16 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post11 m r h c,
      post12 m r h c,
      post13 m r h c,
      post14 m r h c,
      post15 m r h c,
      post16 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.Kernel11Ideal.Value

end
-- ==== Proof.UpBlock.lean ====
/-
  The three transposed taps on a block of 256 token rows, column step by column step, at the ideal values.
-/
module

public import proofs.«01_k».proof.Proof.UpValue
public import proofs.«01_k».proof.Proof.Products
public import Idealize.ShloMosaic.Lib.Pipeline.ValueKit.Tiles
public import Idealize.ShloMosaic.Lib.KernelVsHost

@[expose] public section

set_option maxRecDepth 16384

noncomputable section

namespace Cert.Kernel11Ideal.Block
open Idealize.ShloMosaic Idealize.ShloMosaic.TcCoe Cert.Kernel11Ideal.Gen
variable {F : FTy → Type} [FloatOps F]

/-- 128 columns lie in the block, … -/
theorem inb_big (j : ℕ) (hj : j < 44) (a : Fin 2) :
    (![0, 128 * j] : Fin 2 → ℕ) a + S256x128.size a ≤ S256x5632.size a := by
  fin_cases a
  · show 0 + 256 ≤ 256; omega
  · show 128 * j + 128 ≤ 5632; omega

/-- … in a halo … -/
theorem inb_halo (j : ℕ) (hj : j < 44) (a : Fin 2) :
    (![0, 128 * j] : Fin 2 → ℕ) a + S16x128.size a ≤ S16x5632.size a := by
  fin_cases a
  · show 0 + 16 ≤ 16; omega
  · show 128 * j + 128 ≤ 5632; omega

/-- … and in a row of the taps. -/
theorem inb_tap (k : ℕ) (hk : k < 3) (j : ℕ) (hj : j < 44) (a : Fin 2) :
    (![k, 128 * j] : Fin 2 → ℕ) a + S1x128.size a ≤ S3x5632.size a := by
  fin_cases a
  · show k + 1 ≤ 3; omega
  · show 128 * j + 128 ≤ 5632; omega

section run
variable (p q : BitVec 1)
    (a1 : Memref sig .tc .vmem S16x5632 .bf16) (h1 : a1.IsWhole) (a2 : Memref sig .tc .vmem S256x5632 .bf16) (h2 : a2.IsWhole)
    (a3 : Memref sig .tc .vmem S16x5632 .bf16) (h3 : a3.IsWhole) (a4 : Memref sig .tc .vmem S3x5632 .f32) (h4 : a4.IsWhole)
    (x0 : Vec F S16x5632 .bf16) (x1 : Vec F S256x5632 .bf16) (x2 : Vec F S16x5632 .bf16) (x3 : Vec F S3x5632 .f32)

/-- What the body stores in 128 columns, from its loads. -/
def loadedPiece (j : ℕ) (hj : j < 44) : View.Piece (Elt F) S256x5632 .bf16 :=
  ⟨Rect.unit ![0, 128 * j] S256x128.size (inb_big j hj),
    k0_pay8 p q
      (View.readAt (Elt F) a1.view (Rect.unit (s := S16x5632) ![0, 128 * j] S16x128.size (inb_halo j hj)).toLoadRect (h1.unread x0))
      (View.readAt (Elt F) a3.view (Rect.unit (s := S16x5632) ![0, 128 * j] S16x128.size (inb_halo j hj)).toLoadRect (h3.unread x2))
      (View.readAt (Elt F) a2.view (Rect.unit (s := S256x5632) ![0, 128 * j] S256x128.size (inb_big j hj)).toLoadRect (h2.unread x1))
      (View.readAt (Elt F) a4.view (Rect.unit (s := S3x5632) ![0, 128 * j] S1x128.size (inb_tap 0 (by omega) j hj)).toLoadRect (h4.unread x3))
      (View.readAt (Elt F) a4.view (Rect.unit (s := S3x5632) ![1, 128 * j] S1x128.size (inb_tap 1 (by omega) j hj)).toLoadRect (h4.unread x3))
      (View.readAt (Elt F) a4.view (Rect.unit (s := S3x5632) ![2, 128 * j] S1x128.size (inb_tap 2 (by omega) j hj)).toLoadRect (h4.unread x3))⟩

/-- Its first `k` stores. -/
def loadedPieces : (k : ℕ) → k ≤ 44 → List (View.Piece (Elt F) S256x5632 .bf16)
  | 0, _ => []
  | k + 1, h => loadedPiece p q a1 h1 a2 h2 a3 h3 a4 h4 x0 x1 x2 x3 k (by omega) :: loadedPieces k (by omega)

/-- The same 128 columns from the blocks' contents. -/
def chunk (j : ℕ) (hj : j < 44) : FVec F S256x128 .bf16 :=
  k0_pay8 p q
    (View.ld x0 (Rect.unit (s := S16x5632) ![0, 128 * j] S16x128.size (inb_halo j hj)))
    (View.ld x2 (Rect.unit (s := S16x5632) ![0, 128 * j] S16x128.size (inb_halo j hj)))
    (View.ld x1 (Rect.unit (s := S256x5632) ![0, 128 * j] S256x128.size (inb_big j hj)))
    (View.ld x3 (Rect.unit (s := S3x5632) ![0, 128 * j] S1x128.size (inb_tap 0 (by omega) j hj)))
    (View.ld x3 (Rect.unit (s := S3x5632) ![1, 128 * j] S1x128.size (inb_tap 1 (by omega) j hj)))
    (View.ld x3 (Rect.unit (s := S3x5632) ![2, 128 * j] S1x128.size (inb_tap 2 (by omega) j hj)))

/-- The same stores, from the blocks' contents. -/
def pieces : (k : ℕ) → k ≤ 44 → List (View.Piece (Elt F) S256x5632 .bf16)
  | 0, _ => []
  | k + 1, h => ⟨Rect.unit ![0, 128 * k] S256x128.size (inb_big k (by omega)), chunk p q x0 x1 x2 x3 k (by omega)⟩ :: pieces k (by omega)

/-- A load gives the contents; … -/
theorem loadedPiece_eq (j : ℕ) (hj : j < 44) : loadedPiece p q a1 h1 a2 h2 a3 h3 a4 h4 x0 x1 x2 x3 j hj
    = ⟨Rect.unit ![0, 128 * j] S256x128.size (inb_big j hj), chunk p q x0 x1 x2 x3 j hj⟩ := by
  unfold loadedPiece chunk
  simp only [View.readAt_eq_ld, h1.read_unread, h2.read_unread, h3.read_unread, h4.read_unread]

/-- … so the two lists are one. -/
theorem loadedPieces_eq : (k : ℕ) → (hk : k ≤ 44) →
    loadedPieces p q a1 h1 a2 h2 a3 h3 a4 h4 x0 x1 x2 x3 k hk = pieces p q x0 x1 x2 x3 k hk
  | 0, _ => rfl
  | k + 1, hk => by
    unfold loadedPieces pieces
    rw [loadedPiece_eq, loadedPieces_eq k]
end run

/-! ## The stores of the body, the first 11, 22, 33 and all 44 of them -/

section lists
variable (c : Dev nD) (i : grid0.Coords) (a1 : Memref sig .tc .vmem S16x5632 .bf16) (h1 : a1.IsWhole) (a2 : Memref sig .tc .vmem S256x5632 .bf16) (h2 : a2.IsWhole)
  (a3 : Memref sig .tc .vmem S16x5632 .bf16) (h3 : a3.IsWhole) (a4 : Memref sig .tc .vmem S3x5632 .f32) (h4 : a4.IsWhole)
  (x0 : Vec F S16x5632 .bf16) (x1 : Vec F S256x5632 .bf16) (x2 : Vec F S16x5632 .bf16) (x3 : Vec F S3x5632 .f32)

/-- The first point's stores when a quarter of the columns is done, … -/
theorem list_A_11 : kernelRun0_A.sl.H11_11 c i a1 h1 a2 h2 a3 h3 a4 h4 x0 x1 x2 x3
    = loadedPieces (kernelRun0_A.sl.v4 i) (kernelRun0_A.sl.v7 i) a1 h1 a2 h2 a3 h3 a4 h4 x0 x1 x2 x3 11 (by omega) := rfl

/-- … a half, … -/
theorem list_A_22 : kernelRun0_A.sl.H11_22 c i a1 h1 a2 h2 a3 h3 a4 h4 x0 x1 x2 x3
    = loadedPieces (kernelRun0_A.sl.v4 i) (kernelRun0_A.sl.v7 i) a1 h1 a2 h2 a3 h3 a4 h4 x0 x1 x2 x3 22 (by omega) := rfl

/-- … three quarters, … -/
theorem list_A_33 : kernelRun0_A.sl.H11_33 c i a1 h1 a2 h2 a3 h3 a4 h4 x0 x1 x2 x3
    = loadedPieces (kernelRun0_A.sl.v4 i) (kernelRun0_A.sl.v7 i) a1 h1 a2 h2 a3 h3 a4 h4 x0 x1 x2 x3 33 (by omega) := rfl

/-- … and all. -/
theorem list_A_44 : kernelRun0_A.sl.H11_44 c i a1 h1 a2 h2 a3 h3 a4 h4 x0 x1 x2 x3
    = loadedPieces (kernelRun0_A.sl.v4 i) (kernelRun0_A.sl.v7 i) a1 h1 a2 h2 a3 h3 a4 h4 x0 x1 x2 x3 44 (by omega) := rfl

/-- A later point's, likewise. -/
theorem list_B_11 : kernelRun0_B.sl.H11_11 c i a1 h1 a2 h2 a3 h3 a4 h4 x0 x1 x2 x3
    = loadedPieces (kernelRun0_B.sl.v4 i) (kernelRun0_B.sl.v7 i) a1 h1 a2 h2 a3 h3 a4 h4 x0 x1 x2 x3 11 (by omega) := rfl

theorem list_B_22 : kernelRun0_B.sl.H11_22 c i a1 h1 a2 h2 a3 h3 a4 h4 x0 x1 x2 x3
    = loadedPieces (kernelRun0_B.sl.v4 i) (kernelRun0_B.sl.v7 i) a1 h1 a2 h2 a3 h3 a4 h4 x0 x1 x2 x3 22 (by omega) := rfl

theorem list_B_33 : kernelRun0_B.sl.H11_33 c i a1 h1 a2 h2 a3 h3 a4 h4 x0 x1 x2 x3
    = loadedPieces (kernelRun0_B.sl.v4 i) (kernelRun0_B.sl.v7 i) a1 h1 a2 h2 a3 h3 a4 h4 x0 x1 x2 x3 33 (by omega) := rfl

theorem list_B_44 : kernelRun0_B.sl.H11_44 c i a1 h1 a2 h2 a3 h3 a4 h4 x0 x1 x2 x3
    = loadedPieces (kernelRun0_B.sl.v4 i) (kernelRun0_B.sl.v7 i) a1 h1 a2 h2 a3 h3 a4 h4 x0 x1 x2 x3 44 (by omega) := rfl
end lists

section entry
open Idealize.ShloMosaic.ValueIdx
variable (p q : BitVec 1) (x0 : Vec Ideal S16x5632 .bf16) (x1 : Vec Ideal S256x5632 .bf16) (x2 : Vec Ideal S16x5632 .bf16) (x3 : Vec Ideal S3x5632 .f32)

/-- The row before row `r` of the block: the last halo row before the block when `r` is its first, if there is one. -/
def before (r : Fin 256) (b : Fin 5632) : EReal :=
  if r.val = 0 then (if p = 1#1 then x0 (ix2 15 b) else 0) else x1 (ix2 ⟨r.val - 1, by omega⟩ b)
/-- The row after it, likewise. -/
def after (r : Fin 256) (b : Fin 5632) : EReal :=
  if h : r.val + 1 < 256 then x1 (ix2 ⟨r.val + 1, h⟩ b) else (if q = 1#1 then x2 (ix2 0 b) else 0)
/-- The three taps transposed, at row `r` and column `b` of the block. -/
def tap (r : Fin 256) (b : Fin 5632) : EReal :=
  x3 (ix2 0 b) * after q x1 x2 r b + x3 (ix2 1 b) * x1 (ix2 r b) + x3 (ix2 2 b) * before p x0 x1 r b

/-- A choice between two blocks, entry by entry. -/
theorem select_apply {s : Shape} (p : BitVec 1) (x y : FVec Ideal s .f32) (j : s.Idx) :
    (Scalar.select p x y : FVec Ideal s .f32) j = if p = 1#1 then x j else y j := by
  unfold Scalar.select
  split
  · rename_i h
    exact (if_pos h).symm
  · rename_i h
    exact (if_neg h).symm

/-- The block with its two halos: 8 rows, 256 rows, 8 rows. -/
theorem halo_apply (u : FVec Ideal S8x128 .f32) (v : FVec Ideal S256x128 .f32) (w : FVec Ideal S8x128 .f32) (n : Fin 272) (l : Fin 128) :
    concatenate S272x128 0 [⟨S8x128, u⟩, ⟨S256x128, v⟩, ⟨S8x128, w⟩] concatenates_S8x128_S256x128_S8x128_S272x128_d0 (ix2 n l)
      = if h : n.val < 8 then u (ix2 ⟨n.val, h⟩ l) else if h' : n.val < 264 then v (ix2 ⟨n.val - 8, by omega⟩ l)
        else w (ix2 ⟨n.val - 264, by omega⟩ l) := by
  split
  · rename_i h
    exact concatenate_apply_piece (t := S272x128) 0 [⟨S8x128, u⟩, ⟨S256x128, v⟩, ⟨S8x128, w⟩] concatenates_S8x128_S256x128_S8x128_S272x128_d0 (ix2 n l)
      0 (show 0 < 3 by decide) S8x128 u rfl rfl 0 rfl (ix2 ⟨n.val, h⟩ l)
      (fun b hb => match b with | ⟨0, _⟩ => absurd rfl hb | ⟨1, _⟩ => rfl) (Nat.zero_add _)
  · split
    · rename_i h h'
      exact concatenate_apply_piece (t := S272x128) 0 [⟨S8x128, u⟩, ⟨S256x128, v⟩, ⟨S8x128, w⟩] concatenates_S8x128_S256x128_S8x128_S272x128_d0 (ix2 n l)
        1 (show 1 < 3 by decide) S256x128 v rfl rfl 8 rfl (ix2 ⟨n.val - 8, by omega⟩ l)
        (fun b hb => match b with | ⟨0, _⟩ => absurd rfl hb | ⟨1, _⟩ => rfl) (by show 8 + (n.val - 8) = n.val; omega)
    · rename_i h h'
      exact concatenate_apply_piece (t := S272x128) 0 [⟨S8x128, u⟩, ⟨S256x128, v⟩, ⟨S8x128, w⟩] concatenates_S8x128_S256x128_S8x128_S272x128_d0 (ix2 n l)
        2 (show 2 < 3 by decide) S8x128 w rfl rfl 264 rfl (ix2 ⟨n.val - 264, by omega⟩ l)
        (fun b hb => match b with | ⟨0, _⟩ => absurd rfl hb | ⟨1, _⟩ => rfl) (by show 264 + (n.val - 264) = n.val; omega)

/-- The block without its halos. -/
theorem plain_apply (e : FVec Ideal S272x128 .f32) (r : Fin 256) (l : Fin 128) :
    extractStridedSlice S256x128 ![8, 0] e slices_S272x128_o8_0_S256x128 (ix2 r l) = e (ix2 ⟨8 + r.val, by omega⟩ l) :=
  extractStridedSlice_apply (t := S256x128) ![8, 0] e slices_S272x128_o8_0_S256x128 (ix2 r l) (ix2 ⟨8 + r.val, by omega⟩ l)
    (fun a => match a with | ⟨0, _⟩ => rfl | ⟨1, _⟩ => (Nat.zero_add _).symm)

/-- The block moved by a row within its halos. -/
theorem shifted_apply (sb : BitVec 32) (s : ℕ) (hs : sb.toNat = s) (hs' : s = 1 ∨ s = 271) (e : FVec Ideal S272x128 .f32) (r : Fin 256) (l : Fin 128) :
    extractStridedSlice S256x128 ![8, 0] (dynamicRotate 0 sb none e rotates_S272x128_d0) slices_S272x128_o8_0_S256x128 (ix2 r l)
      = e (ix2 ⟨(r.val + 8 + 272 - s) % 272, Nat.mod_lt _ (by omega)⟩ l) := by
  rw [plain_apply]
  refine dynamicRotate_apply 0 sb e _ _ _ fun b => ?_
  fin_cases b
  · show (r.val + 8 + 272 - s) % 272 = if (0 : Fin 2) = 0 then (8 + r.val + 272 - sb.toNat % 272) % 272 else _
    rw [if_pos rfl, hs]
    rcases hs' with rfl | rfl <;> omega
  · rfl

/-- A row repeated over the block. -/
theorem row_apply (w : FVec Ideal S1x128 .f32) (r : Fin 256) (l : Fin 128) :
    broadcastTo S256x128 w broadcasts_S1x128_S256x128 (ix2 r l) = w (ix2 0 l) :=
  broadcastTo_apply w _ _ _ (fun a => by fin_cases a <;> rfl)

/-- The three taps on a block with its halos. -/
def taps (e : FVec Ideal S272x128 .f32) (w0 w1 w2 : FVec Ideal S1x128 .f32) : FVec Ideal S256x128 .f32 :=
  addf (addf
    (mulf (broadcastTo S256x128 w0 broadcasts_S1x128_S256x128)
      (extractStridedSlice S256x128 ![8, 0] (dynamicRotate 0 271#32 none e rotates_S272x128_d0) slices_S272x128_o8_0_S256x128))
    (mulf (broadcastTo S256x128 w1 broadcasts_S1x128_S256x128) (extractStridedSlice S256x128 ![8, 0] e slices_S272x128_o8_0_S256x128)))
    (mulf (broadcastTo S256x128 w2 broadcasts_S1x128_S256x128)
      (extractStridedSlice S256x128 ![8, 0] (dynamicRotate 0 1#32 none e rotates_S272x128_d0) slices_S272x128_o8_0_S256x128))

/-- The taps read the row after, the row and the row before. -/
theorem taps_apply (e : FVec Ideal S272x128 .f32) (w0 w1 w2 : FVec Ideal S1x128 .f32) (r : Fin 256) (l : Fin 128) :
    taps e w0 w1 w2 (ix2 r l) = w0 (ix2 0 l) * e (ix2 ⟨r.val + 9, by omega⟩ l) + w1 (ix2 0 l) * e (ix2 ⟨r.val + 8, by omega⟩ l)
      + w2 (ix2 0 l) * e (ix2 ⟨r.val + 7, by omega⟩ l) := by
  show ((broadcastTo S256x128 w0 _ (ix2 r l) : EReal) * (extractStridedSlice (s := S272x128) S256x128 ![8, 0] _ _ (ix2 r l) : EReal)
    + (broadcastTo S256x128 w1 _ (ix2 r l) : EReal) * (extractStridedSlice S256x128 ![8, 0] e _ (ix2 r l) : EReal))
    + (broadcastTo S256x128 w2 _ (ix2 r l) : EReal) * (extractStridedSlice (s := S272x128) S256x128 ![8, 0] _ _ (ix2 r l) : EReal) = _
  rw [shifted_apply 271#32 271 rfl (.inr rfl), shifted_apply 1#32 1 rfl (.inl rfl), plain_apply, row_apply, row_apply, row_apply]
  have e1 : (r.val + 8 + 272 - 271) % 272 = r.val + 9 := by omega
  have e2 : (r.val + 8 + 272 - 1) % 272 = r.val + 7 := by omega
  have e3 : 8 + r.val = r.val + 8 := by omega
  simp only [e1, e2, e3]

/-- The block of 128 columns with its two halos, where they exist. -/
def haloed (x0 : FVec Ideal S16x128 .bf16) (x2 : FVec Ideal S16x128 .bf16) (x1 : FVec Ideal S256x128 .bf16) : FVec Ideal S272x128 .f32 :=
  concatenate S272x128 0
    [⟨S8x128, (Scalar.select p (extractStridedSlice S8x128 ![8, 0] (extf .f32 x0 bitsLt_bf16_f32) slices_S16x128_o8_0_S8x128)
        (broadcast S8x128 (Scalar.ofBits .f32 0x00000000#32 : Ideal .f32)) : FVec Ideal S8x128 .f32)⟩,
      ⟨S256x128, extf .f32 x1 bitsLt_bf16_f32⟩,
      ⟨S8x128, (Scalar.select q (extractStridedSlice S8x128 ![0, 0] (extf .f32 x2 bitsLt_bf16_f32) slices_S16x128_o0_0_S8x128)
        (broadcast S8x128 (Scalar.ofBits .f32 0x00000000#32 : Ideal .f32)) : FVec Ideal S8x128 .f32)⟩]
    concatenates_S8x128_S256x128_S8x128_S272x128_d0

/-- Its rows: a halo that is there or zero, the block, and the other halo. -/
theorem haloed_apply (x0 : FVec Ideal S16x128 .bf16) (x2 : FVec Ideal S16x128 .bf16) (x1 : FVec Ideal S256x128 .bf16) (n : Fin 272) (l : Fin 128) :
    haloed p q x0 x2 x1 (ix2 n l) = if h : n.val < 8 then (if p = 1#1 then x0 (ix2 ⟨8 + n.val, by omega⟩ l) else 0)
      else if h' : n.val < 264 then x1 (ix2 ⟨n.val - 8, by omega⟩ l)
      else (if q = 1#1 then x2 (ix2 ⟨n.val - 264, by omega⟩ l) else 0) := by
  unfold haloed
  rw [halo_apply]
  have z : ∀ j, (broadcast S8x128 (Scalar.ofBits .f32 0x00000000#32 : Ideal .f32) : FVec Ideal S8x128 .f32) j = (0 : EReal) :=
    fun j => Ideal.ofBits_zero_f32
  simp only [select_apply, z]
  split
  · rw [extractStridedSlice_apply (t := S8x128) ![8, 0] (extf .f32 x0 bitsLt_bf16_f32) slices_S16x128_o8_0_S8x128 _ (ix2 ⟨8 + n.val, by omega⟩ l)
      (fun a => match a with | ⟨0, _⟩ => rfl | ⟨1, _⟩ => (Nat.zero_add _).symm)]
    rfl
  · split
    · rfl
    · rw [extractStridedSlice_apply (t := S8x128) ![0, 0] (extf .f32 x2 bitsLt_bf16_f32) slices_S16x128_o0_0_S8x128 _ (ix2 ⟨n.val - 264, by omega⟩ l)
        (fun a => match a with | ⟨0, _⟩ => (Nat.zero_add _).symm | ⟨1, _⟩ => (Nat.zero_add _).symm)]
      rfl

/-- 128 columns of the body are the taps on them. -/
theorem chunk_apply (j : ℕ) (hj : j < 44) (r : Fin 256) (l : Fin 128) :
    chunk (F := Ideal) p q x0 x1 x2 x3 j hj (ix2 r l) = tap p q x0 x1 x2 x3 r ⟨128 * j + l.val, by omega⟩ := by
  have t : ∀ (k : Fin 3) (inb), View.ld (Val := Elt Ideal) (e' := .f32) x3 (Rect.unit (s := S3x5632) ![k.val, 128 * j] S1x128.size inb) (ix2 0 l) = x3 (ix2 k ⟨128 * j + l.val, by omega⟩) :=
    fun k inb => View.ld_unit_apply_of (S := S3x5632) x3 ![k.val, 128 * j] S1x128.size inb (ix2 0 l) (ix2 k ⟨128 * j + l.val, by omega⟩)
      (fun a => match a with | ⟨0, _⟩ => rfl | ⟨1, _⟩ => rfl)
  have m : ∀ (n : Fin 256) (inb), View.ld (Val := Elt Ideal) (e' := .bf16) x1 (Rect.unit (s := S256x5632) ![0, 128 * j] S256x128.size inb) (ix2 n l) = x1 (ix2 n ⟨128 * j + l.val, by omega⟩) :=
    fun n inb => View.ld_unit_apply_of (S := S256x5632) x1 ![0, 128 * j] S256x128.size inb (ix2 n l) (ix2 n ⟨128 * j + l.val, by omega⟩)
      (fun a => match a with | ⟨0, _⟩ => (Nat.zero_add _).symm | ⟨1, _⟩ => rfl)
  have h : ∀ (x : Vec Ideal S16x5632 .bf16) (n : Fin 16) (inb), View.ld (Val := Elt Ideal) (e' := .bf16) x (Rect.unit (s := S16x5632) ![0, 128 * j] S16x128.size inb) (ix2 n l) = x (ix2 n ⟨128 * j + l.val, by omega⟩) :=
    fun x n inb => View.ld_unit_apply_of (S := S16x5632) x ![0, 128 * j] S16x128.size inb (ix2 n l) (ix2 n ⟨128 * j + l.val, by omega⟩)
      (fun a => match a with | ⟨0, _⟩ => (Nat.zero_add _).symm | ⟨1, _⟩ => rfl)
  show taps (haloed p q _ _ _) _ _ _ (ix2 r l) = _
  rw [taps_apply, haloed_apply, haloed_apply, haloed_apply]
  unfold tap
  congr 1
  · congr 1
    · congr 1
      · exact t 0 _
      · unfold after
        rw [dif_neg (by show ¬ r.val + 9 < 8; omega)]
        by_cases hr : r.val + 1 < 256
        · rw [dif_pos (by show r.val + 9 < 264; omega), dif_pos hr]
          exact m ⟨r.val + 1, hr⟩ _
        · rw [dif_neg (by show ¬ r.val + 9 < 264; omega), dif_neg hr]
          have e : (⟨r.val + 9 - 264, by omega⟩ : Fin 16) = 0 := Fin.ext (by show r.val + 9 - 264 = 0; omega)
          exact congrArg (fun z : EReal => if q = 1#1 then z else 0) ((congrArg (fun n : Fin 16 => View.ld (Val := Elt Ideal) (e' := .bf16) x2 (Rect.unit (s := S16x5632) ![0, 128 * j] S16x128.size (inb_halo j hj)) (ix2 n l)) e).trans (h x2 0 _))
    · congr 1
      · exact t 1 _
      · rw [dif_neg (by show ¬ r.val + 8 < 8; omega), dif_pos (by show r.val + 8 < 264; omega)]
        exact m r _
  · congr 1
    · exact t 2 _
    · unfold before
      by_cases hr : r.val = 0
      · rw [dif_pos (by show r.val + 7 < 8; omega), if_pos hr]
        have e : (⟨8 + (r.val + 7), by omega⟩ : Fin 16) = 15 := Fin.ext (by show 8 + (r.val + 7) = 15; omega)
        exact congrArg (fun z : EReal => if p = 1#1 then z else 0) ((congrArg (fun n : Fin 16 => View.ld (Val := Elt Ideal) (e' := .bf16) x0 (Rect.unit (s := S16x5632) ![0, 128 * j] S16x128.size (inb_halo j hj)) (ix2 n l)) e).trans (h x0 15 _))
      · rw [dif_neg (by show ¬ r.val + 7 < 8; omega), dif_pos (by show r.val + 7 < 264; omega), if_neg hr]
        have e : (⟨r.val + 7 - 8, by omega⟩ : Fin 256) = ⟨r.val - 1, by omega⟩ := Fin.ext (by show r.val + 7 - 8 = r.val - 1; omega)
        exact (congrArg (fun n : Fin 256 => View.ld (Val := Elt Ideal) (e' := .bf16) x1 (Rect.unit (s := S256x5632) ![0, 128 * j] S256x128.size (inb_big j hj)) (ix2 n l)) e).trans (m _ _)

/-- What the first `k` column steps leave, at a column they cover. -/
theorem pieces_apply (k : ℕ) (hk : k ≤ 44) (r : Fin 256) (b : Fin 5632) (hb : b.val < 128 * k) :
    View.canon (Val := Elt Ideal) (pieces (F := Ideal) p q x0 x1 x2 x3 k hk) (ix2 r b) = tap p q x0 x1 x2 x3 r b := by
  induction k with
  | zero => omega
  | succ k ih =>
    unfold pieces
    by_cases h : 128 * k ≤ b.val
    · have e : (ix2 r b : S256x5632.Idx) = (Rect.unit (s := S256x5632) ![0, 128 * k] S256x128.size (inb_big k (by omega))).emb
          (ix2 r (⟨b.val - 128 * k, by omega⟩ : Fin 128)) := funext fun a => Fin.ext (by
        match a with
        | ⟨0, _⟩ => show r.val = 0 + 1 * r.val; omega
        | ⟨1, _⟩ => show b.val = 128 * k + 1 * (b.val - 128 * k); omega)
      rw [e, View.canon_cons_emb]
      refine (chunk_apply p q x0 x1 x2 x3 k (by omega) r ⟨b.val - 128 * k, by omega⟩).trans ?_
      exact congrArg (tap p q x0 x1 x2 x3 r) (Fin.ext (by show 128 * k + (b.val - 128 * k) = b.val; omega))
    · rw [View.canon_cons_of_not_mem]
      · exact ih (by omega) (by omega)
      · rw [Rect.mem_set_unit]
        intro hh
        exact h (hh 1).1
end entry
end Cert.Kernel11Ideal.Block

end
-- ==== Proof.UpOut.lean ====
/-
  The blocks one step of the body leaves, as functions of the blocks it is given: the same functions at the first grid point, which
  zeroes the accumulators, and at the others.
-/
module

public import proofs.«01_k».proof.Proof.UpBlock
public import Idealize.ShloMosaic.Lib.Tactic

@[expose] public section

set_option maxRecDepth 16384

noncomputable section

namespace Cert.Kernel11Ideal.Block

open Idealize.ShloMosaic Idealize.ShloMosaic.TcCoe Cert.Kernel11Ideal.Gen Cert.Products

/-! ## The blocks the body leaves, as functions of the blocks it is given -/

section blocks
variable {F : FTy → Type} [FloatOps F]
variable (i : grid0.Coords) (p q : BitVec 1) (x0 : Vec F S16x5632 .bf16) (x1 : Vec F S256x5632 .bf16) (x2 : Vec F S16x5632 .bf16)
  (x3 : Vec F S3x5632 .f32) (x4 : Vec F S4x1024x1408 .bf16) (x5 : Vec F S256x1024 .f32) (x6 : Vec F S1x1024 .f32)
  (x7 : Vec F S2x6x1024 .f32) (x8 : Vec F S256x1024 .f32) (x10 : Vec F S2x6x1024 .f32)

/-- Whether the step's block has a row before it in its sequence, … -/
def hasBefore : BitVec 1 :=
  Scalar.andi (Scalar.cmpi .ne (BitVec.ofNat 32 (i 0).val) 0#32) (Scalar.cmpi .ne (BitVec.ofNat 32 (i 0).val) 32#32)
/-- … and one after it. -/
def hasAfter : BitVec 1 :=
  Scalar.andi (Scalar.cmpi .ne (BitVec.ofNat 32 (i 0).val) 31#32) (Scalar.cmpi .ne (BitVec.ofNat 32 (i 0).val) 32#32)

/-- The block after the taps. -/
def duBlock : Vec F S256x5632 .bf16 := View.canon (pieces p q x0 x1 x2 x3 44 (by omega))

/-- 1408 of its columns, read back when the first `k` column steps have been stored. -/
def part (k : ℕ) (hk : k ≤ 44) (off : ℕ) (inb : ∀ a, (![0, off] : Fin 2 → ℕ) a + S256x1408.size a ≤ S256x5632.size a) :
    Vec F S256x1408 .bf16 :=
  fun j => View.canon (pieces p q x0 x1 x2 x3 k hk) ((Rect.unit (s := S256x5632) ![0, off] S256x1408.size inb).toLoadRect.idx j)

/-- A quarter of the weight. -/
def quarter (n : ℕ) (inb : ∀ a, (![n, 0, 0] : Fin 3 → ℕ) a + S1x1024x1408.size a ≤ S4x1024x1408.size a) : Vec F S1x1024x1408 .bf16 :=
  View.ld x4 (Rect.unit (s := S4x1024x1408) ![n, 0, 0] S1x1024x1408.size inb)

/-- The block multiplied by the weight, a quarter of the columns at a time. -/
def dhBlock : FVec F S256x1024 .f32 :=
  k0_pay114 (k0_pay85 (k0_pay57 (k0_pay30 (part p q x0 x1 x2 x3 11 (by omega) 0 inb_S256x5632_S256x1408_0_0) (quarter x4 0 inb_S4x1024x1408_S1x1024x1408_0_0_0))
      (k0_pay55 (part p q x0 x1 x2 x3 22 (by omega) 1408 inb_S256x5632_S256x1408_0_1408)) (k0_pay56 (quarter x4 1 inb_S4x1024x1408_S1x1024x1408_1_0_0)))
    (part p q x0 x1 x2 x3 33 (by omega) 2816 inb_S256x5632_S256x1408_0_2816) (quarter x4 2 inb_S4x1024x1408_S1x1024x1408_2_0_0))
    (part p q x0 x1 x2 x3 44 (by omega) 4224 inb_S256x5632_S256x1408_0_4224) (quarter x4 3 inb_S4x1024x1408_S1x1024x1408_3_0_0)

/-- The step's row of scales, … -/
def scaleRow : Vec F S1x1x1024 .f32 := View.ld x7 (Rect.unit (s := S2x6x1024) (k0_off1 i) S1x1x1024.size (k0_off1_inb i))
/-- … and its row of gates. -/
def gateRow : Vec F S1x1x1024 .f32 := View.ld x10 (Rect.unit (s := S2x6x1024) (k0_off4 i) S1x1x1024.size (k0_off4_inb i))

/-- The cotangent of the residual stream's rows. -/
def dxBlock : FVec F S256x1024 .f32 :=
  k0_pay125 x6 (k0_pay117 (k0_pay116 x5)) (k0_pay118 x5 (k0_pay116 x5))
    (k0_pay121 (dhBlock p q x0 x1 x2 x3 x4) (k0_pay115 (scaleRow i x7))) x8

/-- The same rows gated. -/
def dyBlock : FVec F S256x1024 .bf16 :=
  k0_pay126 x6 (k0_pay117 (k0_pay116 x5)) (k0_pay118 x5 (k0_pay116 x5))
    (k0_pay121 (dhBlock p q x0 x1 x2 x3 x4) (k0_pay115 (scaleRow i x7))) x8 (gateRow i x10)
end blocks

section outs
variable {F : FTy → Type} [FloatOps F]
variable (c : Dev nD) (i : grid0.Coords) (arg1 : Memref sig .tc .vmem S16x5632 .bf16) (harg1 : arg1.IsWhole) (arg2 : Memref sig .tc .vmem S256x5632 .bf16) (harg2 : arg2.IsWhole) (arg3 : Memref sig .tc .vmem S16x5632 .bf16) (harg3 : arg3.IsWhole) (arg4 : Memref sig .tc .vmem S3x5632 .f32) (harg4 : arg4.IsWhole) (arg5 : Memref sig .tc .vmem S4x1024x1408 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x6x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2x6x1024 .f32) (harg11 : arg11.IsWhole) (arg12 : Memref sig .tc .vmem S256x5632 .bf16) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S2x2x8x1024 .f32) (harg15 : arg15.IsWhole) (arg16 : Memref sig .tc .vmem S8x1024 .f32) (harg16 : arg16.IsWhole) (arg17 : Memref sig .tc .vmem S2x8x1024 .f32) (harg17 : arg17.IsWhole)
    (x0 : Vec F S16x5632 .bf16) (x1 : Vec F S256x5632 .bf16) (x2 : Vec F S16x5632 .bf16) (x3 : Vec F S3x5632 .f32) (x4 : Vec F S4x1024x1408 .bf16) (x5 : Vec F S256x1024 .f32) (x6 : Vec F S1x1024 .f32) (x7 : Vec F S2x6x1024 .f32) (x8 : Vec F S256x1024 .f32) (x9 : Vec F S256x1024 .bf16) (x10 : Vec F S2x6x1024 .f32)

/-- At the first point the body leaves the three blocks, … -/
theorem outA_11 (hc0 : cond0_0 i) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10
      = duBlock (hasBefore i) (hasAfter i) x0 x1 x2 x3 := by
  unfold out0_A_11
  rw [View.read_writes_junk_eq_canon]
  unfold kernelRun0_A
  dsimp only
  rw [list_A_44, loadedPieces_eq]
  rfl

theorem outA_12 (hc0 : cond0_0 i) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10
      = dxBlock i (hasBefore i) (hasAfter i) x0 x1 x2 x3 x4 x5 x6 x7 x8 := by
  unfold out0_A_12
  rw [View.read_writes_junk_eq_canon]
  unfold kernelRun0_A
  dsimp only
  rw [View.canon_unit_zero (S := S256x1024) zero2]
  simp only [kernelRun0_A.sl.r_16, kernelRun0_A.sl.r_36, kernelRun0_A.sl.r_37, kernelRun0_A.sl.r_38, kernelRun0_A.sl.r_56, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.v352, kernelRun0_A.sl.v698, kernelRun0_A.sl.v1045, kernelRun0_A.sl.v1392, View.readCov_eq_canon', View.readAt_eq_ld,
    harg5.read_unread, harg6.read_unread, harg7.read_unread, harg8.read_unread, harg9.read_unread, harg11.read_unread, View.ld_unit_zero (S := S256x1024) zero2, View.ld_unit_zero (S := S1x1024) zero2,
    list_A_11, list_A_22, list_A_33, list_A_44, loadedPieces_eq]
  rfl

theorem outA_13 (hc0 : cond0_0 i) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10
      = dyBlock i (hasBefore i) (hasAfter i) x0 x1 x2 x3 x4 x5 x6 x7 x8 x10 := by
  unfold out0_A_13
  rw [View.read_writes_junk_eq_canon]
  unfold kernelRun0_A
  dsimp only
  rw [View.canon_unit_zero (S := S256x1024) zero2]
  simp only [kernelRun0_A.sl.r_16, kernelRun0_A.sl.r_36, kernelRun0_A.sl.r_37, kernelRun0_A.sl.r_38, kernelRun0_A.sl.r_56, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.v352, kernelRun0_A.sl.v698, kernelRun0_A.sl.v1045, kernelRun0_A.sl.v1392, View.readCov_eq_canon', View.readAt_eq_ld,
    harg5.read_unread, harg6.read_unread, harg7.read_unread, harg8.read_unread, harg9.read_unread, harg11.read_unread, View.ld_unit_zero (S := S256x1024) zero2, View.ld_unit_zero (S := S1x1024) zero2,
    list_A_11, list_A_22, list_A_33, list_A_44, loadedPieces_eq]
  rfl

/-- … and at a later point it leaves the same. -/
theorem outB_11 (hc0 : ¬cond0_0 i) (xo14 : Vec F S2x2x8x1024 .f32) (xo15 : Vec F S8x1024 .f32) (xo16 : Vec F S2x8x1024 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo14 xo15 xo16
      = duBlock (hasBefore i) (hasAfter i) x0 x1 x2 x3 := by
  unfold out0_B_11
  rw [View.read_writes_junk_eq_canon]
  unfold kernelRun0_B
  dsimp only
  rw [list_B_44, loadedPieces_eq]
  rfl

theorem outB_12 (hc0 : ¬cond0_0 i) (xo14 : Vec F S2x2x8x1024 .f32) (xo15 : Vec F S8x1024 .f32) (xo16 : Vec F S2x8x1024 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo14 xo15 xo16
      = dxBlock i (hasBefore i) (hasAfter i) x0 x1 x2 x3 x4 x5 x6 x7 x8 := by
  unfold out0_B_12
  rw [View.read_writes_junk_eq_canon]
  unfold kernelRun0_B
  dsimp only
  rw [View.canon_unit_zero (S := S256x1024) zero2]
  simp only [kernelRun0_B.sl.r_16, kernelRun0_B.sl.r_36, kernelRun0_B.sl.r_37, kernelRun0_B.sl.r_38, kernelRun0_B.sl.r_56, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.v352, kernelRun0_B.sl.v698, kernelRun0_B.sl.v1045, kernelRun0_B.sl.v1392, View.readCov_eq_canon', View.readAt_eq_ld,
    harg5.read_unread, harg6.read_unread, harg7.read_unread, harg8.read_unread, harg9.read_unread, harg11.read_unread, View.ld_unit_zero (S := S256x1024) zero2, View.ld_unit_zero (S := S1x1024) zero2,
    list_B_11, list_B_22, list_B_33, list_B_44, loadedPieces_eq]
  rfl

theorem outB_13 (hc0 : ¬cond0_0 i) (xo14 : Vec F S2x2x8x1024 .f32) (xo15 : Vec F S8x1024 .f32) (xo16 : Vec F S2x8x1024 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo14 xo15 xo16
      = dyBlock i (hasBefore i) (hasAfter i) x0 x1 x2 x3 x4 x5 x6 x7 x8 x10 := by
  unfold out0_B_13
  rw [View.read_writes_junk_eq_canon]
  unfold kernelRun0_B
  dsimp only
  rw [View.canon_unit_zero (S := S256x1024) zero2]
  simp only [kernelRun0_B.sl.r_16, kernelRun0_B.sl.r_36, kernelRun0_B.sl.r_37, kernelRun0_B.sl.r_38, kernelRun0_B.sl.r_56, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.v352, kernelRun0_B.sl.v698, kernelRun0_B.sl.v1045, kernelRun0_B.sl.v1392, View.readCov_eq_canon', View.readAt_eq_ld,
    harg5.read_unread, harg6.read_unread, harg7.read_unread, harg8.read_unread, harg9.read_unread, harg11.read_unread, View.ld_unit_zero (S := S256x1024) zero2, View.ld_unit_zero (S := S1x1024) zero2,
    list_B_11, list_B_22, list_B_33, list_B_44, loadedPieces_eq]
  rfl
end outs

end Cert.Kernel11Ideal.Block

end
-- ==== Proof.UpEntry.lean ====
/-
  What the values of one step are at an entry, at the ideal values.
-/
module

public import proofs.«01_k».proof.Proof.UpOut
public import Idealize.ShloMosaic.Lib.Pointwise

@[expose] public section

set_option maxRecDepth 16384

noncomputable section

namespace Cert.Kernel11Ideal.Block

open Idealize.ShloMosaic hiding ix1 ix2 ix3
open Idealize.ShloMosaic.TcCoe Cert.Kernel11Ideal.Gen
open Idealize.ShloMosaic.ValueIdx (ix1 ix2 ix3)

/-! ## A row of the norm's derivative -/

/-- The number of columns, and the small number added under the root, as the program writes them. -/
def width : EReal := Ideal.ofBits .f32 0x44800000#32
def small : EReal := Ideal.ofBits .f32 0x358637BD#32

/-- The reciprocal root of a row's mean square. -/
def inverse (x : Fin 1024 → EReal) : EReal := Ideal.rsqrt (Ideal.div (∑ k, x k * x k) width + small)

/-- One entry of the cotangent behind the norm: `d` the cotangent of the scaled normed row, `w` the norm's weight, `x` the row. -/
def behind (d w x : Fin 1024 → EReal) (y : EReal) (k : Fin 1024) : EReal :=
  y + inverse x * (d k * w k - x k * inverse x * Ideal.div (∑ j, d j * w j * (x j * inverse x)) width)

/-! ## The payloads -/

/-- The inverse root mean square of a row. -/
theorem root_apply (v : FVec Ideal S256x1024 .f32) (r : Fin 256) (z : Fin 1) :
    k0_pay117 (F := Ideal) (k0_pay116 v) (ix2 r z) = inverse fun k => v (ix2 r k) := by
  unfold inverse width small
  simp only [← ix2_eq_valueIdx]
  pointwise [k0_pay117, k0_pay116]

/-- A row scaled by one more than its scale. -/
theorem scaled_apply (d : FVec Ideal S256x1024 .f32) (g : FVec Ideal S1x1x1024 .f32) (r : Fin 256) (k : Fin 1024) :
    k0_pay121 (F := Ideal) d (k0_pay115 g) (ix2 r k) = d (ix2 r k) * (1 + g (ix3 0 0 k)) := by
  simp only [← ix2_eq_valueIdx, ← ix3_eq_valueIdx]
  pointwise [k0_pay121, k0_pay115]

/-- A row normalised. -/
theorem normed_apply (x xx : FVec Ideal S256x1024 .f32) (r : Fin 256) (k : Fin 1024) :
    k0_pay118 (F := Ideal) x xx (ix2 r k) = x (ix2 r k) * k0_pay117 xx (ix2 r 0) := by
  simp only [← ix2_eq_valueIdx]
  pointwise [k0_pay118]

/-- The norm's derivative as the kernel writes it. -/
theorem back_apply (nw : FVec Ideal S1x1024 .f32) (rr : FVec Ideal S256x1 .f32) (xh dn dxr : FVec Ideal S256x1024 .f32)
    (r : Fin 256) (k : Fin 1024) :
    k0_pay125 (F := Ideal) nw rr xh dn dxr (ix2 r k) = dxr (ix2 r k) + rr (ix2 r 0) * (dn (ix2 r k) * nw (ix2 0 k) - xh (ix2 r k)
      * Ideal.div (∑ j, dn (ix2 r j) * nw (ix2 0 j) * xh (ix2 r j)) width) := by
  unfold width
  simp only [← ix2_eq_valueIdx]
  pointwise [k0_pay125]

/-- A row gated. -/
theorem gated_apply (nw : FVec Ideal S1x1024 .f32) (rr : FVec Ideal S256x1 .f32) (xh dn dxr : FVec Ideal S256x1024 .f32)
    (g : FVec Ideal S1x1x1024 .f32) (r : Fin 256) (k : Fin 1024) :
    k0_pay126 (F := Ideal) nw rr xh dn dxr g (ix2 r k) = g (ix3 0 0 k) * k0_pay125 nw rr xh dn dxr (ix2 r k) := by
  simp only [← ix2_eq_valueIdx, ← ix3_eq_valueIdx]
  pointwise [k0_pay126]

/-- The product with the first quarter of the weight, … -/
theorem first_apply (x : FVec Ideal S256x1408 .bf16) (y : FVec Ideal S1x1024x1408 .bf16) (r : Fin 256) (k : Fin 1024) :
    k0_pay30 (F := Ideal) x y (ix2 r k) = ∑ b, x (ix2 r b) * y (ix3 0 k b) := by
  simp only [← ix2_eq_valueIdx, ← ix3_eq_valueIdx]
  pointwise [k0_pay30]

/-- … with the second added, … -/
theorem second_apply (acc : FVec Ideal S256x1024 .f32) (x : FVec Ideal S256x1408 .bf16) (y : FVec Ideal S1x1024x1408 .bf16)
    (r : Fin 256) (k : Fin 1024) :
    k0_pay57 (F := Ideal) acc (k0_pay55 x) (k0_pay56 y) (ix2 r k) = acc (ix2 r k) + ∑ b, x (ix2 r b) * y (ix3 0 k b) := by
  simp only [← ix2_eq_valueIdx, ← ix3_eq_valueIdx]
  pointwise [k0_pay57, k0_pay55, k0_pay56]

/-- … the third … -/
theorem third_apply (acc : FVec Ideal S256x1024 .f32) (x : FVec Ideal S256x1408 .bf16) (y : FVec Ideal S1x1024x1408 .bf16)
    (r : Fin 256) (k : Fin 1024) :
    k0_pay85 (F := Ideal) acc x y (ix2 r k) = acc (ix2 r k) + ∑ b, x (ix2 r b) * y (ix3 0 k b) := by
  simp only [← ix2_eq_valueIdx, ← ix3_eq_valueIdx]
  pointwise [k0_pay85]

/-- … and the fourth. -/
theorem fourth_apply (acc : FVec Ideal S256x1024 .f32) (x : FVec Ideal S256x1408 .bf16) (y : FVec Ideal S1x1024x1408 .bf16)
    (r : Fin 256) (k : Fin 1024) :
    k0_pay114 (F := Ideal) acc x y (ix2 r k) = acc (ix2 r k) + ∑ b, x (ix2 r b) * y (ix3 0 k b) := by
  simp only [← ix2_eq_valueIdx, ← ix3_eq_valueIdx]
  pointwise [k0_pay114]

/-! ## The blocks -/

section entries
variable (i : grid0.Coords) (p q : BitVec 1) (x0 : Vec Ideal S16x5632 .bf16) (x1 : Vec Ideal S256x5632 .bf16) (x2 : Vec Ideal S16x5632 .bf16)
  (x3 : Vec Ideal S3x5632 .f32) (x4 : Vec Ideal S4x1024x1408 .bf16) (x5 : Vec Ideal S256x1024 .f32) (x6 : Vec Ideal S1x1024 .f32)
  (x7 : Vec Ideal S2x6x1024 .f32) (x8 : Vec Ideal S256x1024 .f32) (x10 : Vec Ideal S2x6x1024 .f32)

/-- An entry of the tapped block. -/
theorem duBlock_apply (r : Fin 256) (b : Fin 5632) : duBlock (F := Ideal) p q x0 x1 x2 x3 (ix2 r b) = tap p q x0 x1 x2 x3 r b :=
  pieces_apply p q x0 x1 x2 x3 44 (by omega) r b (by omega)

/-- An entry of a quarter of it, read back once those columns are stored. -/
theorem part_apply (k : ℕ) (hk : k ≤ 44) (off : ℕ) (inb) (r : Fin 256) (b : Fin 1408) (h : off + 1408 ≤ 128 * k) :
    part (F := Ideal) p q x0 x1 x2 x3 k hk off inb (ix2 r b) = tap p q x0 x1 x2 x3 r ⟨off + b.val, by omega⟩ := by
  unfold part
  have e : (Rect.unit (s := S256x5632) ![0, off] S256x1408.size inb).toLoadRect.idx (ix2 r b)
      = (ix2 r ⟨off + b.val, by omega⟩ : S256x5632.Idx) := funext fun a => Fin.ext (by
    match a with
    | ⟨0, _⟩ => show 0 + 1 * r.val = r.val; omega
    | ⟨1, _⟩ => show off + 1 * b.val = off + b.val; omega)
  rw [e]
  exact pieces_apply p q x0 x1 x2 x3 k hk r _ (by show off + b.val < 128 * k; omega)

/-- An entry of a quarter of the weight. -/
theorem quarter_apply (n : Fin 4) (inb) (k : Fin 1024) (b : Fin 1408) :
    quarter (F := Ideal) x4 n.val inb (ix3 0 k b) = x4 (ix3 n k b) :=
  View.ld_unit_apply_of (S := S4x1024x1408) x4 ![n.val, 0, 0] S1x1024x1408.size inb (ix3 0 k b) (ix3 n k b)
    (fun a => match a with | ⟨0, _⟩ => rfl | ⟨1, _⟩ => (Nat.zero_add _).symm | ⟨2, _⟩ => (Nat.zero_add _).symm)

/-- The product with the whole weight. -/
theorem dhBlock_apply (r : Fin 256) (k : Fin 1024) : dhBlock (F := Ideal) p q x0 x1 x2 x3 x4 (ix2 r k)
    = ∑ j : Fin 5632, tap p q x0 x1 x2 x3 r j * x4 (ix3 ⟨j.val / 1408, by omega⟩ k ⟨j.val % 1408, Nat.mod_lt _ (by decide)⟩) := by
  have hs := Cert.Products.sweep 4 1408 5632 rfl 0
    (fun s => if hs : s < 4 then ∑ b : Fin 1408, tap p q x0 x1 x2 x3 r ⟨s * 1408 + b.val, by omega⟩ * x4 (ix3 ⟨s, hs⟩ k b) else 0)
    (fun j => tap p q x0 x1 x2 x3 r j * x4 (ix3 ⟨j.val / 1408, by omega⟩ k ⟨j.val % 1408, Nat.mod_lt _ (by decide)⟩))
    (fun s hs => by
      dsimp only
      rw [dif_pos (by omega)]
      refine Finset.sum_congr rfl fun b _ => ?_
      have hb := b.isLt
      refine congrArg₂ (· * ·) (congrArg _ (Fin.ext (by show (4 * 0 + s) * 1408 + b.val = s * 1408 + b.val; omega))) (congrArg x4 ?_)
      funext a
      apply Fin.ext
      match a with
      | ⟨0, _⟩ => show 4 * 0 + s = (s * 1408 + b.val) / 1408; omega
      | ⟨1, _⟩ => rfl
      | ⟨2, _⟩ => show b.val = (s * 1408 + b.val) % 1408; omega)
  rw [← hs]
  unfold dhBlock
  rw [fourth_apply, third_apply, second_apply, first_apply]
  simp only [Finset.sum_range_succ, Finset.sum_range_zero, zero_add]
  have q0 := quarter_apply x4 0
  have q1 := quarter_apply x4 1
  have q2 := quarter_apply x4 2
  have q3 := quarter_apply x4 3
  refine congrArg₂ (· + ·) (congrArg₂ (· + ·) (congrArg₂ (· + ·) ?_ ?_) ?_) ?_
  · rw [dif_pos (by omega)]
    refine Finset.sum_congr rfl fun b _ => ?_
    rw [part_apply p q x0 x1 x2 x3 11 _ 0 _ r b (by omega)]
    refine congrArg₂ (· * ·) (congrArg _ (Fin.ext (by show 0 + b.val = (4 * 0 + 0) * 1408 + b.val; omega))) (q0 _ k b)
  · rw [dif_pos (by omega)]
    refine Finset.sum_congr rfl fun b _ => ?_
    rw [part_apply p q x0 x1 x2 x3 22 _ 1408 _ r b (by omega)]
    refine congrArg₂ (· * ·) (congrArg _ (Fin.ext (by show 1408 + b.val = (4 * 0 + 1) * 1408 + b.val; omega))) (q1 _ k b)
  · rw [dif_pos (by omega)]
    refine Finset.sum_congr rfl fun b _ => ?_
    rw [part_apply p q x0 x1 x2 x3 33 _ 2816 _ r b (by omega)]
    refine congrArg₂ (· * ·) (congrArg _ (Fin.ext (by show 2816 + b.val = (4 * 0 + 2) * 1408 + b.val; omega))) (q2 _ k b)
  · rw [dif_pos (by omega)]
    refine Finset.sum_congr rfl fun b _ => ?_
    rw [part_apply p q x0 x1 x2 x3 44 _ 4224 _ r b (by omega)]
    refine congrArg₂ (· * ·) (congrArg _ (Fin.ext (by show 4224 + b.val = (4 * 0 + 3) * 1408 + b.val; omega))) (q3 _ k b)

/-- The sequence a step's block belongs to. -/
def seq : Fin 2 := if 32 ≤ (i 0).val then 1 else 0

/-- The scale row's place, … -/
theorem offset1 : ∀ i : grid0.Coords, k0_off1 i = ![(seq i).val, 4, 0] := by decide +kernel
/-- … and the gate row's. -/
theorem offset4 : ∀ i : grid0.Coords, k0_off4 i = ![(seq i).val, 2, 0] := by decide +kernel

/-- The step's scales, … -/
theorem scaleRow_apply (k : Fin 1024) : scaleRow (F := Ideal) i x7 (ix3 0 0 k) = x7 (ix3 (seq i) 4 k) :=
  View.ld_unit_apply_of (S := S2x6x1024) x7 (k0_off1 i) S1x1x1024.size (k0_off1_inb i) (ix3 0 0 k) (ix3 (seq i) 4 k)
    (fun a => by
      refine Eq.trans (b := (![(seq i).val, 4, 0] : Fin 3 → ℕ) a + ((ix3 (0 : Fin 1) (0 : Fin 1) k : S1x1x1024.Idx) a).val) ?_
        (congrArg (· + ((ix3 (0 : Fin 1) (0 : Fin 1) k : S1x1x1024.Idx) a).val) (congrFun (offset1 i) a).symm)
      exact match a with | ⟨0, _⟩ => rfl | ⟨1, _⟩ => rfl | ⟨2, _⟩ => (Nat.zero_add _).symm)

/-- … and gates. -/
theorem gateRow_apply (k : Fin 1024) : gateRow (F := Ideal) i x10 (ix3 0 0 k) = x10 (ix3 (seq i) 2 k) :=
  View.ld_unit_apply_of (S := S2x6x1024) x10 (k0_off4 i) S1x1x1024.size (k0_off4_inb i) (ix3 0 0 k) (ix3 (seq i) 2 k)
    (fun a => by
      refine Eq.trans (b := (![(seq i).val, 2, 0] : Fin 3 → ℕ) a + ((ix3 (0 : Fin 1) (0 : Fin 1) k : S1x1x1024.Idx) a).val) ?_
        (congrArg (· + ((ix3 (0 : Fin 1) (0 : Fin 1) k : S1x1x1024.Idx) a).val) (congrFun (offset4 i) a).symm)
      exact match a with | ⟨0, _⟩ => rfl | ⟨1, _⟩ => rfl | ⟨2, _⟩ => (Nat.zero_add _).symm)

/-- An entry of the cotangent of the rows, … -/
theorem dxBlock_apply (r : Fin 256) (k : Fin 1024) : dxBlock (F := Ideal) i p q x0 x1 x2 x3 x4 x5 x6 x7 x8 (ix2 r k)
    = behind (fun j => dhBlock (F := Ideal) p q x0 x1 x2 x3 x4 (ix2 r j) * (1 + x7 (ix3 (seq i) 4 j))) (fun j => x6 (ix2 0 j))
      (fun j => x5 (ix2 r j)) (x8 (ix2 r k)) k := by
  unfold dxBlock behind
  rw [back_apply]
  simp only [normed_apply, root_apply, scaled_apply, scaleRow_apply]

/-- … and of the gated one. -/
theorem dyBlock_apply (r : Fin 256) (k : Fin 1024) : dyBlock (F := Ideal) i p q x0 x1 x2 x3 x4 x5 x6 x7 x8 x10 (ix2 r k)
    = x10 (ix3 (seq i) 2 k) * dxBlock (F := Ideal) i p q x0 x1 x2 x3 x4 x5 x6 x7 x8 (ix2 r k) := by
  unfold dyBlock
  rw [gated_apply, gateRow_apply]
  rfl

end entries

end Cert.Kernel11Ideal.Block

end
-- ==== Proof.UpArray.lean ====
/-
  The blocks each step is given, from the arguments, and the three result arrays, entry by entry.
-/
module

public import proofs.«01_k».proof.Proof.UpEntry

@[expose] public section

set_option maxRecDepth 16384

noncomputable section

namespace Cert.Kernel11Ideal.Block

open Idealize.ShloMosaic hiding ix1 ix2 ix3
open Idealize.ShloMosaic.TcCoe Idealize.SL.Sem Cert.Kernel11Ideal.Gen Cert.Kernel11Ideal.Value
open Idealize.ShloMosaic.ValueIdx (ix1 ix2 ix3)

section flushed
variable {F : FTy → Type} [FloatOps F]
variable (m : (ℓ : Loc nD τ sig) → Buf (Elt F) ℓ)

/-- Every point writes back its tapped block, … -/
theorem flushed_du (c : Dev nD) (t : Fin cfg0.N) : (dats m 0 c).flushed 11 t = (cfg0.win 11).cut (grid0.coords t)
    (duBlock (hasBefore (grid0.coords t)) (hasAfter (grid0.coords t)) (iblk m c 0 t) (iblk m c 1 t) (iblk m c 2 t) (iblk m c 3 t)) := by
  by_cases h : t.val % 33 = 0
  · rw [flushed11_A m c t h, outA_11]
  · rw [flushed11_B m c t h, outB_11]

/-- … its block of the cotangent of the rows, … -/
theorem flushed_dx (c : Dev nD) (t : Fin cfg0.N) : (dats m 0 c).flushed 12 t = (cfg0.win 12).cut (grid0.coords t)
    (dxBlock (grid0.coords t) (hasBefore (grid0.coords t)) (hasAfter (grid0.coords t)) (iblk m c 0 t) (iblk m c 1 t) (iblk m c 2 t) (iblk m c 3 t)
      (iblk m c 4 t) (iblk m c 5 t) (iblk m c 6 t) (iblk m c 7 t) (iblk m c 8 t)) := by
  by_cases h : t.val % 33 = 0
  · rw [flushed12_A m c t h, outA_12]
  · rw [flushed12_B m c t h, outB_12]

/-- … and that block gated. -/
theorem flushed_dy (c : Dev nD) (t : Fin cfg0.N) : (dats m 0 c).flushed 13 t = (cfg0.win 13).cut (grid0.coords t)
    (dyBlock (grid0.coords t) (hasBefore (grid0.coords t)) (hasAfter (grid0.coords t)) (iblk m c 0 t) (iblk m c 1 t) (iblk m c 2 t) (iblk m c 3 t)
      (iblk m c 4 t) (iblk m c 5 t) (iblk m c 6 t) (iblk m c 7 t) (iblk m c 8 t) (iblk m c 10 t)) := by
  by_cases h : t.val % 33 = 0
  · rw [flushed13_A m c t h, outA_13]
  · rw [flushed13_B m c t h, outB_13]
end flushed

variable (m : (ℓ : Loc nD τ sig) → Buf (Elt Ideal) ℓ)

/-! ## The arguments -/

/-- The cotangent, the taps, the weight, the rows, the norm's weight, the scales and gates, the residual stream's cotangent. -/
abbrev cots (c : Dev nD) : Vec Ideal S8448x5632 .bf16 := m ((c : Thread nD τ).loc main_arg0)
abbrev tapsOf (c : Dev nD) : Vec Ideal S3x5632 .f32 := m ((c : Thread nD τ).loc main_arg1)
abbrev weight (c : Dev nD) : Vec Ideal S4x1024x1408 .bf16 := m ((c : Thread nD τ).loc main_arg2)
abbrev rows (c : Dev nD) : Vec Ideal S8448x1024 .f32 := m ((c : Thread nD τ).loc main_arg3)
abbrev normed (c : Dev nD) : Vec Ideal S1x1024 .f32 := m ((c : Thread nD τ).loc main_arg4)
abbrev scales (c : Dev nD) : Vec Ideal S2x6x1024 .f32 := m ((c : Thread nD τ).loc main_arg5)
abbrev stream (c : Dev nD) : Vec Ideal S8448x1024 .f32 := m ((c : Thread nD τ).loc main_arg6)

/-! ## The blocks of each step -/

/-- The blocks, in the order of the kernel's inputs. -/
abbrev blk0 (c : Dev nD) (t : Fin cfg0.N) : Vec Ideal S16x5632 .bf16 := iblk m c 0 t
abbrev blk1 (c : Dev nD) (t : Fin cfg0.N) : Vec Ideal S256x5632 .bf16 := iblk m c 1 t
abbrev blk2 (c : Dev nD) (t : Fin cfg0.N) : Vec Ideal S16x5632 .bf16 := iblk m c 2 t
abbrev blk3 (c : Dev nD) (t : Fin cfg0.N) : Vec Ideal S3x5632 .f32 := iblk m c 3 t
abbrev blk4 (c : Dev nD) (t : Fin cfg0.N) : Vec Ideal S4x1024x1408 .bf16 := iblk m c 4 t
abbrev blk5 (c : Dev nD) (t : Fin cfg0.N) : Vec Ideal S256x1024 .f32 := iblk m c 5 t
abbrev blk6 (c : Dev nD) (t : Fin cfg0.N) : Vec Ideal S1x1024 .f32 := iblk m c 6 t
abbrev blk7 (c : Dev nD) (t : Fin cfg0.N) : Vec Ideal S2x6x1024 .f32 := iblk m c 7 t
abbrev blk8 (c : Dev nD) (t : Fin cfg0.N) : Vec Ideal S256x1024 .f32 := iblk m c 8 t
abbrev blk10 (c : Dev nD) (t : Fin cfg0.N) : Vec Ideal S2x6x1024 .f32 := iblk m c 10 t

/-- Where each step's blocks lie, array by array. -/
theorem index0 : ∀ t : Fin cfg0.N, win0_0.index t (0 : Fin 2) = 16 * t.val - 1 ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = min (16 * t.val + 16) 527 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 3) = 0 ∧ win0_4.index t (1 : Fin 3) = 0 ∧ win0_4.index t (2 : Fin 3) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 3) = 0 ∧ win0_7.index t (1 : Fin 3) = 0 ∧ win0_7.index t (2 : Fin 3) = 0 :=
  (by decide +kernel : ∀ t : Fin grid0.N, _)
theorem index8 : ∀ t : Fin cfg0.N, win0_8.index t (0 : Fin 2) = t.val ∧ win0_8.index t (1 : Fin 2) = 0 :=
  (by decide +kernel : ∀ t : Fin grid0.N, _)
theorem index10 : ∀ t : Fin cfg0.N, win0_10.index t (0 : Fin 3) = 0 ∧ win0_10.index t (1 : Fin 3) = 0 ∧ win0_10.index t (2 : Fin 3) = 0 :=
  (by decide +kernel : ∀ t : Fin grid0.N, _)
theorem index11 : ∀ t : Fin cfg0.N, win0_11.index t (0 : Fin 2) = t.val ∧ win0_11.index t (1 : Fin 2) = 0 :=
  (by decide +kernel : ∀ t : Fin grid0.N, _)
theorem index12 : ∀ t : Fin cfg0.N, win0_12.index t (0 : Fin 2) = t.val ∧ win0_12.index t (1 : Fin 2) = 0 :=
  (by decide +kernel : ∀ t : Fin grid0.N, _)
theorem index13 : ∀ t : Fin cfg0.N, win0_13.index t (0 : Fin 2) = t.val ∧ win0_13.index t (1 : Fin 2) = 0 :=
  (by decide +kernel : ∀ t : Fin grid0.N, _)

/-- The halo before the block, … -/
theorem block0 (c : Dev nD) (t : Fin cfg0.N) (k : Fin 16) (a : Fin 5632) (h : (16 * t.val - 1) * 16 + k.val < 8448) :
    blk0 m c t (ix2 k a) = cots m c (ix2 ⟨(16 * t.val - 1) * 16 + k.val, h⟩ a) := by
  unfold blk0 iblk
  rw [View.read_apply]
  show V m c main_arg0 _ = cots m c _
  unfold V
  congr 1
  funext e
  apply Fin.ext
  match e with
  | ⟨0, _⟩ => show win0_0.index t 0 * 16 + 1 * k.val = (16 * t.val - 1) * 16 + k.val; rw [(index0 t).1]; omega
  | ⟨1, _⟩ => show win0_0.index t 1 * 5632 + 1 * a.val = a.val; rw [(index0 t).2]; omega

/-- … the block, … -/
theorem block1 (c : Dev nD) (t : Fin cfg0.N) (k : Fin 256) (a : Fin 5632) (h : t.val * 256 + k.val < 8448) :
    blk1 m c t (ix2 k a) = cots m c (ix2 ⟨t.val * 256 + k.val, h⟩ a) := by
  unfold blk1 iblk
  rw [View.read_apply]
  show V m c main_arg0 _ = cots m c _
  unfold V
  congr 1
  funext e
  apply Fin.ext
  match e with
  | ⟨0, _⟩ => show win0_1.index t 0 * 256 + 1 * k.val = t.val * 256 + k.val; rw [(index1 t).1]; omega
  | ⟨1, _⟩ => show win0_1.index t 1 * 5632 + 1 * a.val = a.val; rw [(index1 t).2]; omega

/-- … the halo after it, … -/
theorem block2 (c : Dev nD) (t : Fin cfg0.N) (k : Fin 16) (a : Fin 5632) (h : min (16 * t.val + 16) 527 * 16 + k.val < 8448) :
    blk2 m c t (ix2 k a) = cots m c (ix2 ⟨min (16 * t.val + 16) 527 * 16 + k.val, h⟩ a) := by
  unfold blk2 iblk
  rw [View.read_apply]
  show V m c main_arg0 _ = cots m c _
  unfold V
  congr 1
  funext e
  apply Fin.ext
  match e with
  | ⟨0, _⟩ => show win0_2.index t 0 * 16 + 1 * k.val = min (16 * t.val + 16) 527 * 16 + k.val; rw [(index2 t).1]; omega
  | ⟨1, _⟩ => show win0_2.index t 1 * 5632 + 1 * a.val = a.val; rw [(index2 t).2]; omega

/-- … the taps, … -/
theorem block3 (c : Dev nD) (t : Fin cfg0.N) : blk3 m c t = tapsOf m c := by
  funext j
  unfold blk3 iblk
  rw [View.read_apply]
  show V m c main_arg1 _ = tapsOf m c _
  unfold V
  congr 1
  funext e
  apply Fin.ext
  match e with
  | ⟨0, _⟩ => show win0_3.index t 0 * 3 + 1 * (j 0).val = (j 0).val; rw [(index3 t).1]; omega
  | ⟨1, _⟩ => show win0_3.index t 1 * 5632 + 1 * (j 1).val = (j 1).val; rw [(index3 t).2]; omega

/-- … the weight, … -/
theorem block4 (c : Dev nD) (t : Fin cfg0.N) : blk4 m c t = weight m c := by
  funext j
  unfold blk4 iblk
  rw [View.read_apply]
  show V m c main_arg2 _ = weight m c _
  unfold V
  congr 1
  funext e
  apply Fin.ext
  match e with
  | ⟨0, _⟩ => show win0_4.index t 0 * 4 + 1 * (j 0).val = (j 0).val; rw [(index4 t).1]; omega
  | ⟨1, _⟩ => show win0_4.index t 1 * 1024 + 1 * (j 1).val = (j 1).val; rw [(index4 t).2.1]; omega
  | ⟨2, _⟩ => show win0_4.index t 2 * 1408 + 1 * (j 2).val = (j 2).val; rw [(index4 t).2.2]; omega

/-- … the rows, … -/
theorem block5 (c : Dev nD) (t : Fin cfg0.N) (k : Fin 256) (a : Fin 1024) (h : t.val * 256 + k.val < 8448) :
    blk5 m c t (ix2 k a) = rows m c (ix2 ⟨t.val * 256 + k.val, h⟩ a) := by
  unfold blk5 iblk
  rw [View.read_apply]
  show V m c main_arg3 _ = rows m c _
  unfold V
  congr 1
  funext e
  apply Fin.ext
  match e with
  | ⟨0, _⟩ => show win0_5.index t 0 * 256 + 1 * k.val = t.val * 256 + k.val; rw [(index5 t).1]; omega
  | ⟨1, _⟩ => show win0_5.index t 1 * 1024 + 1 * a.val = a.val; rw [(index5 t).2]; omega

/-- … the norm's weight, … -/
theorem block6 (c : Dev nD) (t : Fin cfg0.N) : blk6 m c t = normed m c := by
  funext j
  unfold blk6 iblk
  rw [View.read_apply]
  show V m c main_arg4 _ = normed m c _
  unfold V
  congr 1
  funext e
  apply Fin.ext
  match e with
  | ⟨0, _⟩ => show win0_6.index t 0 * 1 + 1 * (j 0).val = (j 0).val; rw [(index6 t).1]; omega
  | ⟨1, _⟩ => show win0_6.index t 1 * 1024 + 1 * (j 1).val = (j 1).val; rw [(index6 t).2]; omega

/-- … the scales, … -/
theorem block7 (c : Dev nD) (t : Fin cfg0.N) : blk7 m c t = scales m c := by
  funext j
  unfold blk7 iblk
  rw [View.read_apply]
  show V m c main_arg5 _ = scales m c _
  unfold V
  congr 1
  funext e
  apply Fin.ext
  match e with
  | ⟨0, _⟩ => show win0_7.index t 0 * 2 + 1 * (j 0).val = (j 0).val; rw [(index7 t).1]; omega
  | ⟨1, _⟩ => show win0_7.index t 1 * 6 + 1 * (j 1).val = (j 1).val; rw [(index7 t).2.1]; omega
  | ⟨2, _⟩ => show win0_7.index t 2 * 1024 + 1 * (j 2).val = (j 2).val; rw [(index7 t).2.2]; omega

/-- … the gates, … -/
theorem block10 (c : Dev nD) (t : Fin cfg0.N) : blk10 m c t = scales m c := by
  funext j
  unfold blk10 iblk
  rw [View.read_apply]
  show V m c main_arg5 _ = scales m c _
  unfold V
  congr 1
  funext e
  apply Fin.ext
  match e with
  | ⟨0, _⟩ => show win0_10.index t 0 * 2 + 1 * (j 0).val = (j 0).val; rw [(index10 t).1]; omega
  | ⟨1, _⟩ => show win0_10.index t 1 * 6 + 1 * (j 1).val = (j 1).val; rw [(index10 t).2.1]; omega
  | ⟨2, _⟩ => show win0_10.index t 2 * 1024 + 1 * (j 2).val = (j 2).val; rw [(index10 t).2.2]; omega

/-- … and the residual stream's cotangent, from the arguments. -/
theorem block8 (c : Dev nD) (t : Fin cfg0.N) (k : Fin 256) (a : Fin 1024) (h : t.val * 256 + k.val < 8448) :
    blk8 m c t (ix2 k a) = stream m c (ix2 ⟨t.val * 256 + k.val, h⟩ a) := by
  unfold blk8 iblk
  rw [View.read_apply]
  show V m c main_arg6 _ = stream m c _
  unfold V
  congr 1
  funext e
  apply Fin.ext
  match e with
  | ⟨0, _⟩ => show win0_8.index t 0 * 256 + 1 * k.val = t.val * 256 + k.val; rw [(index8 t).1]; omega
  | ⟨1, _⟩ => show win0_8.index t 1 * 1024 + 1 * a.val = a.val; rw [(index8 t).2]; omega

/-! ## The three results -/

section results
variable (x : Vec Ideal S8448x5632 .bf16) (w : Vec Ideal S3x5632 .f32) (u : Vec Ideal S4x1024x1408 .bf16)

/-- The cotangent's row before row `i` in its sequence (the second sequence begins at row 8192), zero at its first row; … -/
def rowBefore (i : Fin 8448) (b : Fin 5632) : EReal :=
  if i.val = 0 ∨ i.val = 8192 then 0 else x (ix2 ⟨i.val - 1, by omega⟩ b)
/-- … and the row after it, zero at its last row. -/
def rowAfter (i : Fin 8448) (b : Fin 5632) : EReal :=
  if h : i.val = 8191 ∨ i.val = 8447 then 0 else x (ix2 ⟨i.val + 1, by omega⟩ b)
/-- The taps transposed, over a whole sequence. -/
def tapped (i : Fin 8448) (b : Fin 5632) : EReal :=
  w (ix2 0 b) * rowAfter x i b + w (ix2 1 b) * x (ix2 i b) + w (ix2 2 b) * rowBefore x i b
/-- That, times the weight. -/
def through (i : Fin 8448) (k : Fin 1024) : EReal :=
  ∑ j : Fin 5632, tapped x w i j * u (ix3 ⟨j.val / 1408, by omega⟩ k ⟨j.val % 1408, Nat.mod_lt _ (by decide)⟩)
/-- The sequence row `i` belongs to. -/
def seqOf (i : Fin 8448) : Fin 2 := if 8192 ≤ i.val then 1 else 0
end results

/-- The blocks at which a sequence begins, … -/
theorem hasBefore_iff : ∀ t : Fin cfg0.N, hasBefore (grid0.coords t) = 1#1 ↔ ¬(t.val = 0 ∨ t.val = 32) :=
  (by decide +kernel : ∀ t : Fin grid0.N, _)
/-- … those at which one ends, … -/
theorem hasAfter_iff : ∀ t : Fin cfg0.N, hasAfter (grid0.coords t) = 1#1 ↔ ¬(t.val = 31 ∨ t.val = 32) :=
  (by decide +kernel : ∀ t : Fin grid0.N, _)
/-- … and the sequence of a block. -/
theorem seq_eq : ∀ t : Fin cfg0.N, seq (grid0.coords t) = if 32 ≤ t.val then 1 else 0 :=
  (by decide +kernel : ∀ t : Fin grid0.N, _)
/-- Every step writes its blocks back. -/
theorem flush11 : ∀ t : Fin cfg0.N, (cfg0.win 11).flush t = true := (by decide +kernel : ∀ t : Fin grid0.N, _)
theorem flush12 : ∀ t : Fin cfg0.N, (cfg0.win 12).flush t = true := (by decide +kernel : ∀ t : Fin grid0.N, _)
theorem flush13 : ∀ t : Fin cfg0.N, (cfg0.win 13).flush t = true := (by decide +kernel : ∀ t : Fin grid0.N, _)

/-- Row `r` of step `t`'s block, tapped with its halos, is row `256 t + r` tapped in its sequence. -/
theorem tap_eq (c : Dev nD) (t : Fin cfg0.N) (r : Fin 256) (b : Fin 5632) (h : t.val * 256 + r.val < 8448) :
    tap (hasBefore (grid0.coords t)) (hasAfter (grid0.coords t)) (blk0 m c t) (blk1 m c t) (blk2 m c t) (blk3 m c t) r b
      = tapped (cots m c) (tapsOf m c) ⟨t.val * 256 + r.val, h⟩ b := by
  have ht : t.val < 33 := lt_of_lt_of_eq t.isLt N_0
  have hr := r.isLt
  unfold tap tapped
  rw [block3, block1 m c t r b h]
  refine congrArg₂ (· + ·) (congrArg (· + _) (congrArg (_ * ·) ?_)) (congrArg (_ * ·) ?_)
  · unfold after rowAfter
    by_cases h1 : r.val + 1 < 256
    · rw [dif_pos h1, dif_neg (by dsimp only; omega), block1 m c t _ b (by dsimp only; omega)]
      exact congrArg (cots m c) (congrArg (ix2 · b) (Fin.ext (by dsimp only; omega)))
    · rw [dif_neg h1]
      by_cases h2 : t.val = 31 ∨ t.val = 32
      · rw [if_neg (fun e => (hasAfter_iff t).mp e h2), dif_pos (by dsimp only; omega)]
      · rw [if_pos ((hasAfter_iff t).mpr h2), dif_neg (by dsimp only; omega), block2 m c t 0 b (by show min (16 * t.val + 16) 527 * 16 + 0 < 8448; omega)]
        exact congrArg (cots m c) (congrArg (ix2 · b) (Fin.ext (by show min (16 * t.val + 16) 527 * 16 + 0 = t.val * 256 + r.val + 1; omega)))
  · unfold before rowBefore
    by_cases h1 : r.val = 0
    · rw [if_pos h1]
      by_cases h2 : t.val = 0 ∨ t.val = 32
      · rw [if_neg (fun e => (hasBefore_iff t).mp e h2), if_pos (by dsimp only; omega)]
      · rw [if_pos ((hasBefore_iff t).mpr h2), if_neg (by dsimp only; omega), block0 m c t 15 b (by show (16 * t.val - 1) * 16 + 15 < 8448; omega)]
        exact congrArg (cots m c) (congrArg (ix2 · b) (Fin.ext (by show (16 * t.val - 1) * 16 + 15 = t.val * 256 + r.val - 1; omega)))
    · rw [if_neg h1, if_neg (by dsimp only; omega), block1 m c t _ b (by dsimp only; omega)]
      exact congrArg (cots m c) (congrArg (ix2 · b) (Fin.ext (by dsimp only; omega)))

/-- THE FIRST RESULT at an entry. -/
theorem du_apply (c : Dev nD) (i : Fin 8448) (b : Fin 5632) :
    ((dats m 0 c).arrAt 11 cfg0.N : Vec Ideal S8448x5632 .bf16) (ix2 i b) = tapped (cots m c) (tapsOf m c) i b := by
  have ht : i.val / 256 < cfg0.N := by rw [show cfg0.N = 33 from N_0]; omega
  have hr : i.val % 256 < 256 := Nat.mod_lt _ (by decide)
  have hb := congrFun (blocks11 m c ⟨i.val / 256, ht⟩ (flush11 _)) (ix2 (⟨i.val % 256, hr⟩ : Fin 256) b : S256x5632.Idx)
  rw [View.read_apply, flushed_du] at hb
  have hi : (((cfg0.win 11).blk ⟨i.val / 256, ht⟩).view.emb (ix2 (⟨i.val % 256, hr⟩ : Fin 256) b : S256x5632.Idx) : S8448x5632.Idx) = ix2 i b := by
    funext e
    apply Fin.ext
    match e with
    | ⟨0, _⟩ => show win0_11.index ⟨i.val / 256, ht⟩ 0 * 256 + 1 * (i.val % 256) = i.val; rw [(index11 _).1]; dsimp only; omega
    | ⟨1, _⟩ => show win0_11.index ⟨i.val / 256, ht⟩ 1 * 5632 + 1 * b.val = b.val; rw [(index11 _).2]; omega
  refine (congrArg ((dats m 0 c).arrAt 11 cfg0.N : Vec Ideal S8448x5632 .bf16) hi.symm).trans (hb.trans ?_)
  refine (duBlock_apply _ _ _ _ _ _ ⟨i.val % 256, hr⟩ b).trans ((tap_eq m c ⟨i.val / 256, ht⟩ ⟨i.val % 256, hr⟩ b (by dsimp only; omega)).trans ?_)
  exact congrArg (tapped _ _ · b) (Fin.ext (by dsimp only; omega))

/-- The product with the weight, likewise. -/
theorem dh_eq (c : Dev nD) (t : Fin cfg0.N) (r : Fin 256) (k : Fin 1024) (h : t.val * 256 + r.val < 8448) :
    dhBlock (F := Ideal) (hasBefore (grid0.coords t)) (hasAfter (grid0.coords t)) (blk0 m c t) (blk1 m c t) (blk2 m c t) (blk3 m c t)
        (blk4 m c t) (ix2 r k)
      = through (cots m c) (tapsOf m c) (weight m c) ⟨t.val * 256 + r.val, h⟩ k := by
  rw [dhBlock_apply]
  unfold through
  refine Finset.sum_congr rfl fun j _ => ?_
  rw [tap_eq m c t r j h, block4]

/-- One entry of the residual stream's cotangent. -/
def dxAt (c : Dev nD) (i : Fin 8448) (k : Fin 1024) : EReal :=
  behind (fun j => through (cots m c) (tapsOf m c) (weight m c) i j * (1 + scales m c (ix3 (seqOf i) 4 j))) (fun j => normed m c (ix2 0 j))
    (fun j => rows m c (ix2 i j)) (stream m c (ix2 i k)) k

/-- An entry of the cotangent of the rows, from the whole arrays. -/
theorem dx_eq (c : Dev nD) (t : Fin cfg0.N) (r : Fin 256) (k : Fin 1024) (h : t.val * 256 + r.val < 8448) :
    dxBlock (F := Ideal) (grid0.coords t) (hasBefore (grid0.coords t)) (hasAfter (grid0.coords t)) (blk0 m c t) (blk1 m c t) (blk2 m c t)
        (blk3 m c t) (blk4 m c t) (blk5 m c t) (blk6 m c t) (blk7 m c t) (blk8 m c t) (ix2 r k)
      = dxAt m c ⟨t.val * 256 + r.val, h⟩ k := by
  have hr := r.isLt
  have hs : seq (grid0.coords t) = seqOf ⟨t.val * 256 + r.val, h⟩ := by
    rw [seq_eq]
    unfold seqOf
    by_cases h1 : 32 ≤ t.val
    · rw [if_pos h1, if_pos (by dsimp only; omega)]
    · rw [if_neg h1, if_neg (by dsimp only; omega)]
  rw [dxBlock_apply]
  unfold dxAt
  simp only [dh_eq m c t r _ h, hs, block5 m c t r _ h, block6, block7, block8 m c t r _ h]

/-- THE SECOND RESULT at an entry. -/
theorem dx_apply (c : Dev nD) (i : Fin 8448) (k : Fin 1024) :
    ((dats m 0 c).arrAt 12 cfg0.N : Vec Ideal S8448x1024 .f32) (ix2 i k) = dxAt m c i k := by
  have ht : i.val / 256 < cfg0.N := by rw [show cfg0.N = 33 from N_0]; omega
  have hr : i.val % 256 < 256 := Nat.mod_lt _ (by decide)
  have hb := congrFun (blocks12 m c ⟨i.val / 256, ht⟩ (flush12 _)) (ix2 (⟨i.val % 256, hr⟩ : Fin 256) k : S256x1024.Idx)
  rw [View.read_apply, flushed_dx] at hb
  have hi : (((cfg0.win 12).blk ⟨i.val / 256, ht⟩).view.emb (ix2 (⟨i.val % 256, hr⟩ : Fin 256) k : S256x1024.Idx) : S8448x1024.Idx) = ix2 i k := by
    funext e
    apply Fin.ext
    match e with
    | ⟨0, _⟩ => show win0_12.index ⟨i.val / 256, ht⟩ 0 * 256 + 1 * (i.val % 256) = i.val; rw [(index12 _).1]; dsimp only; omega
    | ⟨1, _⟩ => show win0_12.index ⟨i.val / 256, ht⟩ 1 * 1024 + 1 * k.val = k.val; rw [(index12 _).2]; omega
  refine (congrArg ((dats m 0 c).arrAt 12 cfg0.N : Vec Ideal S8448x1024 .f32) hi.symm).trans (hb.trans ?_)
  refine (dx_eq m c ⟨i.val / 256, ht⟩ ⟨i.val % 256, hr⟩ k (by dsimp only; omega)).trans ?_
  exact congrArg (dxAt m c · k) (Fin.ext (by dsimp only; omega))

/-- THE THIRD RESULT at an entry: the second, gated. -/
theorem dy_apply (c : Dev nD) (i : Fin 8448) (k : Fin 1024) :
    ((dats m 0 c).arrAt 13 cfg0.N : Vec Ideal S8448x1024 .bf16) (ix2 i k) = scales m c (ix3 (seqOf i) 2 k) * dxAt m c i k := by
  have ht : i.val / 256 < cfg0.N := by rw [show cfg0.N = 33 from N_0]; omega
  have hr : i.val % 256 < 256 := Nat.mod_lt _ (by decide)
  have hb := congrFun (blocks13 m c ⟨i.val / 256, ht⟩ (flush13 _)) (ix2 (⟨i.val % 256, hr⟩ : Fin 256) k : S256x1024.Idx)
  rw [View.read_apply, flushed_dy] at hb
  have hi : (((cfg0.win 13).blk ⟨i.val / 256, ht⟩).view.emb (ix2 (⟨i.val % 256, hr⟩ : Fin 256) k : S256x1024.Idx) : S8448x1024.Idx) = ix2 i k := by
    funext e
    apply Fin.ext
    match e with
    | ⟨0, _⟩ => show win0_13.index ⟨i.val / 256, ht⟩ 0 * 256 + 1 * (i.val % 256) = i.val; rw [(index13 _).1]; dsimp only; omega
    | ⟨1, _⟩ => show win0_13.index ⟨i.val / 256, ht⟩ 1 * 1024 + 1 * k.val = k.val; rw [(index13 _).2]; omega
  refine (congrArg ((dats m 0 c).arrAt 13 cfg0.N : Vec Ideal S8448x1024 .bf16) hi.symm).trans (hb.trans ?_)
  have hs : seq (grid0.coords ⟨i.val / 256, ht⟩) = seqOf i := by
    rw [seq_eq]
    unfold seqOf
    by_cases h1 : 32 ≤ i.val / 256
    · rw [if_pos h1, if_pos (by omega)]
    · rw [if_neg h1, if_neg (by omega)]
  refine (dyBlock_apply _ _ _ _ _ _ _ _ _ _ (blk7 m c _) _ (blk10 m c _) ⟨i.val % 256, hr⟩ k).trans (congrArg₂ (· * ·) ?_ ?_)
  · rw [block10, hs]
  · refine (dx_eq m c ⟨i.val / 256, ht⟩ ⟨i.val % 256, hr⟩ k (by dsimp only; omega)).trans ?_
    exact congrArg (dxAt m c · k) (Fin.ext (by dsimp only; omega))

end Cert.Kernel11Ideal.Block

end
-- ==== Proof.UpReference.lean ====
/-
  The gradient of the up-projection, as its plain form computes it, entry by entry; and the derivative of the norm.
-/
module

public import proofs.«01_k».proof.Proof.UpArray
public import proofs.«01_k».proof.Proof.Gen.Reference11Ideal.Read

@[expose] public section

set_option maxRecDepth 100000

noncomputable section

namespace Cert.Up

open Idealize.ShloMosaic
open Cert.Kernel11Ideal.Block (width small inverse behind tapped rowAfter rowBefore through seqOf)

/-- The number of columns is 1024. -/
theorem width_eq : width = ((1024 : ℝ) : EReal) := by
  unfold width
  simp [Ideal.ofBits, Ideal.ieee]
  rw [← EReal.coe_mul]
  norm_num
/-- The number added to the mean square is a positive real. -/
theorem small_eq : ∃ e : ℝ, 0 < e ∧ small = (e : EReal) := by
  unfold small
  refine ⟨_, ?_, by simp only [Ideal.ofBits, Ideal.ieee]; rw [if_neg (by decide), if_neg (by decide)]⟩
  rw [if_neg (by decide)]
  positivity
/-- Minus one half, the derivative's factor. -/
def half : EReal := Ideal.ofBits .f32 0xBF000000#32
/-- … as a real. -/
theorem half_eq : half = ((-(1 / 2) : ℝ) : EReal) := by
  unfold half
  simp [Ideal.ofBits, Ideal.ieee]
  rw [← EReal.coe_mul]
  norm_num

/-- A square is not negative, … -/
theorem square_nonneg (x : EReal) : 0 ≤ x * x := by
  rcases le_total 0 x with h | h
  · exact mul_nonneg h h
  · have h' : 0 ≤ -x := EReal.neg_nonneg.mpr h
    rw [← neg_mul_neg]
    exact mul_nonneg h' h'

/-- The mean square of a row and `small`, as the reference's backward step has it. -/
def spread (x : Fin 1024 → EReal) : EReal := Ideal.div (∑ k, x k * x k) width + small

/-- … so this is a positive real, or infinite. -/
theorem spread_eq (x : Fin 1024 → EReal) : spread x = ⊤ ∨ ∃ M : ℝ, 0 < M ∧ spread x = (M : EReal) := by
  obtain ⟨e, he, hs⟩ := small_eq
  unfold spread
  rw [width_eq, Ideal.div_coe (by norm_num), hs]
  have hq : 0 ≤ (∑ k, x k * x k) * ((1 / 1024 : ℝ) : EReal) :=
    mul_nonneg (Finset.sum_nonneg fun j _ => square_nonneg _) (by exact_mod_cast (by norm_num : (0 : ℝ) ≤ 1 / 1024))
  generalize (∑ k, x k * x k) * ((1 / 1024 : ℝ) : EReal) = q at hq ⊢
  induction q with
  | bot => exact absurd hq (by simp)
  | top => exact Or.inl (EReal.top_add_coe e)
  | coe q => exact Or.inr ⟨q + e, add_pos_of_nonneg_of_pos (by exact_mod_cast hq) he, (EReal.coe_add q e).symm⟩

/-- The row's cotangent as the derivative of the normalisation gives it. -/
def back (d w x : Fin 1024 → EReal) : EReal :=
  Ideal.div ((∑ j, x j * (d j * w j)) * (half * Ideal.div (Ideal.rsqrt (spread x)) (spread x))) width

/-- A real that is not negative goes into a sum. -/
theorem sum_mul_coe {r : ℝ} (hr : 0 ≤ r) {n : ℕ} (f : Fin n → EReal) : ∑ k, f k * (r : EReal) = (∑ k, f k) * (r : EReal) := by
  induction n with
  | zero => simp
  | succ n ih => rw [Fin.sum_univ_succ, Fin.sum_univ_succ, ih,
      EReal.right_distrib_of_nonneg_of_ne_top (by exact_mod_cast hr) (EReal.coe_ne_top r)]

/-- Twice an opposite is the opposite of twice. -/
theorem neg_twice (u : EReal) : -u + -u = -(u + u) := by
  induction u with
  | bot => simp
  | top => simp
  | coe u => simp only [← EReal.coe_neg, ← EReal.coe_add]; congr 1; ring

/-- The kernel's cotangent of a row is the one the derivative gives. -/
theorem behind_eq (d w x : Fin 1024 → EReal) (y : EReal) (k : Fin 1024) :
    behind d w x y k = y + ((d k * w k * Ideal.rsqrt (spread x) + x k * back d w x) + back d w x * x k) := by
  unfold back behind inverse
  change y + Ideal.rsqrt (spread x) * (d k * w k - x k * Ideal.rsqrt (spread x)
    * Ideal.div (∑ j, d j * w j * (x j * Ideal.rsqrt (spread x))) width) = _
  congr 1
  rcases spread_eq x with h | ⟨M, hM, h⟩
  · rw [h, half_eq, width_eq, Ideal.rsqrt_top, Ideal.div_coe (by norm_num)]
    simp [Ideal.div]
  · have hr : 0 ≤ (√M)⁻¹ := inv_nonneg.mpr (Real.sqrt_nonneg M)
    rw [h, Ideal.rsqrt_coe, if_neg (not_lt.mpr hM.le), if_neg hM.ne', half_eq, width_eq]
    have hS : ∑ j, d j * w j * (x j * (((√M)⁻¹ : ℝ) : EReal)) = (∑ j, x j * (d j * w j)) * (((√M)⁻¹ : ℝ) : EReal) := by
      rw [← sum_mul_coe hr]
      exact Finset.sum_congr rfl fun j _ => by rw [← mul_assoc, mul_comm (d j * w j)]
    rw [hS]
    simp only [Ideal.div_coe (show (1024 : ℝ) ≠ 0 by norm_num), Ideal.div_coe hM.ne', ← EReal.coe_mul]
    have hq : (√M)⁻¹ * (√M)⁻¹ = 1 / M := by
      rw [← mul_inv, Real.mul_self_sqrt hM.le, one_div]
    rw [← hq]
    generalize (∑ j, x j * (d j * w j)) = S
    generalize (√M)⁻¹ = r at hr ⊢
    generalize d k * w k = a
    generalize x k = z
    have hp : (0 : EReal) ≤ ((r * r * r / 2048 : ℝ) : EReal) := by exact_mod_cast (by positivity)
    have e1 : S * ((-(1 / 2) * (r * (r * r)) : ℝ) : EReal) * ((1 / 1024 : ℝ) : EReal) = -(S * ((r * r * r / 2048 : ℝ) : EReal)) := by
      rw [mul_assoc, ← EReal.coe_mul, ← mul_neg, ← EReal.coe_neg]
      congr 2
      ring
    rw [e1, neg_mul, mul_neg, mul_comm (S * _) z, add_assoc, neg_twice, ← mul_assoc z S, ← EReal.left_distrib_of_nonneg hp hp,
      ← EReal.coe_add, sub_eq_add_neg, EReal.left_distrib_of_nonneg_of_ne_top (by exact_mod_cast hr) (EReal.coe_ne_top r), mul_comm a, mul_neg]
    congr 2
    have e2 : ((r * r * r / 2048 + r * r * r / 2048 : ℝ) : EReal) = (r : EReal) * r * r * ((1 / 1024 : ℝ) : EReal) := by
      simp only [← EReal.coe_mul]
      congr 1
      ring
    rw [e2]
    ac_rfl

section reference
open Cert.Reference11Ideal Cert.Reference11Ideal.Read
variable (x0 : (⟨S8448x5632, .bf16⟩ : BufTy).Contents (Elt Ideal)) (x1 : (⟨S3x5632, .f32⟩ : BufTy).Contents (Elt Ideal)) (x2 : (⟨S4x1024x1408, .bf16⟩ : BufTy).Contents (Elt Ideal)) (x3 : (⟨S8448x1024, .f32⟩ : BufTy).Contents (Elt Ideal)) (x4 : (⟨S1x1024, .f32⟩ : BufTy).Contents (Elt Ideal)) (x5 : (⟨S2x6x1024, .f32⟩ : BufTy).Contents (Elt Ideal)) (x6 : (⟨S8448x1024, .f32⟩ : BufTy).Contents (Elt Ideal))

/-- The taps transposed over the second sequence's rows. -/
theorem second (i : Fin 256) (b : Fin 5632) :
    val_main_v113 (F := Ideal) x0 x1 (ix2 i b)
      = (if h : 1 ≤ i.val ∧ i.val - 1 < 255 then x1 (ix2 2 b) * x0 (ix2 ⟨8192 + (i.val - 1), by omega⟩ b) else (0 : EReal))
        + x1 (ix2 1 b) * x0 (ix2 ⟨8192 + i.val, by omega⟩ b)
        + (if h : i.val < 255 then x1 (ix2 0 b) * x0 (ix2 ⟨8192 + (1 + i.val), by omega⟩ b) else (0 : EReal)) := by
  pointwise [val_main_v97, val_main_v98, val_main_v99, val_main_v100, val_main_v101, val_main_v102, val_main_v103, val_main_v104, val_main_v105,
    val_main_v106, val_main_v107, val_main_v108, val_main_v109, val_main_v110, val_main_v111, val_main_v112, val_main_v113, val_main_v92,
    val_main_v88, val_main_v87, val_main_v83, val_main_v82, val_main_v81, val_main_v78, val_main_v74, val_main_v73, val_main_cst_11, val_main_cst_12]

/-- … over the first sequence's. -/
theorem first (i : Fin 8192) (b : Fin 5632) :
    val_main_v128 (F := Ideal) x0 x1 (ix2 i b)
      = (if h : 1 ≤ i.val ∧ i.val - 1 < 8191 then x1 (ix2 2 b) * x0 (ix2 ⟨i.val - 1, by omega⟩ b) else (0 : EReal))
        + x1 (ix2 1 b) * x0 (ix2 ⟨i.val, by omega⟩ b)
        + (if h : i.val < 8191 then x1 (ix2 0 b) * x0 (ix2 ⟨1 + i.val, by omega⟩ b) else (0 : EReal)) := by
  pointwise [val_main_v97, val_main_v98, val_main_v115, val_main_v116, val_main_v117, val_main_v118, val_main_v119, val_main_v120, val_main_v121,
    val_main_v122, val_main_v123, val_main_v124, val_main_v125, val_main_v126, val_main_v127, val_main_v128, val_main_v53, val_main_v49,
    val_main_v48, val_main_v58, val_main_v57, val_main_v56, val_main_v67, val_main_v63, val_main_v62, val_main_cst_14, val_main_cst_15]

/-- The two laid one after the other. -/
theorem joined (i : Fin 8448) (b : Fin 5632) :
    val_main_v131 (F := Ideal) x0 x1 (ix2 i b)
      = (if h : 8192 ≤ i.val ∧ i.val - 8192 < 256 then val_main_v113 (F := Ideal) x0 x1 (ix2 ⟨i.val - 8192, by omega⟩ b) else (0 : EReal))
        + (if h : i.val < 8192 then val_main_v128 (F := Ideal) x0 x1 (ix2 ⟨i.val, by omega⟩ b) else (0 : EReal)) := by
  pointwise [val_main_v131, val_main_v130, val_main_v129, val_main_v114, val_main_cst_13, val_main_cst_16]

/-- The order in which the three tapped rows are added. -/
theorem swap {a b c a' b' c' : EReal} (ha : a = a') (hb : b = b') (hc : c = c') : b + c + a = a' + c' + b' := by
  subst ha hb hc
  ac_rfl

/-- The reference's cotangent of the rows under the taps. -/
theorem du_entry (i : Fin 8448) (b : Fin 5632) : val_main_v131 (F := Ideal) x0 x1 (ix2 i b) = tapped x0 x1 i b := by
  rw [joined]
  unfold tapped rowAfter rowBefore
  by_cases h : i.val < 8192
  · rw [dif_neg (by omega), dif_pos h, zero_add, first]
    simp only [ix2_eq_valueIdx]
    refine swap ?_ ?_ rfl
    · by_cases h' : i.val < 8191
      · rw [dif_pos h', dif_neg (by omega)]
        simp only [Nat.add_comm 1]
      · rw [dif_neg h', dif_pos (by omega), mul_zero]
    · by_cases h' : i.val = 0
      · rw [dif_neg (by omega), if_pos (Or.inl h'), mul_zero]
      · rw [dif_pos (by omega), if_neg (by omega)]
  · have e : 8192 + (i.val - 8192) = i.val := by omega
    rw [dif_pos (by omega), dif_neg h, add_zero, second]
    simp only [ix2_eq_valueIdx]
    refine swap ?_ ?_ ?_
    · by_cases h' : i.val < 8447
      · rw [dif_pos (by omega), dif_neg (by omega)]
        have e' : 8192 + (1 + (i.val - 8192)) = i.val + 1 := by omega
        simp only [e']
      · rw [dif_neg (by omega), dif_pos (by omega), mul_zero]
    · by_cases h' : i.val = 8192
      · rw [dif_neg (by omega), if_pos (Or.inr h'), mul_zero]
      · rw [dif_pos (by omega), if_neg (by omega)]
        have e' : 8192 + (i.val - 8192 - 1) = i.val - 1 := by omega
        simp only [e']
    · simp only [e]

/-- … and, through the weight, of the scaled normalised rows. -/
theorem through_entry (i : Fin 8448) (k : Fin 1024) : val_main_v133 (F := Ideal) x0 x1 x2 (ix2 i k) = through x0 x1 x2 i k := by
  have e : val_main_v133 (F := Ideal) x0 x1 x2 (ix2 i k)
      = ∑ j : Fin 5632, val_main_v131 (F := Ideal) x0 x1 (ix2 i j) * x2 (ix3 ⟨j.val / 1408, by omega⟩ k ⟨j.val % 1408, Nat.mod_lt _ (by decide)⟩) := by
    pointwise [val_main_v133, val_main_v132, val_main_v44, val_main_v43, val_main_v42]
  rw [e]
  simp only [du_entry]
  rfl

/-- Each sequence's rows scaled by one more than its scale. -/
theorem scaled (i : Fin 8448) (k : Fin 1024) : val_main_v142 (F := Ideal) x0 x1 x2 x5 (ix2 i k)
    = (if h : 8192 ≤ i.val ∧ i.val - 8192 < 256 then
          val_main_v133 (F := Ideal) x0 x1 x2 (ix2 ⟨8192 + (i.val - 8192), by omega⟩ k) * ((1 : EReal) + x5 (ix3 1 4 k)) else (0 : EReal))
      + (if h : i.val < 8192 then val_main_v133 (F := Ideal) x0 x1 x2 (ix2 i k) * ((1 : EReal) + x5 (ix3 0 4 k)) else (0 : EReal)) := by
  pointwise [val_main_v142, val_main_v141, val_main_v140, val_main_v139, val_main_v138, val_main_v137, val_main_v136, val_main_v135, val_main_v134,
    val_main_v20, val_main_v33, val_main_v19, val_main_v18, val_main_cst_3, val_main_v17, val_main_v16, val_main_v32, val_main_v31, val_main_cst_4,
    val_main_v30, val_main_v29, val_main_cst_17, val_main_cst_18]

/-- … and of the normalised rows. -/
theorem scaled_entry (i : Fin 8448) (k : Fin 1024) :
    val_main_v142 (F := Ideal) x0 x1 x2 x5 (ix2 i k) = through x0 x1 x2 i k * (1 + x5 (ix3 (seqOf i) 4 k)) := by
  rw [scaled]
  unfold seqOf
  by_cases h : i.val < 8192
  · rw [dif_neg (by omega), dif_pos h, zero_add, through_entry, if_neg (by omega)]
  · have e : 8192 + (i.val - 8192) = i.val := by omega
    rw [dif_pos (by omega), dif_neg h, add_zero, through_entry, if_pos (by omega)]
    simp only [e]

/-- The reference's cotangent of the rows, entry by entry, from that of the normalised rows. -/
theorem dx_entry (i : Fin 8448) (k : Fin 1024) :
    val_main_v159 (F := Ideal) x0 x1 x2 x3 x4 x5 x6 (ix2 i k)
      = (x6 (ix2 i k) : EReal)
        + ((through x0 x1 x2 i k * (1 + x5 (ix3 (seqOf i) 4 k)) * x4 (ix2 0 k) * Ideal.rsqrt (spread fun j => x3 (ix2 i j))
            + x3 (ix2 i k) * back (fun j => through x0 x1 x2 i j * (1 + x5 (ix3 (seqOf i) 4 j))) (fun j => x4 (ix2 0 j)) (fun j => x3 (ix2 i j)))
          + back (fun j => through x0 x1 x2 i j * (1 + x5 (ix3 (seqOf i) 4 j))) (fun j => x4 (ix2 0 j)) (fun j => x3 (ix2 i j)) * x3 (ix2 i k)) := by
  unfold back spread half
  simp only [← scaled_entry x0 x1 x2 x5 i]
  pointwise [val_main_v159, val_main_v158, val_main_v157, val_main_v156, val_main_v155, val_main_v154, val_main_v153, val_main_v152, val_main_v151,
    val_main_v150, val_main_v149, val_main_v148, val_main_v147, val_main_v146, val_main_v145, val_main_v144, val_main_v143, val_main_v10,
    val_main_v9, val_main_v8, val_main_v7, val_main_v6, val_main_v5, val_main_v4, val_main_v3, val_main_v2, val_main_v1, val_main_v0, val_main_cst,
    val_main_cst_0, val_main_cst_1, val_main_cst_2, val_main_cst_19, val_main_cst_20, val_main_cst_21, width, small]
  simp only [Fin.sum_univ_one]

/-- Each sequence's cotangent of the rows scaled by its gate. -/
theorem gates (i : Fin 8448) (k : Fin 1024) : val_main_v185 (F := Ideal) x0 x1 x2 x3 x4 x5 x6 (ix2 i k)
    = (if h : 8192 ≤ i.val ∧ i.val - 8192 < 256 then
          x5 (ix3 1 2 k) * val_main_v159 (F := Ideal) x0 x1 x2 x3 x4 x5 x6 (ix2 ⟨8192 + (i.val - 8192), by omega⟩ k) else (0 : EReal))
      + (if h : i.val < 8192 then x5 (ix3 0 2 k) * val_main_v159 (F := Ideal) x0 x1 x2 x3 x4 x5 x6 (ix2 i k) else (0 : EReal)) := by
  pointwise [val_main_v185, val_main_v184, val_main_v183, val_main_v182, val_main_v181, val_main_v180, val_main_v179, val_main_v178, val_main_v177,
    val_main_v176, val_main_v175, val_main_v172, val_main_v171, val_main_v168, val_main_v167, val_main_v165, val_main_v164, val_main_v161,
    val_main_v160, val_main_cst_22, val_main_cst_23]

/-- The reference's cotangent of what was added to the rows is the rows' scaled by the sequence's gate. -/
theorem dy_entry (i : Fin 8448) (k : Fin 1024) :
    val_main_v185 (F := Ideal) x0 x1 x2 x3 x4 x5 x6 (ix2 i k) = x5 (ix3 (seqOf i) 2 k) * val_main_v159 (F := Ideal) x0 x1 x2 x3 x4 x5 x6 (ix2 i k) := by
  rw [gates]
  unfold seqOf
  by_cases h : i.val < 8192
  · rw [dif_neg (by omega), dif_pos h, zero_add, if_neg (by omega)]
  · have e : 8192 + (i.val - 8192) = i.val := by omega
    rw [dif_pos (by omega), dif_neg h, add_zero, if_pos (by omega)]
    simp only [e]
end reference

end Cert.Up

end
-- ==== Proof.UpAlgebraic.lean ====
/-
  The gradient of the up-projection is its plain form's, array by array.
-/
module

public import proofs.«01_k».proof.Defs
public import proofs.«01_k».proof.Proof.UpReference
public import proofs.«01_k».proof.Proof.Gen.Reference11Ideal.Run

@[expose] public section

set_option maxRecDepth 100000

noncomputable section

namespace Cert.Up

open Idealize.ShloMosaic Idealize.SL.Sem
open Cert.Reference11Ideal.Read Cert.Kernel11Ideal.Block
open Idealize.ShloMosaic.TcCoe

section kernel
variable (m : (ℓ : Loc Cert.Kernel11Ideal.nD Cert.Kernel11Ideal.τ Cert.Kernel11Ideal.sig) → Buf (Elt Ideal) ℓ) (c : Dev Cert.Kernel11Ideal.nD)

/-- The kernel's cotangent of the rows is the reference's. -/
theorem dx_eq (i : Fin 8448) (k : Fin 1024) : dxAt m c i k
    = val_main_v159 (F := Ideal) (cots m c) (tapsOf m c) (weight m c) (rows m c) (normed m c) (scales m c) (stream m c) (ix2 i k) := by
  rw [dx_entry]
  unfold dxAt
  simp only [← ix2_eq_valueIdx, ← ix3_eq_valueIdx]
  exact behind_eq _ _ _ _ k
end kernel

section results
variable (m : (ℓ : Loc Cert.Kernel11Ideal.nD Cert.Kernel11Ideal.τ Cert.Kernel11Ideal.sig) → Buf (Elt Ideal) ℓ) (c : Dev Cert.Kernel11Ideal.nD)

/-- The kernel's first array, the cotangent of the product, is the reference's; … -/
theorem du_result : ((Cert.Kernel11Ideal.Gen.dats m 0 c).arrAt 11 Cert.Kernel11Ideal.cfg0.N : Vec Ideal Cert.Kernel11Ideal.S8448x5632 .bf16)
    = val_main_v131 (F := Ideal) (cots m c) (tapsOf m c) := by
  funext j
  idx_vars j
  rw [du_entry]
  exact du_apply m c _ _

/-- … so is the second, the cotangent of the rows; … -/
theorem dx_result :
    ((Cert.Kernel11Ideal.Gen.dats m 0 c).arrAt 12 Cert.Kernel11Ideal.cfg0.N : Vec Ideal Cert.Kernel11Ideal.S8448x1024 .f32)
      = val_main_v159 (F := Ideal) (cots m c) (tapsOf m c) (weight m c) (rows m c) (normed m c) (scales m c) (stream m c) := by
  funext j
  idx_vars j
  rw [← dx_eq m]
  exact dx_apply m c _ _

/-- … and the third, the cotangent of what was added to the rows. -/
theorem dy_result :
    ((Cert.Kernel11Ideal.Gen.dats m 0 c).arrAt 13 Cert.Kernel11Ideal.cfg0.N : Vec Ideal Cert.Kernel11Ideal.S8448x1024 .bf16)
      = val_main_v185 (F := Ideal) (cots m c) (tapsOf m c) (weight m c) (rows m c) (normed m c) (scales m c) (stream m c) := by
  funext j
  idx_vars j
  rw [dy_entry, ← dx_eq m]
  exact dy_apply m c _ _
end results

/-- `Kernel11Ideal` computes what `Reference11Ideal` computes. -/
theorem algebraic : Cert.algebraic_Kernel11Ideal_Reference11Ideal := fun m g m' g' _ hagree =>
  ⟨fun c => (Cert.Kernel11Ideal.Gen.dats m 0 c).arrAt 11 Cert.Kernel11Ideal.cfg0.N,
    fun c => (Cert.Kernel11Ideal.Gen.dats m 0 c).arrAt 12 Cert.Kernel11Ideal.cfg0.N,
    fun c => (Cert.Kernel11Ideal.Gen.dats m 0 c).arrAt 13 Cert.Kernel11Ideal.cfg0.N,
    (θ_run Cert.Kernel11Ideal.defs _ _).mono (fun _ h c => ⟨(h c).1, (h c).2.1, (h c).2.2.1, (h c).2.2.2.2.2.2⟩)
      (Cert.Kernel11Ideal.Value.run_blocks (F := Ideal) m g),
    (θ_run Cert.Reference11Ideal.defs _ _).mono (fun _ h c => by
      obtain ⟨e0, e1, e2, e3, e4, e5, e6, -⟩ := hagree c
      refine ⟨(h c).1.trans ?_, (h c).2.1.trans ?_, (h c).2.2.1.trans ?_, (h c).2.2.2⟩
      · have h0 := (du_result m c).symm
        unfold cots tapsOf at h0
        rw [← e0, ← e1] at h0
        exact (val_main_v131_eq _).trans h0
      · have h1 := (dx_result m c).symm
        unfold cots tapsOf weight rows normed scales stream at h1
        rw [← e0, ← e1, ← e2, ← e3, ← e4, ← e5, ← e6] at h1
        exact (val_main_v159_eq _).trans h1
      · have h2 := (dy_result m c).symm
        unfold cots tapsOf weight rows normed scales stream at h2
        rw [← e0, ← e1, ← e2, ← e3, ← e4, ← e5, ← e6] at h2
        exact (val_main_v185_eq _).trans h2)
      (Cert.Reference11Ideal.Value.run (F := Ideal) m' g')⟩

end Cert.Up

end
-- ==== Proof.UpBits.lean ====
/-
  The frame of the up-projection's gradient on the chip's numbers.

  The program on the chip's numbers and the ideal one have the same text, and the run of the ideal one is
  written over any format of numbers. Here that run is read as a run of the other: the two tables of kernel
  bodies are the same table.
-/
module

public import proofs.«01_k».proof.Defs
public import proofs.«01_k».proof.Proof.UpFrame
public import proofs.«01_k».proof.Proof.Gen.Kernel11

@[expose] public section

set_option maxRecDepth 100000

namespace Cert.Up

open Idealize.ShloMosaic Idealize.SL.Sem

/-- The two programs have the same kernel body. -/
theorem body_eq : @Cert.Kernel11.cc0_ffn_up_bwd Bits _ _ = @Cert.Kernel11Ideal.cc0_ffn_up_bwd Bits _ _ := rfl

-- seventeen windows are compared, each with its buffers
set_option maxHeartbeats 2000000 in
/-- They call it on the same windows at the same points. -/
theorem bodies_eq : Cert.Kernel11.defs₀ (F := Bits) = Cert.Kernel11Ideal.defs₀ (F := Bits) := by
  unfold Cert.Kernel11.defs₀ Cert.Kernel11Ideal.defs₀
  rw [body_eq]
  generalize @Cert.Kernel11Ideal.cc0_ffn_up_bwd Bits _ _ = body
  refine congrArg Defs.onTc (funext fun l => funext fun a => ?_)
  match l, a with
  | 0, (t, s) => rfl
  | ⟨n + 1, h⟩, _ => exact absurd h (Nat.not_lt.2 (Nat.le_add_left _ _))

/-- So their tables are one. -/
theorem table_eq : Cert.Kernel11.defs (F := Bits) = Cert.Kernel11Ideal.defs (F := Bits) := by
  unfold Cert.Kernel11.defs Cert.Kernel11Ideal.defs
  rw [bodies_eq]
  rfl

/-- The frame on the chip's numbers, from the one run. -/
theorem frame_kernel : Cert.quiescent_Kernel11 := fun m ρ _ => by
  have h := Cert.Kernel11Ideal.Gen.frame (F := Bits) m ρ
  rw [← table_eq] at h
  exact h

end Cert.Up
-- ==== Proof.Optimiser.lean ====
/-
  One entry of the optimiser's step, at the ideal values: the moments, and the update as the kernel has it (the moments
  times the inverses of their bias corrections) and as the reference has it (the moments divided by them).
-/
module

public import Idealize.ShloMosaic.PureOps.Ideal

@[expose] public section

noncomputable section

namespace Cert.Optimiser

open Idealize.ShloMosaic

/-- A literal. -/
abbrev lit (b : BitVec 32) : EReal := Ideal.ofBits .f32 b

/-- The first moment after a step. -/
def moment (g m : EReal) : EReal := lit 0x3F666666#32 * m + lit 0x3DCCCCCD#32 * g

/-- The second moment after a step. -/
def square (g v : EReal) : EReal := lit 0x3F7FBE77#32 * v + lit 0x3A83126F#32 * (g * g)

/-- The update from the two moments, already corrected for their bias. -/
def change (w m v : EReal) : EReal :=
  lit 0xBA83126F#32 * (Ideal.div m (Ideal.sqrt v + lit 0x322BCC77#32) + lit 0x3C23D70A#32 * w)

/-- The update of a weight. -/
def update (w g m v : EReal) : EReal :=
  change w (Ideal.div (moment g m) (lit 0x3F26BD02#32)) (Ideal.div (square g v) (lit 0x3C231ACC#32))

theorem lit_first : lit 0x3F26BD02#32 = ((5463681 / 8388608 : ℝ) : EReal) := by
  simp [Ideal.ofBits, Ideal.ieee, -EReal.coe_mul]; norm_num

theorem lit_second : lit 0x3C231ACC#32 = ((2672307 / 268435456 : ℝ) : EReal) := by
  simp [Ideal.ofBits, Ideal.ieee, -EReal.coe_mul]; norm_num

/-- Multiplied with the inverse or divided: the first moment's correction. -/
theorem first (x : EReal) : x * ((8388608 / 5463681 : ℝ) : EReal) = Ideal.div x (lit 0x3F26BD02#32) := by
  rw [lit_first, Ideal.div_coe (by norm_num)]
  norm_num

/-- And the second moment's. -/
theorem second (x : EReal) : x * ((268435456 / 2672307 : ℝ) : EReal) = Ideal.div x (lit 0x3C231ACC#32) := by
  rw [lit_second, Ideal.div_coe (by norm_num)]
  norm_num

/-- So the kernel's update is the reference's. -/
theorem update_eq (w g m v : EReal) :
    change w (moment g m * ((8388608 / 5463681 : ℝ) : EReal)) (square g v * ((268435456 / 2672307 : ℝ) : EReal))
      = update w g m v := by
  rw [first, second, update]

/-- Arrays that agree on every block agree, where every place lies in a block. -/
theorem ext_blocks {T B S : Type} (place : T → B → S) (onto : ∀ j, ∃ t y, place t y = j) {X Y : S → EReal}
    (h : ∀ t y, X (place t y) = Y (place t y)) : X = Y := by
  funext j
  obtain ⟨t, y, rfl⟩ := onto j
  exact h t y

/-- Row `i` is row `i % b` of the block `i / b` of `b` rows. -/
theorem row_place {i t b : ℕ} (h : t = i / b) : t * b + 1 * (i % b) = i := by
  rw [h, one_mul, mul_comm, Nat.div_add_mod]

end Cert.Optimiser

end
-- ==== Proof.OptimiserUp.lean ====
/-
  The optimiser's step of `w_up` (`Kernel12`), at the ideal values. Every window of the call moves alike, so each entry of
  the results comes from the arguments' entries at its own place.
-/
module

public import proofs.«01_k».proof.Proof.Gen.Kernel12Ideal.Value
public import proofs.«01_k».proof.Proof.Gen.Reference12Ideal.Run
public import proofs.«01_k».proof.Defs
public import proofs.«01_k».proof.Proof.Products
public import proofs.«01_k».proof.Proof.Optimiser

@[expose] public section

set_option maxRecDepth 16384

noncomputable section

namespace Cert.Optimiser.Up

open Cert.Kernel12Ideal Cert.Kernel12Ideal.Gen Cert.Kernel12Ideal.Value
open Idealize.ShloMosaic Idealize.ShloMosaic.TcCoe Idealize.SL.Sem Idealize.ShloMosaic.ValueIdx
open Cert.Products Cert.Optimiser

/-! What a block stores, at an entry; in the update the named inverses are at their values. -/

section Block

variable (w a b m v : Vec Ideal S128x1408 .f32) (j : S128x1408.Idx)

theorem block5 : out0_5 w a b m v j = a j + b j := by
  unfold out0_5
  rw [View.canon_unit_zero zero2, View.ld_unit_zero zero2, View.ld_unit_zero zero2]
  rfl

theorem block6 : out0_6 w a b m v j = update (w j) (a j + b j) (m j) (v j) := by
  unfold out0_6
  rw [View.canon_unit_zero zero2, View.ld_unit_zero zero2, View.ld_unit_zero zero2, View.ld_unit_zero zero2,
    View.ld_unit_zero zero2, View.ld_unit_zero zero2, ← update_eq,
    ← IdealRules.named_const.ideal_named_scalar (κ := κ) "c1" (φ := .f32) 0x3FC48605#32 _ rfl,
    ← IdealRules.named_const.ideal_named_scalar (κ := κ) "c2" (φ := .f32) 0x42C8E6D3#32 _ rfl]
  rfl

theorem block7 : out0_7 w a b m v j = moment (a j + b j) (m j) := by
  unfold out0_7
  rw [View.canon_unit_zero zero2, View.ld_unit_zero zero2, View.ld_unit_zero zero2, View.ld_unit_zero zero2]
  rfl

theorem block8 : out0_8 w a b m v j = square (a j + b j) (v j) := by
  unfold out0_8
  rw [View.canon_unit_zero zero2, View.ld_unit_zero zero2, View.ld_unit_zero zero2, View.ld_unit_zero zero2]
  rfl

end Block

/-- The place in the arrays of an entry of step `t`'s block. -/
abbrev place (t : Fin cfg0.N) (y : S128x1408.Idx) : S4096x1408.Idx := ((cfg0.win 5).blk t).view.emb y

theorem index : ∀ t : Fin cfg0.N, win0_5.index t (0 : Fin 2) = t.val ∧ win0_5.index t (1 : Fin 2) = 0 :=
  (by decide +kernel : ∀ t : Fin grid0.N, _)

/-- Every place of an array lies in a block. -/
theorem onto (j : S4096x1408.Idx) : ∃ t y, place t y = j := by
  have hj : (j 0).val < 4096 := (j 0).isLt
  have hN : cfg0.N = 32 := N_0
  refine ⟨⟨(j 0).val / 128, by omega⟩,
    (ix2 ⟨(j 0).val % 128, Nat.mod_lt _ (by decide)⟩ (j 1) : S128x1408.Idx), ?_⟩
  funext e
  apply Fin.ext
  match e with
  | ⟨0, _⟩ => exact row_place (index _).1
  | ⟨1, _⟩ => show win0_5.index _ 1 * 1408 + 1 * (j 1).val = (j 1).val; rw [(index _).2]; omega

variable (m : (ℓ : Loc nD τ sig) → Buf (Elt Ideal) ℓ) (c : Dev nD)

/-- The weight, the two parts of its gradient, and its moments, as the program is given them. -/
abbrev arg0 : S4096x1408.Idx → EReal := m ((c : Thread nD τ).loc main_arg0)
abbrev arg1 : S4096x1408.Idx → EReal := m ((c : Thread nD τ).loc main_arg1)
abbrev arg2 : S4096x1408.Idx → EReal := m ((c : Thread nD τ).loc main_arg2)
abbrev arg3 : S4096x1408.Idx → EReal := m ((c : Thread nD τ).loc main_arg3)
abbrev arg4 : S4096x1408.Idx → EReal := m ((c : Thread nD τ).loc main_arg4)

theorem result5 : ((dats m 0 c).arrAt 5 cfg0.N : S4096x1408.Idx → EReal)
    = fun j => arg1 m c j + arg2 m c j :=
  ext_blocks place onto fun t y => by
    have h := congrFun (blocks5 m c t (flush0_5 t)) y
    rw [View.read_apply, flushed5] at h
    exact h.trans (block5 _ _ _ _ _ y)

theorem result6 : ((dats m 0 c).arrAt 6 cfg0.N : S4096x1408.Idx → EReal)
    = fun j => update (arg0 m c j) (arg1 m c j + arg2 m c j) (arg3 m c j) (arg4 m c j) :=
  ext_blocks place onto fun t y => by
    have h := congrFun (blocks6 m c t (flush0_6 t)) y
    rw [View.read_apply, flushed6] at h
    exact h.trans (block6 _ _ _ _ _ y)

theorem result7 : ((dats m 0 c).arrAt 7 cfg0.N : S4096x1408.Idx → EReal)
    = fun j => moment (arg1 m c j + arg2 m c j) (arg3 m c j) :=
  ext_blocks place onto fun t y => by
    have h := congrFun (blocks7 m c t (flush0_7 t)) y
    rw [View.read_apply, flushed7] at h
    exact h.trans (block7 _ _ _ _ _ y)

theorem result8 : ((dats m 0 c).arrAt 8 cfg0.N : S4096x1408.Idx → EReal)
    = fun j => square (arg1 m c j + arg2 m c j) (arg4 m c j) :=
  ext_blocks place onto fun t y => by
    have h := congrFun (blocks8 m c t (flush0_8 t)) y
    rw [View.read_apply, flushed8] at h
    exact h.trans (block8 _ _ _ _ _ y)

theorem algebraic : Cert.algebraic_Kernel12Ideal_Reference12Ideal := fun m g m' g' _ hagree =>
  ⟨fun c => (dats m 0 c).arrAt 5 cfg0.N, fun c => (dats m 0 c).arrAt 6 cfg0.N, fun c => (dats m 0 c).arrAt 7 cfg0.N,
    fun c => (dats m 0 c).arrAt 8 cfg0.N, run_blocks m g,
    (θ_run Cert.Reference12Ideal.defs _ _).mono (fun _ h c => by
      obtain ⟨h0, h1, h2, h3, kept⟩ := h c
      obtain ⟨a0, a1, a2, a3, a4⟩ := hagree c
      rw [a0, a1, a2, a3, a4] at h1
      rw [a1, a2] at h0
      rw [a1, a2, a3] at h2
      rw [a1, a2, a4] at h3
      exact ⟨h0.trans (result5 m c).symm, h1.trans (result6 m c).symm, h2.trans (result7 m c).symm,
        h3.trans (result8 m c).symm, kept⟩) (Cert.Reference12Ideal.Value.run (F := Ideal) m' g')⟩

end Cert.Optimiser.Up

end
-- ==== Proof.OptimiserDown.lean ====
/-
  The optimiser's step of `w_down` (`Kernel13`), at the ideal values. Every window of the call moves alike, so each entry of
  the results comes from the arguments' entries at its own place.
-/
module

public import proofs.«01_k».proof.Proof.Gen.Kernel13Ideal.Value
public import proofs.«01_k».proof.Proof.Gen.Reference13Ideal.Run
public import proofs.«01_k».proof.Defs
public import proofs.«01_k».proof.Proof.Products
public import proofs.«01_k».proof.Proof.Optimiser

@[expose] public section

set_option maxRecDepth 16384

noncomputable section

namespace Cert.Optimiser.Down

open Cert.Kernel13Ideal Cert.Kernel13Ideal.Gen Cert.Kernel13Ideal.Value
open Idealize.ShloMosaic Idealize.ShloMosaic.TcCoe Idealize.SL.Sem Idealize.ShloMosaic.ValueIdx
open Cert.Products Cert.Optimiser

/-! What a block stores, at an entry; in the update the named inverses are at their values. -/

section Block

variable (w a b m v : Vec Ideal S128x1024 .f32) (j : S128x1024.Idx)

theorem block5 : out0_5 w a b m v j = a j + b j := by
  unfold out0_5
  rw [View.canon_unit_zero zero2, View.ld_unit_zero zero2, View.ld_unit_zero zero2]
  rfl

theorem block6 : out0_6 w a b m v j = update (w j) (a j + b j) (m j) (v j) := by
  unfold out0_6
  rw [View.canon_unit_zero zero2, View.ld_unit_zero zero2, View.ld_unit_zero zero2, View.ld_unit_zero zero2,
    View.ld_unit_zero zero2, View.ld_unit_zero zero2, ← update_eq,
    ← IdealRules.named_const.ideal_named_scalar (κ := κ) "c1" (φ := .f32) 0x3FC48605#32 _ rfl,
    ← IdealRules.named_const.ideal_named_scalar (κ := κ) "c2" (φ := .f32) 0x42C8E6D3#32 _ rfl]
  rfl

theorem block7 : out0_7 w a b m v j = moment (a j + b j) (m j) := by
  unfold out0_7
  rw [View.canon_unit_zero zero2, View.ld_unit_zero zero2, View.ld_unit_zero zero2, View.ld_unit_zero zero2]
  rfl

theorem block8 : out0_8 w a b m v j = square (a j + b j) (v j) := by
  unfold out0_8
  rw [View.canon_unit_zero zero2, View.ld_unit_zero zero2, View.ld_unit_zero zero2, View.ld_unit_zero zero2]
  rfl

end Block

/-- The place in the arrays of an entry of step `t`'s block. -/
abbrev place (t : Fin cfg0.N) (y : S128x1024.Idx) : S2816x1024.Idx := ((cfg0.win 5).blk t).view.emb y

theorem index : ∀ t : Fin cfg0.N, win0_5.index t (0 : Fin 2) = t.val ∧ win0_5.index t (1 : Fin 2) = 0 :=
  (by decide +kernel : ∀ t : Fin grid0.N, _)

/-- Every place of an array lies in a block. -/
theorem onto (j : S2816x1024.Idx) : ∃ t y, place t y = j := by
  have hj : (j 0).val < 2816 := (j 0).isLt
  have hN : cfg0.N = 22 := N_0
  refine ⟨⟨(j 0).val / 128, by omega⟩,
    (ix2 ⟨(j 0).val % 128, Nat.mod_lt _ (by decide)⟩ (j 1) : S128x1024.Idx), ?_⟩
  funext e
  apply Fin.ext
  match e with
  | ⟨0, _⟩ => exact row_place (index _).1
  | ⟨1, _⟩ => show win0_5.index _ 1 * 1024 + 1 * (j 1).val = (j 1).val; rw [(index _).2]; omega

variable (m : (ℓ : Loc nD τ sig) → Buf (Elt Ideal) ℓ) (c : Dev nD)

/-- The weight, the two parts of its gradient, and its moments, as the program is given them. -/
abbrev arg0 : S2816x1024.Idx → EReal := m ((c : Thread nD τ).loc main_arg0)
abbrev arg1 : S2816x1024.Idx → EReal := m ((c : Thread nD τ).loc main_arg1)
abbrev arg2 : S2816x1024.Idx → EReal := m ((c : Thread nD τ).loc main_arg2)
abbrev arg3 : S2816x1024.Idx → EReal := m ((c : Thread nD τ).loc main_arg3)
abbrev arg4 : S2816x1024.Idx → EReal := m ((c : Thread nD τ).loc main_arg4)

theorem result5 : ((dats m 0 c).arrAt 5 cfg0.N : S2816x1024.Idx → EReal)
    = fun j => arg1 m c j + arg2 m c j :=
  ext_blocks place onto fun t y => by
    have h := congrFun (blocks5 m c t (flush0_5 t)) y
    rw [View.read_apply, flushed5] at h
    exact h.trans (block5 _ _ _ _ _ y)

theorem result6 : ((dats m 0 c).arrAt 6 cfg0.N : S2816x1024.Idx → EReal)
    = fun j => update (arg0 m c j) (arg1 m c j + arg2 m c j) (arg3 m c j) (arg4 m c j) :=
  ext_blocks place onto fun t y => by
    have h := congrFun (blocks6 m c t (flush0_6 t)) y
    rw [View.read_apply, flushed6] at h
    exact h.trans (block6 _ _ _ _ _ y)

theorem result7 : ((dats m 0 c).arrAt 7 cfg0.N : S2816x1024.Idx → EReal)
    = fun j => moment (arg1 m c j + arg2 m c j) (arg3 m c j) :=
  ext_blocks place onto fun t y => by
    have h := congrFun (blocks7 m c t (flush0_7 t)) y
    rw [View.read_apply, flushed7] at h
    exact h.trans (block7 _ _ _ _ _ y)

theorem result8 : ((dats m 0 c).arrAt 8 cfg0.N : S2816x1024.Idx → EReal)
    = fun j => square (arg1 m c j + arg2 m c j) (arg4 m c j) :=
  ext_blocks place onto fun t y => by
    have h := congrFun (blocks8 m c t (flush0_8 t)) y
    rw [View.read_apply, flushed8] at h
    exact h.trans (block8 _ _ _ _ _ y)

theorem algebraic : Cert.algebraic_Kernel13Ideal_Reference13Ideal := fun m g m' g' _ hagree =>
  ⟨fun c => (dats m 0 c).arrAt 5 cfg0.N, fun c => (dats m 0 c).arrAt 6 cfg0.N, fun c => (dats m 0 c).arrAt 7 cfg0.N,
    fun c => (dats m 0 c).arrAt 8 cfg0.N, run_blocks m g,
    (θ_run Cert.Reference13Ideal.defs _ _).mono (fun _ h c => by
      obtain ⟨h0, h1, h2, h3, kept⟩ := h c
      obtain ⟨a0, a1, a2, a3, a4⟩ := hagree c
      rw [a0, a1, a2, a3, a4] at h1
      rw [a1, a2] at h0
      rw [a1, a2, a3] at h2
      rw [a1, a2, a4] at h3
      exact ⟨h0.trans (result5 m c).symm, h1.trans (result6 m c).symm, h2.trans (result7 m c).symm,
        h3.trans (result8 m c).symm, kept⟩) (Cert.Reference13Ideal.Value.run (F := Ideal) m' g')⟩

end Cert.Optimiser.Down

end
-- ==== Proof.OptimiserInAb.lean ====
/-
  The optimiser's step of `w_in_ab` (`Kernel14`), at the ideal values. Every window of the call moves alike, so each entry of
  the results comes from the arguments' entries at its own place.
-/
module

public import proofs.«01_k».proof.Proof.Gen.Kernel14Ideal.Value
public import proofs.«01_k».proof.Proof.Gen.Reference14Ideal.Run
public import proofs.«01_k».proof.Defs
public import proofs.«01_k».proof.Proof.Products
public import proofs.«01_k».proof.Proof.Optimiser

@[expose] public section

set_option maxRecDepth 16384

noncomputable section

namespace Cert.Optimiser.InAb

open Cert.Kernel14Ideal Cert.Kernel14Ideal.Gen Cert.Kernel14Ideal.Value
open Idealize.ShloMosaic Idealize.ShloMosaic.TcCoe Idealize.SL.Sem Idealize.ShloMosaic.ValueIdx
open Cert.Products Cert.Optimiser

/-! What a block stores, at an entry; in the update the named inverses are at their values. -/

section Block

variable (w a b m v : Vec Ideal S128x640 .f32) (j : S128x640.Idx)

theorem block5 : out0_5 w a b m v j = a j + b j := by
  unfold out0_5
  rw [View.canon_unit_zero zero2, View.ld_unit_zero zero2, View.ld_unit_zero zero2]
  rfl

theorem block6 : out0_6 w a b m v j = update (w j) (a j + b j) (m j) (v j) := by
  unfold out0_6
  rw [View.canon_unit_zero zero2, View.ld_unit_zero zero2, View.ld_unit_zero zero2, View.ld_unit_zero zero2,
    View.ld_unit_zero zero2, View.ld_unit_zero zero2, ← update_eq,
    ← IdealRules.named_const.ideal_named_scalar (κ := κ) "c1" (φ := .f32) 0x3FC48605#32 _ rfl,
    ← IdealRules.named_const.ideal_named_scalar (κ := κ) "c2" (φ := .f32) 0x42C8E6D3#32 _ rfl]
  rfl

theorem block7 : out0_7 w a b m v j = moment (a j + b j) (m j) := by
  unfold out0_7
  rw [View.canon_unit_zero zero2, View.ld_unit_zero zero2, View.ld_unit_zero zero2, View.ld_unit_zero zero2]
  rfl

theorem block8 : out0_8 w a b m v j = square (a j + b j) (v j) := by
  unfold out0_8
  rw [View.canon_unit_zero zero2, View.ld_unit_zero zero2, View.ld_unit_zero zero2, View.ld_unit_zero zero2]
  rfl

end Block

/-- The place in the arrays of an entry of step `t`'s block. -/
abbrev place (t : Fin cfg0.N) (y : S128x640.Idx) : S2048x640.Idx := ((cfg0.win 5).blk t).view.emb y

theorem index : ∀ t : Fin cfg0.N, win0_5.index t (0 : Fin 2) = t.val ∧ win0_5.index t (1 : Fin 2) = 0 :=
  (by decide +kernel : ∀ t : Fin grid0.N, _)

/-- Every place of an array lies in a block. -/
theorem onto (j : S2048x640.Idx) : ∃ t y, place t y = j := by
  have hj : (j 0).val < 2048 := (j 0).isLt
  have hN : cfg0.N = 16 := N_0
  refine ⟨⟨(j 0).val / 128, by omega⟩,
    (ix2 ⟨(j 0).val % 128, Nat.mod_lt _ (by decide)⟩ (j 1) : S128x640.Idx), ?_⟩
  funext e
  apply Fin.ext
  match e with
  | ⟨0, _⟩ => exact row_place (index _).1
  | ⟨1, _⟩ => show win0_5.index _ 1 * 640 + 1 * (j 1).val = (j 1).val; rw [(index _).2]; omega

variable (m : (ℓ : Loc nD τ sig) → Buf (Elt Ideal) ℓ) (c : Dev nD)

/-- The weight, the two parts of its gradient, and its moments, as the program is given them. -/
abbrev arg0 : S2048x640.Idx → EReal := m ((c : Thread nD τ).loc main_arg0)
abbrev arg1 : S2048x640.Idx → EReal := m ((c : Thread nD τ).loc main_arg1)
abbrev arg2 : S2048x640.Idx → EReal := m ((c : Thread nD τ).loc main_arg2)
abbrev arg3 : S2048x640.Idx → EReal := m ((c : Thread nD τ).loc main_arg3)
abbrev arg4 : S2048x640.Idx → EReal := m ((c : Thread nD τ).loc main_arg4)

theorem result5 : ((dats m 0 c).arrAt 5 cfg0.N : S2048x640.Idx → EReal)
    = fun j => arg1 m c j + arg2 m c j :=
  ext_blocks place onto fun t y => by
    have h := congrFun (blocks5 m c t (flush0_5 t)) y
    rw [View.read_apply, flushed5] at h
    exact h.trans (block5 _ _ _ _ _ y)

theorem result6 : ((dats m 0 c).arrAt 6 cfg0.N : S2048x640.Idx → EReal)
    = fun j => update (arg0 m c j) (arg1 m c j + arg2 m c j) (arg3 m c j) (arg4 m c j) :=
  ext_blocks place onto fun t y => by
    have h := congrFun (blocks6 m c t (flush0_6 t)) y
    rw [View.read_apply, flushed6] at h
    exact h.trans (block6 _ _ _ _ _ y)

theorem result7 : ((dats m 0 c).arrAt 7 cfg0.N : S2048x640.Idx → EReal)
    = fun j => moment (arg1 m c j + arg2 m c j) (arg3 m c j) :=
  ext_blocks place onto fun t y => by
    have h := congrFun (blocks7 m c t (flush0_7 t)) y
    rw [View.read_apply, flushed7] at h
    exact h.trans (block7 _ _ _ _ _ y)

theorem result8 : ((dats m 0 c).arrAt 8 cfg0.N : S2048x640.Idx → EReal)
    = fun j => square (arg1 m c j + arg2 m c j) (arg4 m c j) :=
  ext_blocks place onto fun t y => by
    have h := congrFun (blocks8 m c t (flush0_8 t)) y
    rw [View.read_apply, flushed8] at h
    exact h.trans (block8 _ _ _ _ _ y)

theorem algebraic : Cert.algebraic_Kernel14Ideal_Reference14Ideal := fun m g m' g' _ hagree =>
  ⟨fun c => (dats m 0 c).arrAt 5 cfg0.N, fun c => (dats m 0 c).arrAt 6 cfg0.N, fun c => (dats m 0 c).arrAt 7 cfg0.N,
    fun c => (dats m 0 c).arrAt 8 cfg0.N, run_blocks m g,
    (θ_run Cert.Reference14Ideal.defs _ _).mono (fun _ h c => by
      obtain ⟨h0, h1, h2, h3, kept⟩ := h c
      obtain ⟨a0, a1, a2, a3, a4⟩ := hagree c
      rw [a0, a1, a2, a3, a4] at h1
      rw [a1, a2] at h0
      rw [a1, a2, a3] at h2
      rw [a1, a2, a4] at h3
      exact ⟨h0.trans (result5 m c).symm, h1.trans (result6 m c).symm, h2.trans (result7 m c).symm,
        h3.trans (result8 m c).symm, kept⟩) (Cert.Reference14Ideal.Value.run (F := Ideal) m' g')⟩

end Cert.Optimiser.InAb

end
-- ==== Proof.OptimiserQkv.lean ====
/-
  The optimiser's step of `w_qkv` (`Kernel15`), at the ideal values. Every window of the call moves alike, so each entry of
  the results comes from the arguments' entries at its own place.
-/
module

public import proofs.«01_k».proof.Proof.Gen.Kernel15Ideal.Value
public import proofs.«01_k».proof.Proof.Gen.Reference15Ideal.Run
public import proofs.«01_k».proof.Defs
public import proofs.«01_k».proof.Proof.Products
public import proofs.«01_k».proof.Proof.Optimiser

@[expose] public section

set_option maxRecDepth 16384

noncomputable section

namespace Cert.Optimiser.Qkv

open Cert.Kernel15Ideal Cert.Kernel15Ideal.Gen Cert.Kernel15Ideal.Value
open Idealize.ShloMosaic Idealize.ShloMosaic.TcCoe Idealize.SL.Sem Idealize.ShloMosaic.ValueIdx
open Cert.Products Cert.Optimiser

/-! What a block stores, at an entry; in the update the named inverses are at their values. -/

section Block

variable (w a b m v : Vec Ideal S128x384 .f32) (j : S128x384.Idx)

theorem block5 : out0_5 w a b m v j = a j + b j := by
  unfold out0_5
  rw [View.canon_unit_zero zero2, View.ld_unit_zero zero2, View.ld_unit_zero zero2]
  rfl

theorem block6 : out0_6 w a b m v j = update (w j) (a j + b j) (m j) (v j) := by
  unfold out0_6
  rw [View.canon_unit_zero zero2, View.ld_unit_zero zero2, View.ld_unit_zero zero2, View.ld_unit_zero zero2,
    View.ld_unit_zero zero2, View.ld_unit_zero zero2, ← update_eq,
    ← IdealRules.named_const.ideal_named_scalar (κ := κ) "c1" (φ := .f32) 0x3FC48605#32 _ rfl,
    ← IdealRules.named_const.ideal_named_scalar (κ := κ) "c2" (φ := .f32) 0x42C8E6D3#32 _ rfl]
  rfl

theorem block7 : out0_7 w a b m v j = moment (a j + b j) (m j) := by
  unfold out0_7
  rw [View.canon_unit_zero zero2, View.ld_unit_zero zero2, View.ld_unit_zero zero2, View.ld_unit_zero zero2]
  rfl

theorem block8 : out0_8 w a b m v j = square (a j + b j) (v j) := by
  unfold out0_8
  rw [View.canon_unit_zero zero2, View.ld_unit_zero zero2, View.ld_unit_zero zero2, View.ld_unit_zero zero2]
  rfl

end Block

/-- The place in the arrays of an entry of step `t`'s block. -/
abbrev place (t : Fin cfg0.N) (y : S128x384.Idx) : S2048x384.Idx := ((cfg0.win 5).blk t).view.emb y

theorem index : ∀ t : Fin cfg0.N, win0_5.index t (0 : Fin 2) = t.val ∧ win0_5.index t (1 : Fin 2) = 0 :=
  (by decide +kernel : ∀ t : Fin grid0.N, _)

/-- Every place of an array lies in a block. -/
theorem onto (j : S2048x384.Idx) : ∃ t y, place t y = j := by
  have hj : (j 0).val < 2048 := (j 0).isLt
  have hN : cfg0.N = 16 := N_0
  refine ⟨⟨(j 0).val / 128, by omega⟩,
    (ix2 ⟨(j 0).val % 128, Nat.mod_lt _ (by decide)⟩ (j 1) : S128x384.Idx), ?_⟩
  funext e
  apply Fin.ext
  match e with
  | ⟨0, _⟩ => exact row_place (index _).1
  | ⟨1, _⟩ => show win0_5.index _ 1 * 384 + 1 * (j 1).val = (j 1).val; rw [(index _).2]; omega

variable (m : (ℓ : Loc nD τ sig) → Buf (Elt Ideal) ℓ) (c : Dev nD)

/-- The weight, the two parts of its gradient, and its moments, as the program is given them. -/
abbrev arg0 : S2048x384.Idx → EReal := m ((c : Thread nD τ).loc main_arg0)
abbrev arg1 : S2048x384.Idx → EReal := m ((c : Thread nD τ).loc main_arg1)
abbrev arg2 : S2048x384.Idx → EReal := m ((c : Thread nD τ).loc main_arg2)
abbrev arg3 : S2048x384.Idx → EReal := m ((c : Thread nD τ).loc main_arg3)
abbrev arg4 : S2048x384.Idx → EReal := m ((c : Thread nD τ).loc main_arg4)

theorem result5 : ((dats m 0 c).arrAt 5 cfg0.N : S2048x384.Idx → EReal)
    = fun j => arg1 m c j + arg2 m c j :=
  ext_blocks place onto fun t y => by
    have h := congrFun (blocks5 m c t (flush0_5 t)) y
    rw [View.read_apply, flushed5] at h
    exact h.trans (block5 _ _ _ _ _ y)

theorem result6 : ((dats m 0 c).arrAt 6 cfg0.N : S2048x384.Idx → EReal)
    = fun j => update (arg0 m c j) (arg1 m c j + arg2 m c j) (arg3 m c j) (arg4 m c j) :=
  ext_blocks place onto fun t y => by
    have h := congrFun (blocks6 m c t (flush0_6 t)) y
    rw [View.read_apply, flushed6] at h
    exact h.trans (block6 _ _ _ _ _ y)

theorem result7 : ((dats m 0 c).arrAt 7 cfg0.N : S2048x384.Idx → EReal)
    = fun j => moment (arg1 m c j + arg2 m c j) (arg3 m c j) :=
  ext_blocks place onto fun t y => by
    have h := congrFun (blocks7 m c t (flush0_7 t)) y
    rw [View.read_apply, flushed7] at h
    exact h.trans (block7 _ _ _ _ _ y)

theorem result8 : ((dats m 0 c).arrAt 8 cfg0.N : S2048x384.Idx → EReal)
    = fun j => square (arg1 m c j + arg2 m c j) (arg4 m c j) :=
  ext_blocks place onto fun t y => by
    have h := congrFun (blocks8 m c t (flush0_8 t)) y
    rw [View.read_apply, flushed8] at h
    exact h.trans (block8 _ _ _ _ _ y)

theorem algebraic : Cert.algebraic_Kernel15Ideal_Reference15Ideal := fun m g m' g' _ hagree =>
  ⟨fun c => (dats m 0 c).arrAt 5 cfg0.N, fun c => (dats m 0 c).arrAt 6 cfg0.N, fun c => (dats m 0 c).arrAt 7 cfg0.N,
    fun c => (dats m 0 c).arrAt 8 cfg0.N, run_blocks m g,
    (θ_run Cert.Reference15Ideal.defs _ _).mono (fun _ h c => by
      obtain ⟨h0, h1, h2, h3, kept⟩ := h c
      obtain ⟨a0, a1, a2, a3, a4⟩ := hagree c
      rw [a0, a1, a2, a3, a4] at h1
      rw [a1, a2] at h0
      rw [a1, a2, a3] at h2
      rw [a1, a2, a4] at h3
      exact ⟨h0.trans (result5 m c).symm, h1.trans (result6 m c).symm, h2.trans (result7 m c).symm,
        h3.trans (result8 m c).symm, kept⟩) (Cert.Reference15Ideal.Value.run (F := Ideal) m' g')⟩

end Cert.Optimiser.Qkv

end
-- ==== Proof.OptimiserOut.lean ====
/-
  The optimiser's step of `w_out_ab` and of `w_o` (`Kernel16`), at the ideal values. Every window of the call moves alike, so each entry of
  the results comes from the arguments' entries at its own place.
-/
module

public import proofs.«01_k».proof.Proof.Gen.Kernel16Ideal.Value
public import proofs.«01_k».proof.Proof.Gen.Reference16Ideal.Run
public import proofs.«01_k».proof.Defs
public import proofs.«01_k».proof.Proof.Products
public import proofs.«01_k».proof.Proof.Optimiser

@[expose] public section

set_option maxRecDepth 16384

noncomputable section

namespace Cert.Optimiser.Out

open Cert.Kernel16Ideal Cert.Kernel16Ideal.Gen Cert.Kernel16Ideal.Value
open Idealize.ShloMosaic Idealize.ShloMosaic.TcCoe Idealize.SL.Sem Idealize.ShloMosaic.ValueIdx
open Cert.Products Cert.Optimiser

/-! What a block stores, at an entry; in the update the named inverses are at their values. -/

section Block

variable (w a b m v : Vec Ideal S128x1024 .f32) (j : S128x1024.Idx)

theorem block5 : out0_5 w a b m v j = a j + b j := by
  unfold out0_5
  rw [View.canon_unit_zero zero2, View.ld_unit_zero zero2, View.ld_unit_zero zero2]
  rfl

theorem block6 : out0_6 w a b m v j = update (w j) (a j + b j) (m j) (v j) := by
  unfold out0_6
  rw [View.canon_unit_zero zero2, View.ld_unit_zero zero2, View.ld_unit_zero zero2, View.ld_unit_zero zero2,
    View.ld_unit_zero zero2, View.ld_unit_zero zero2, ← update_eq,
    ← IdealRules.named_const.ideal_named_scalar (κ := κ) "c1" (φ := .f32) 0x3FC48605#32 _ rfl,
    ← IdealRules.named_const.ideal_named_scalar (κ := κ) "c2" (φ := .f32) 0x42C8E6D3#32 _ rfl]
  rfl

theorem block7 : out0_7 w a b m v j = moment (a j + b j) (m j) := by
  unfold out0_7
  rw [View.canon_unit_zero zero2, View.ld_unit_zero zero2, View.ld_unit_zero zero2, View.ld_unit_zero zero2]
  rfl

theorem block8 : out0_8 w a b m v j = square (a j + b j) (v j) := by
  unfold out0_8
  rw [View.canon_unit_zero zero2, View.ld_unit_zero zero2, View.ld_unit_zero zero2, View.ld_unit_zero zero2]
  rfl

end Block

/-- The place in the arrays of an entry of step `t`'s block. -/
abbrev place (t : Fin cfg0.N) (y : S128x1024.Idx) : S512x1024.Idx := ((cfg0.win 5).blk t).view.emb y

theorem index : ∀ t : Fin cfg0.N, win0_5.index t (0 : Fin 2) = t.val ∧ win0_5.index t (1 : Fin 2) = 0 :=
  (by decide +kernel : ∀ t : Fin grid0.N, _)

/-- Every place of an array lies in a block. -/
theorem onto (j : S512x1024.Idx) : ∃ t y, place t y = j := by
  have hj : (j 0).val < 512 := (j 0).isLt
  have hN : cfg0.N = 4 := N_0
  refine ⟨⟨(j 0).val / 128, by omega⟩,
    (ix2 ⟨(j 0).val % 128, Nat.mod_lt _ (by decide)⟩ (j 1) : S128x1024.Idx), ?_⟩
  funext e
  apply Fin.ext
  match e with
  | ⟨0, _⟩ => exact row_place (index _).1
  | ⟨1, _⟩ => show win0_5.index _ 1 * 1024 + 1 * (j 1).val = (j 1).val; rw [(index _).2]; omega

variable (m : (ℓ : Loc nD τ sig) → Buf (Elt Ideal) ℓ) (c : Dev nD)

/-- The weight, the two parts of its gradient, and its moments, as the program is given them. -/
abbrev arg0 : S512x1024.Idx → EReal := m ((c : Thread nD τ).loc main_arg0)
abbrev arg1 : S512x1024.Idx → EReal := m ((c : Thread nD τ).loc main_arg1)
abbrev arg2 : S512x1024.Idx → EReal := m ((c : Thread nD τ).loc main_arg2)
abbrev arg3 : S512x1024.Idx → EReal := m ((c : Thread nD τ).loc main_arg3)
abbrev arg4 : S512x1024.Idx → EReal := m ((c : Thread nD τ).loc main_arg4)

theorem result5 : ((dats m 0 c).arrAt 5 cfg0.N : S512x1024.Idx → EReal)
    = fun j => arg1 m c j + arg2 m c j :=
  ext_blocks place onto fun t y => by
    have h := congrFun (blocks5 m c t (flush0_5 t)) y
    rw [View.read_apply, flushed5] at h
    exact h.trans (block5 _ _ _ _ _ y)

theorem result6 : ((dats m 0 c).arrAt 6 cfg0.N : S512x1024.Idx → EReal)
    = fun j => update (arg0 m c j) (arg1 m c j + arg2 m c j) (arg3 m c j) (arg4 m c j) :=
  ext_blocks place onto fun t y => by
    have h := congrFun (blocks6 m c t (flush0_6 t)) y
    rw [View.read_apply, flushed6] at h
    exact h.trans (block6 _ _ _ _ _ y)

theorem result7 : ((dats m 0 c).arrAt 7 cfg0.N : S512x1024.Idx → EReal)
    = fun j => moment (arg1 m c j + arg2 m c j) (arg3 m c j) :=
  ext_blocks place onto fun t y => by
    have h := congrFun (blocks7 m c t (flush0_7 t)) y
    rw [View.read_apply, flushed7] at h
    exact h.trans (block7 _ _ _ _ _ y)

theorem result8 : ((dats m 0 c).arrAt 8 cfg0.N : S512x1024.Idx → EReal)
    = fun j => square (arg1 m c j + arg2 m c j) (arg4 m c j) :=
  ext_blocks place onto fun t y => by
    have h := congrFun (blocks8 m c t (flush0_8 t)) y
    rw [View.read_apply, flushed8] at h
    exact h.trans (block8 _ _ _ _ _ y)

theorem algebraic : Cert.algebraic_Kernel16Ideal_Reference16Ideal := fun m g m' g' _ hagree =>
  ⟨fun c => (dats m 0 c).arrAt 5 cfg0.N, fun c => (dats m 0 c).arrAt 6 cfg0.N, fun c => (dats m 0 c).arrAt 7 cfg0.N,
    fun c => (dats m 0 c).arrAt 8 cfg0.N, run_blocks m g,
    (θ_run Cert.Reference16Ideal.defs _ _).mono (fun _ h c => by
      obtain ⟨h0, h1, h2, h3, kept⟩ := h c
      obtain ⟨a0, a1, a2, a3, a4⟩ := hagree c
      rw [a0, a1, a2, a3, a4] at h1
      rw [a1, a2] at h0
      rw [a1, a2, a3] at h2
      rw [a1, a2, a4] at h3
      exact ⟨h0.trans (result5 m c).symm, h1.trans (result6 m c).symm, h2.trans (result7 m c).symm,
        h3.trans (result8 m c).symm, kept⟩) (Cert.Reference16Ideal.Value.run (F := Ideal) m' g')⟩

end Cert.Optimiser.Out

end
-- ==== Proof.OptimiserMod.lean ====
/-
  The optimiser's step of `w_mod` (`Kernel17`), at the ideal values. Every window of the call moves alike, so each entry of
  the results comes from the arguments' entries at its own place.
-/
module

public import proofs.«01_k».proof.Proof.Gen.Kernel17Ideal.Value
public import proofs.«01_k».proof.Proof.Gen.Reference17Ideal.Run
public import proofs.«01_k».proof.Defs
public import proofs.«01_k».proof.Proof.Products
public import proofs.«01_k».proof.Proof.Optimiser

@[expose] public section

set_option maxRecDepth 16384

noncomputable section

namespace Cert.Optimiser.Mod

open Cert.Kernel17Ideal Cert.Kernel17Ideal.Gen Cert.Kernel17Ideal.Value
open Idealize.ShloMosaic Idealize.ShloMosaic.TcCoe Idealize.SL.Sem Idealize.ShloMosaic.ValueIdx
open Cert.Products Cert.Optimiser

/-! What a block stores, at an entry; in the update the named inverses are at their values. -/

section Block

variable (w g m v : Vec Ideal S128x1536 .f32) (j : S128x1536.Idx)

theorem block4 : out0_4 w g m v j = g j := by
  unfold out0_4
  rw [View.canon_unit_zero zero2, View.ld_unit_zero zero2]

theorem block5 : out0_5 w g m v j = update (w j) (g j) (m j) (v j) := by
  unfold out0_5
  rw [View.canon_unit_zero zero2, View.ld_unit_zero zero2, View.ld_unit_zero zero2, View.ld_unit_zero zero2,
    View.ld_unit_zero zero2, ← update_eq,
    ← IdealRules.named_const.ideal_named_scalar (κ := κ) "c1" (φ := .f32) 0x3FC48605#32 _ rfl,
    ← IdealRules.named_const.ideal_named_scalar (κ := κ) "c2" (φ := .f32) 0x42C8E6D3#32 _ rfl]
  rfl

theorem block6 : out0_6 w g m v j = moment (g j) (m j) := by
  unfold out0_6
  rw [View.canon_unit_zero zero2, View.ld_unit_zero zero2, View.ld_unit_zero zero2]
  rfl

theorem block7 : out0_7 w g m v j = square (g j) (v j) := by
  unfold out0_7
  rw [View.canon_unit_zero zero2, View.ld_unit_zero zero2, View.ld_unit_zero zero2]
  rfl

end Block

/-- The place in the arrays of an entry of step `t`'s block. -/
abbrev place (t : Fin cfg0.N) (y : S128x1536.Idx) : S4096x1536.Idx := ((cfg0.win 4).blk t).view.emb y

theorem index : ∀ t : Fin cfg0.N, win0_4.index t (0 : Fin 2) = t.val ∧ win0_4.index t (1 : Fin 2) = 0 :=
  (by decide +kernel : ∀ t : Fin grid0.N, _)

/-- Every place of an array lies in a block. -/
theorem onto (j : S4096x1536.Idx) : ∃ t y, place t y = j := by
  have hj : (j 0).val < 4096 := (j 0).isLt
  have hN : cfg0.N = 32 := N_0
  refine ⟨⟨(j 0).val / 128, by omega⟩,
    (ix2 ⟨(j 0).val % 128, Nat.mod_lt _ (by decide)⟩ (j 1) : S128x1536.Idx), ?_⟩
  funext e
  apply Fin.ext
  match e with
  | ⟨0, _⟩ => exact row_place (index _).1
  | ⟨1, _⟩ => show win0_4.index _ 1 * 1536 + 1 * (j 1).val = (j 1).val; rw [(index _).2]; omega

variable (m : (ℓ : Loc nD τ sig) → Buf (Elt Ideal) ℓ) (c : Dev nD)

/-- The weight, its gradient, and its moments, as the program is given them. -/
abbrev arg0 : S4096x1536.Idx → EReal := m ((c : Thread nD τ).loc main_arg0)
abbrev arg1 : S4096x1536.Idx → EReal := m ((c : Thread nD τ).loc main_arg1)
abbrev arg2 : S4096x1536.Idx → EReal := m ((c : Thread nD τ).loc main_arg2)
abbrev arg3 : S4096x1536.Idx → EReal := m ((c : Thread nD τ).loc main_arg3)

theorem result4 : ((dats m 0 c).arrAt 4 cfg0.N : S4096x1536.Idx → EReal)
    = fun j => arg1 m c j :=
  ext_blocks place onto fun t y => by
    have h := congrFun (blocks4 m c t (flush0_4 t)) y
    rw [View.read_apply, flushed4] at h
    exact h.trans (block4 _ _ _ _ y)

theorem result5 : ((dats m 0 c).arrAt 5 cfg0.N : S4096x1536.Idx → EReal)
    = fun j => update (arg0 m c j) (arg1 m c j) (arg2 m c j) (arg3 m c j) :=
  ext_blocks place onto fun t y => by
    have h := congrFun (blocks5 m c t (flush0_5 t)) y
    rw [View.read_apply, flushed5] at h
    exact h.trans (block5 _ _ _ _ y)

theorem result6 : ((dats m 0 c).arrAt 6 cfg0.N : S4096x1536.Idx → EReal)
    = fun j => moment (arg1 m c j) (arg2 m c j) :=
  ext_blocks place onto fun t y => by
    have h := congrFun (blocks6 m c t (flush0_6 t)) y
    rw [View.read_apply, flushed6] at h
    exact h.trans (block6 _ _ _ _ y)

theorem result7 : ((dats m 0 c).arrAt 7 cfg0.N : S4096x1536.Idx → EReal)
    = fun j => square (arg1 m c j) (arg3 m c j) :=
  ext_blocks place onto fun t y => by
    have h := congrFun (blocks7 m c t (flush0_7 t)) y
    rw [View.read_apply, flushed7] at h
    exact h.trans (block7 _ _ _ _ y)

theorem algebraic : Cert.algebraic_Kernel17Ideal_Reference17Ideal := fun m g m' g' _ hagree =>
  ⟨fun c => (dats m 0 c).arrAt 4 cfg0.N, fun c => (dats m 0 c).arrAt 5 cfg0.N, fun c => (dats m 0 c).arrAt 6 cfg0.N,
    fun c => (dats m 0 c).arrAt 7 cfg0.N, run_blocks m g,
    (θ_run Cert.Reference17Ideal.defs _ _).mono (fun _ h c => by
      obtain ⟨h0, h1, h2, h3, kept⟩ := h c
      obtain ⟨a0, a1, a2, a3⟩ := hagree c
      rw [a0, a1, a2, a3] at h1
      rw [a1] at h0
      rw [a1, a2] at h2
      rw [a1, a3] at h3
      exact ⟨h0.trans (result4 m c).symm, h1.trans (result5 m c).symm, h2.trans (result6 m c).symm,
        h3.trans (result7 m c).symm, kept⟩) (Cert.Reference17Ideal.Value.run (F := Ideal) m' g')⟩

end Cert.Optimiser.Mod

end
-- ==== Proof.OptimiserPacked.lean ====
/-
  The optimiser's step of the small weights, packed in rows of 128 (`Kernel18`), at the ideal values. Every window of the
  call moves alike, so each entry of the results comes from the arguments' entries at its own place.
-/
module

public import proofs.«01_k».proof.Proof.Gen.Kernel18Ideal.Value
public import proofs.«01_k».proof.Proof.Gen.Reference18Ideal.Run
public import proofs.«01_k».proof.Defs
public import proofs.«01_k».proof.Proof.Products
public import proofs.«01_k».proof.Proof.Optimiser

@[expose] public section

set_option maxRecDepth 16384

noncomputable section

namespace Cert.Optimiser.Packed

open Cert.Kernel18Ideal Cert.Kernel18Ideal.Gen Cert.Kernel18Ideal.Value
open Idealize.ShloMosaic Idealize.ShloMosaic.TcCoe Idealize.SL.Sem Idealize.ShloMosaic.ValueIdx
open Cert.Products Cert.Optimiser

/-! What a block stores, at an entry; in the update the named inverses are at their values. -/

section Block

variable (w g m v : Vec Ideal S8x128 .f32) (j : S8x128.Idx)

theorem block4 : out0_4 w g m v j = g j := by
  unfold out0_4
  rw [View.canon_unit_zero zero2, View.ld_unit_zero zero2]

theorem block5 : out0_5 w g m v j = update (w j) (g j) (m j) (v j) := by
  unfold out0_5
  rw [View.canon_unit_zero zero2, View.ld_unit_zero zero2, View.ld_unit_zero zero2, View.ld_unit_zero zero2,
    View.ld_unit_zero zero2, ← update_eq,
    ← IdealRules.named_const.ideal_named_scalar (κ := κ) "c1" (φ := .f32) 0x3FC48605#32 _ rfl,
    ← IdealRules.named_const.ideal_named_scalar (κ := κ) "c2" (φ := .f32) 0x42C8E6D3#32 _ rfl]
  rfl

theorem block6 : out0_6 w g m v j = moment (g j) (m j) := by
  unfold out0_6
  rw [View.canon_unit_zero zero2, View.ld_unit_zero zero2, View.ld_unit_zero zero2]
  rfl

theorem block7 : out0_7 w g m v j = square (g j) (v j) := by
  unfold out0_7
  rw [View.canon_unit_zero zero2, View.ld_unit_zero zero2, View.ld_unit_zero zero2]
  rfl

end Block

/-- The place in the arrays of an entry of step `t`'s block. -/
abbrev place (t : Fin cfg0.N) (y : S8x128.Idx) : S504x128.Idx := ((cfg0.win 4).blk t).view.emb y

theorem index : ∀ t : Fin cfg0.N, win0_4.index t (0 : Fin 2) = t.val ∧ win0_4.index t (1 : Fin 2) = 0 :=
  (by decide +kernel : ∀ t : Fin grid0.N, _)

/-- Every place of an array lies in a block. -/
theorem onto (j : S504x128.Idx) : ∃ t y, place t y = j := by
  have hj : (j 0).val < 504 := (j 0).isLt
  have hN : cfg0.N = 63 := N_0
  refine ⟨⟨(j 0).val / 8, by omega⟩,
    (ix2 ⟨(j 0).val % 8, Nat.mod_lt _ (by decide)⟩ (j 1) : S8x128.Idx), ?_⟩
  funext e
  apply Fin.ext
  match e with
  | ⟨0, _⟩ => exact row_place (index _).1
  | ⟨1, _⟩ => show win0_4.index _ 1 * 128 + 1 * (j 1).val = (j 1).val; rw [(index _).2]; omega

variable (m : (ℓ : Loc nD τ sig) → Buf (Elt Ideal) ℓ) (c : Dev nD)

/-- The weights, their gradients, and their moments, as the program is given them. -/
abbrev arg0 : S504x128.Idx → EReal := m ((c : Thread nD τ).loc main_arg0)
abbrev arg1 : S504x128.Idx → EReal := m ((c : Thread nD τ).loc main_arg1)
abbrev arg2 : S504x128.Idx → EReal := m ((c : Thread nD τ).loc main_arg2)
abbrev arg3 : S504x128.Idx → EReal := m ((c : Thread nD τ).loc main_arg3)

theorem result4 : ((dats m 0 c).arrAt 4 cfg0.N : S504x128.Idx → EReal)
    = fun j => arg1 m c j :=
  ext_blocks place onto fun t y => by
    have h := congrFun (blocks4 m c t (flush0_4 t)) y
    rw [View.read_apply, flushed4] at h
    exact h.trans (block4 _ _ _ _ y)

theorem result5 : ((dats m 0 c).arrAt 5 cfg0.N : S504x128.Idx → EReal)
    = fun j => update (arg0 m c j) (arg1 m c j) (arg2 m c j) (arg3 m c j) :=
  ext_blocks place onto fun t y => by
    have h := congrFun (blocks5 m c t (flush0_5 t)) y
    rw [View.read_apply, flushed5] at h
    exact h.trans (block5 _ _ _ _ y)

theorem result6 : ((dats m 0 c).arrAt 6 cfg0.N : S504x128.Idx → EReal)
    = fun j => moment (arg1 m c j) (arg2 m c j) :=
  ext_blocks place onto fun t y => by
    have h := congrFun (blocks6 m c t (flush0_6 t)) y
    rw [View.read_apply, flushed6] at h
    exact h.trans (block6 _ _ _ _ y)

theorem result7 : ((dats m 0 c).arrAt 7 cfg0.N : S504x128.Idx → EReal)
    = fun j => square (arg1 m c j) (arg3 m c j) :=
  ext_blocks place onto fun t y => by
    have h := congrFun (blocks7 m c t (flush0_7 t)) y
    rw [View.read_apply, flushed7] at h
    exact h.trans (block7 _ _ _ _ y)

theorem algebraic : Cert.algebraic_Kernel18Ideal_Reference18Ideal := fun m g m' g' _ hagree =>
  ⟨fun c => (dats m 0 c).arrAt 4 cfg0.N, fun c => (dats m 0 c).arrAt 5 cfg0.N, fun c => (dats m 0 c).arrAt 6 cfg0.N,
    fun c => (dats m 0 c).arrAt 7 cfg0.N, run_blocks m g,
    (θ_run Cert.Reference18Ideal.defs _ _).mono (fun _ h c => by
      obtain ⟨h0, h1, h2, h3, kept⟩ := h c
      obtain ⟨a0, a1, a2, a3⟩ := hagree c
      rw [a0, a1, a2, a3] at h1
      rw [a1] at h0
      rw [a1, a2] at h2
      rw [a1, a3] at h3
      exact ⟨h0.trans (result4 m c).symm, h1.trans (result5 m c).symm, h2.trans (result6 m c).symm,
        h3.trans (result7 m c).symm, kept⟩) (Cert.Reference18Ideal.Value.run (F := Ideal) m' g')⟩

end Cert.Optimiser.Packed

end
-- ==== Proof.Modulation.lean ====
/-
  The modulation's gradients (`Kernel19`), at the ideal values. Each step takes one layer: its weight's gradient is the
  product of the silu of the conditions and the layer's cotangent, and what it adds to the silu's gradient is the product
  of that cotangent and the layer's weight. The kernel has the logistic function as a hyperbolic tangent.
-/
module

public import proofs.«01_k».proof.Proof.Gen.Kernel19Ideal.Value
public import proofs.«01_k».proof.Proof.Gen.Reference19Ideal.Run
public import proofs.«01_k».proof.Proof.Gen.Reference19Ideal.Read
public import proofs.«01_k».proof.Defs
public import proofs.«01_k».proof.Proof.Products
public import proofs.«01_k».proof.Proof.Optimiser
public import Idealize.ShloMosaic.Lib.Tactic
public import Idealize.ShloMosaic.Lib.ValueLayout
public import Idealize.ShloMosaic.Lib.TwoAxisContraction

@[expose] public section

set_option maxRecDepth 16384

noncomputable section

namespace Cert.Modulation

open Cert.Kernel19Ideal Cert.Kernel19Ideal.Gen Cert.Kernel19Ideal.Value
open Idealize.ShloMosaic Idealize.ShloMosaic.TcCoe Idealize.SL.Sem Idealize.ShloMosaic.ValueIdx
open Cert.Products Cert.Optimiser

/-! ## The logistic function -/

theorem lit_half : lit 0x3F000000#32 = ((1 / 2 : ℝ) : EReal) := by
  simp [Ideal.ofBits, Ideal.ieee, -EReal.coe_mul]; norm_num

theorem lit_one : lit 0x3F800000#32 = 1 := by
  simp [Ideal.ofBits, Ideal.ieee, -EReal.coe_mul]; norm_num

/-- A half of the tangent of the half, and a half, is the logistic function. -/
theorem tangent (r : ℝ) : 1 / 2 * Real.tanh (1 / 2 * r) + 1 / 2 = (1 + Real.exp (-r))⁻¹ := by
  have e : Real.exp (-r) = Real.exp (-(1 / 2 * r)) * Real.exp (-(1 / 2 * r)) := by rw [← Real.exp_add]; congr 1; ring
  rw [Real.tanh_eq_sinh_div_cosh, Real.sinh_eq, Real.cosh_eq, e, Real.exp_neg]
  have h := Real.exp_pos (1 / 2 * r)
  field_simp
  ring

/-- So it is at the infinities. -/
theorem logistic_eq (x : EReal) :
    lit 0x3F000000#32 * Ideal.tanh (lit 0x3F000000#32 * x) + lit 0x3F000000#32 = Ideal.logistic x := by
  rw [lit_half]
  induction x with
  | bot =>
    rw [EReal.coe_mul_bot_of_pos (by norm_num), Ideal.tanh_bot, Ideal.logistic_bot]
    rw [show (-1 : EReal) = ((-1 : ℝ) : EReal) from rfl, ← EReal.coe_mul, ← EReal.coe_add]
    norm_num
  | coe r =>
    rw [← EReal.coe_mul, Ideal.tanh_coe, ← EReal.coe_mul, ← EReal.coe_add, tangent, Ideal.logistic_coe]
  | top =>
    rw [EReal.coe_mul_top_of_pos (by norm_num), Ideal.tanh_top, Ideal.logistic_top, mul_one, ← EReal.coe_add]
    norm_num

/-- The reference has it as a quotient. -/
theorem quotient_eq (x : EReal) :
    Ideal.div (lit 0x3F800000#32) (lit 0x3F800000#32 + Ideal.exp (-x)) = Ideal.logistic x := by
  rw [lit_one]; rfl

/-! ## What each case of the body leaves -/

section Cases

variable {F : FTy → Type} [FloatOps F]
variable (c : Dev nD) (i : grid0.Coords)
  (a1 : Memref sig .tc .vmem S16x1024 .f32) (h1 : a1.IsWhole) (a2 : Memref sig .tc .vmem S1x16x1536 .f32) (h2 : a2.IsWhole)
  (a3 : Memref sig .tc .vmem S1x1024x1536 .f32) (h3 : a3.IsWhole) (a4 : Memref sig .tc .vmem S1x1024x1536 .f32) (h4 : a4.IsWhole)
  (a5 : Memref sig .tc .vmem S16x1024 .f32) (h5 : a5.IsWhole)
  (x0 : Vec F S16x1024 .f32) (x1 : Vec F S1x16x1536 .f32) (x2 : Vec F S1x1024x1536 .f32) (xs : Vec F S16x1024 .f32)

theorem weight_first (hc0 : cond0_0 i) :
    out0_A_3 c i a1 h1 a2 h2 a3 h3 a4 h4 a5 h5 hc0 x0 x1 x2 = k0_pay3 x0 x1 := by
  unfold out0_A_3
  rw [View.read_writes_eq_canon _ _ _ (cover0_A_3 c i a1 h1 a2 h2 a3 h3 a4 h4 a5 h5 hc0 x0 x1 x2)]
  unfold kernelRun0_A
  dsimp only
  sl_unfold_words
  rw [View.canon_unit_zero (S := S1x1024x1536) zero3]
  simp only [View.readAt_eq_ld, h1.read_unread, h2.read_unread, View.ld_unit_zero (S := S16x1024) zero2,
    View.ld_unit_zero (S := S1x16x1536) zero3]

theorem weight_next (hc0 : ¬cond0_0 i) :
    out0_B_3 c i a1 h1 a2 h2 a3 h3 a4 h4 a5 h5 hc0 x0 x1 x2 xs = k0_pay3 x0 x1 := by
  unfold out0_B_3
  rw [View.read_writes_eq_canon _ _ _ (cover0_B_3 c i a1 h1 a2 h2 a3 h3 a4 h4 a5 h5 hc0 x0 x1 x2 xs)]
  unfold kernelRun0_B
  dsimp only
  sl_unfold_words
  rw [View.canon_unit_zero (S := S1x1024x1536) zero3]
  simp only [View.readAt_eq_ld, h1.read_unread, h2.read_unread, View.ld_unit_zero (S := S16x1024) zero2,
    View.ld_unit_zero (S := S1x16x1536) zero3]

/-- The first step clears the silu's gradient and adds its product, … -/
theorem silu_first (hc0 : cond0_0 i) :
    out0_A_4 c i a1 h1 a2 h2 a3 h3 a4 h4 a5 h5 hc0 x0 x1 x2 = k0_pay4 x1 k0_pay1 x2 := by
  unfold out0_A_4
  rw [View.read_writes_eq_canon _ _ _ (cover0_A_4 c i a1 h1 a2 h2 a3 h3 a4 h4 a5 h5 hc0 x0 x1 x2)]
  unfold kernelRun0_A
  dsimp only
  sl_unfold_words
  rw [View.canon_cons_unit_zero (S := S16x1024) zero2, View.readCov_unit_zero (S := S16x1024) _ zero2]
  simp only [View.readAt_eq_ld, h2.read_unread, h3.read_unread, View.ld_unit_zero (S := S1x1024x1536) zero3,
    View.ld_unit_zero (S := S1x16x1536) zero3]

/-- … the others add theirs. -/
theorem silu_next (hc0 : ¬cond0_0 i) :
    out0_B_4 c i a1 h1 a2 h2 a3 h3 a4 h4 a5 h5 hc0 x0 x1 x2 xs = k0_pay4 x1 xs x2 := by
  unfold out0_B_4
  rw [View.read_writes_eq_canon _ _ _ (cover0_B_4 c i a1 h1 a2 h2 a3 h3 a4 h4 a5 h5 hc0 x0 x1 x2 xs)]
  unfold kernelRun0_B
  dsimp only
  sl_unfold_words
  rw [View.canon_unit_zero (S := S16x1024) zero2]
  simp only [View.readAt_eq_ld, h2.read_unread, h3.read_unread, h5.read_unread, View.ld_unit_zero (S := S16x1024) zero2,
    View.ld_unit_zero (S := S1x1024x1536) zero3, View.ld_unit_zero (S := S1x16x1536) zero3]

end Cases

/-! ## The payloads at an entry -/

theorem clear_apply (j : S16x1024.Idx) : k0_pay1 (F := Ideal) j = 0 := Ideal.ofBits_zero_f32

theorem weight_apply (x : Vec Ideal S16x1024 .f32) (y : Vec Ideal S1x16x1536 .f32) (u : Fin 1) (a : Fin 1024) (b : Fin 1536) :
    k0_pay3 x y (ix3 u a b)
      = ∑ r : Fin 16, x (ix2 r a) * Ideal.logistic (x (ix2 r a)) * y (ix3 0 r b) := by
  unfold k0_pay3
  refine (shapeCast_ab_1ab_apply _ _ _ _ _).trans ((tn_apply _ _ _ a b).trans ?_)
  refine Finset.sum_congr rfl fun r _ => congrArg₂ (· * ·) ?_ ?_
  · rw [← logistic_eq]; rfl
  · unfold k0_pay2
    exact shapeCast_1ab_ab_apply _ _ _ _

theorem silu_apply (y : Vec Ideal S1x16x1536 .f32) (v : Vec Ideal S16x1024 .f32) (w : Vec Ideal S1x1024x1536 .f32)
    (r : Fin 16) (a : Fin 1024) :
    k0_pay4 y v w (ix2 r a) = v (ix2 r a) + ∑ b : Fin 1536, y (ix3 0 r b) * w (ix3 0 a b) := by
  unfold k0_pay4
  rw [shapeCast_self]
  refine congrArg (v _ + ·) ((nt_apply _ _ _ r a).trans ?_)
  refine Finset.sum_congr rfl fun b _ => congrArg₂ (· * ·) ?_ ?_
  · unfold k0_pay2
    exact shapeCast_1ab_ab_apply _ _ _ _
  · exact shapeCast_1ab_ab_apply _ _ _ _

/-! ## The blocks -/

variable (m : (ℓ : Loc nD τ sig) → Buf (Elt Ideal) ℓ) (c : Dev nD)

/-- The conditions, the modulation's cotangent, and its weights, as the program is given them. -/
abbrev cond : Vec Ideal S16x1024 .f32 := m ((c : Thread nD τ).loc main_arg0)
abbrev cot : Vec Ideal S4x16x1536 .f32 := m ((c : Thread nD τ).loc main_arg1)
abbrev weight : Vec Ideal S4x1024x1536 .f32 := m ((c : Thread nD τ).loc main_arg2)

/-- The layer of a step. -/
abbrev layer (t : Fin cfg0.N) : Fin 4 := ⟨t.val, lt_of_lt_of_eq t.isLt N_0⟩

theorem index0 : ∀ t : Fin cfg0.N, win0_0.index t (0 : Fin 2) = 0 ∧ win0_0.index t (1 : Fin 2) = 0 :=
  (by decide +kernel : ∀ t : Fin grid0.N, _)
theorem index1 : ∀ t : Fin cfg0.N,
    win0_1.index t (0 : Fin 3) = t.val ∧ win0_1.index t (1 : Fin 3) = 0 ∧ win0_1.index t (2 : Fin 3) = 0 :=
  (by decide +kernel : ∀ t : Fin grid0.N, _)
theorem index2 : ∀ t : Fin cfg0.N,
    win0_2.index t (0 : Fin 3) = t.val ∧ win0_2.index t (1 : Fin 3) = 0 ∧ win0_2.index t (2 : Fin 3) = 0 :=
  (by decide +kernel : ∀ t : Fin grid0.N, _)
theorem index3 : ∀ t : Fin cfg0.N,
    win0_3.index t (0 : Fin 3) = t.val ∧ win0_3.index t (1 : Fin 3) = 0 ∧ win0_3.index t (2 : Fin 3) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)

/-- Every step has all the conditions, … -/
theorem block0 (t : Fin cfg0.N) (r : Fin 16) (a : Fin 1024) :
    (iblk m c 0 t : Vec Ideal S16x1024 .f32) (ix2 r a) = cond m c (ix2 r a) := by
  unfold iblk
  rw [View.read_apply]
  show V m c main_arg0 _ = cond m c _
  unfold V
  congr 1
  funext e
  apply Fin.ext
  match e with
  | ⟨0, _⟩ => show win0_0.index t 0 * 16 + 1 * r.val = r.val; rw [(index0 t).1]; omega
  | ⟨1, _⟩ => show win0_0.index t 1 * 1024 + 1 * a.val = a.val; rw [(index0 t).2]; omega

/-- … its layer's cotangent, … -/
theorem block1 (t : Fin cfg0.N) (u : Fin 1) (r : Fin 16) (b : Fin 1536) :
    (iblk m c 1 t : Vec Ideal S1x16x1536 .f32) (ix3 u r b) = cot m c (ix3 (layer t) r b) := by
  unfold iblk
  rw [View.read_apply]
  show V m c main_arg1 _ = cot m c _
  unfold V
  congr 1
  funext e
  apply Fin.ext
  match e with
  | ⟨0, _⟩ => show win0_1.index t 0 * 1 + 1 * u.val = t.val; rw [(index1 t).1]; omega
  | ⟨1, _⟩ => show win0_1.index t 1 * 16 + 1 * r.val = r.val; rw [(index1 t).2.1]; omega
  | ⟨2, _⟩ => show win0_1.index t 2 * 1536 + 1 * b.val = b.val; rw [(index1 t).2.2]; omega

/-- … and its layer's weight. -/
theorem block2 (t : Fin cfg0.N) (u : Fin 1) (a : Fin 1024) (b : Fin 1536) :
    (iblk m c 2 t : Vec Ideal S1x1024x1536 .f32) (ix3 u a b) = weight m c (ix3 (layer t) a b) := by
  unfold iblk
  rw [View.read_apply]
  show V m c main_arg2 _ = weight m c _
  unfold V
  congr 1
  funext e
  apply Fin.ext
  match e with
  | ⟨0, _⟩ => show win0_2.index t 0 * 1 + 1 * u.val = t.val; rw [(index2 t).1]; omega
  | ⟨1, _⟩ => show win0_2.index t 1 * 1024 + 1 * a.val = a.val; rw [(index2 t).2.1]; omega
  | ⟨2, _⟩ => show win0_2.index t 2 * 1536 + 1 * b.val = b.val; rw [(index2 t).2.2]; omega

/-! ## The results at an entry -/

/-- The place in the weights' gradient of an entry of step `t`'s block. -/
abbrev place (t : Fin cfg0.N) (y : S1x1024x1536.Idx) : S4x1024x1536.Idx := ((cfg0.win 3).blk t).view.emb y

theorem place_eq (t : Fin cfg0.N) (u : Fin 1) (a : Fin 1024) (b : Fin 1536) :
    place t (ix3 u a b) = ix3 (layer t) a b := by
  funext e
  apply Fin.ext
  match e with
  | ⟨0, _⟩ => show win0_3.index t 0 * 1 + 1 * u.val = t.val; rw [(index3 t).1]; omega
  | ⟨1, _⟩ => show win0_3.index t 1 * 1024 + 1 * a.val = a.val; rw [(index3 t).2.1]; omega
  | ⟨2, _⟩ => show win0_3.index t 2 * 1536 + 1 * b.val = b.val; rw [(index3 t).2.2]; omega

theorem onto (j : S4x1024x1536.Idx) : ∃ t y, place t y = j :=
  ⟨⟨(j 0).val, lt_of_lt_of_eq (j 0).isLt N_0.symm⟩, ix3 0 (j 1) (j 2), (place_eq _ 0 (j 1) (j 2)).trans (eq_ix3 j).symm⟩

/-- A layer's gradient at an entry. -/
def product (j : S4x1024x1536.Idx) : EReal :=
  ∑ r : Fin 16, cond m c (ix2 r (j 1)) * Ideal.logistic (cond m c (ix2 r (j 1))) * cot m c (ix3 (j 0) r (j 2))

theorem outs_weight (t : Fin cfg0.N) : (outsAt0 m c t.val t.isLt).1 = k0_pay3 (iblk m c 0 t) (iblk m c 1 t) := by
  by_cases h : t.val % 4 = 0
  · rw [outsAt0_A m c t h]; dsimp only; rw [weight_first]
  · rw [outsAt0_B m c t h]; dsimp only; rw [weight_next]

theorem result3 : ((dats m 0 c).arrAt 3 cfg0.N : S4x1024x1536.Idx → EReal) = product m c :=
  ext_blocks place onto fun t y => by
    have h := congrFun (blocks3 m c t (flush0_3 t)) y
    rw [View.read_apply, flushed3, outs_weight] at h
    refine h.trans ?_
    obtain ⟨u, a, b, rfl⟩ : ∃ u a b, y = ix3 u a b := ⟨y 0, y 1, y 2, eq_ix3 y⟩
    refine (weight_apply _ _ u a b).trans ?_
    rw [place_eq]
    unfold product
    refine Finset.sum_congr rfl fun r _ => ?_
    rw [block0, block1]

/-- What a step adds to the silu's gradient. -/
def addend (l : Fin 4) (r : Fin 16) (a : Fin 1024) : EReal :=
  ∑ b : Fin 1536, cot m c (ix3 l r b) * weight m c (ix3 l a b)

theorem outs_first (t : Fin cfg0.N) (h : t.val % 4 = 0) (r : Fin 16) (a : Fin 1024) :
    (outsAt0 m c t.val t.isLt).2 (ix2 r a) = addend m c (layer t) r a := by
  rw [outsAt0_A m c t h]
  dsimp only
  rw [silu_first, silu_apply, clear_apply, zero_add]
  unfold addend
  exact Finset.sum_congr rfl fun b _ => by rw [block1, block2]

theorem outs_next (t : Fin cfg0.N) (h : ¬t.val % 4 = 0) (r : Fin 16) (a : Fin 1024) :
    (outsAt0 m c t.val t.isLt).2 (ix2 r a)
      = (outsAt0 m c (t.val - 1) (Nat.lt_of_le_of_lt (Nat.sub_le _ _) t.isLt)).2 (ix2 r a) + addend m c (layer t) r a := by
  rw [outsAt0_B m c t h]
  dsimp only
  rw [silu_next, silu_apply]
  unfold addend
  exact congrArg (_ + ·) (Finset.sum_congr rfl fun b _ => by rw [block1, block2])

/-- After a step the silu's gradient is the sum over the layers so far. -/
theorem outs_sum (r : Fin 16) (a : Fin 1024) (n : Nat) (hn : n < cfg0.N) :
    (outsAt0 m c n hn).2 (ix2 r a)
      = ∑ l ∈ Finset.range (n + 1), if h : l < 4 then addend m c ⟨l, h⟩ r a else 0 := by
  have hN : cfg0.N = 4 := N_0
  induction n with
  | zero =>
    rw [Finset.sum_range_one, dif_pos (by decide)]
    exact outs_first m c ⟨0, hn⟩ rfl r a
  | succ n ih =>
    rw [Finset.sum_range_succ, ← ih (by omega), dif_pos (by omega)]
    exact outs_next m c ⟨n + 1, hn⟩ (by dsimp only; omega) r a

/-- The last step. -/
abbrev last : Fin cfg0.N := ⟨3, by rw [show cfg0.N = 4 from N_0]; decide⟩

theorem outs_last (r : Fin 16) (a : Fin 1024) :
    (outsAt0 m c last.val last.isLt).2 (ix2 r a) = ∑ l : Fin 4, addend m c l r a := by
  rw [outs_sum, Finset.sum_range]
  exact Finset.sum_congr rfl fun l _ => dif_pos l.isLt

/-- Only the last step writes the silu's gradient back. -/
theorem block4 : ((cfg0.win 4).blk last).view.read (Elt Ideal) ((dats m 0 c).arrAt 4 cfg0.N) = (dats m 0 c).flushed 4 last :=
  (dats m 0 c).read_blk_arrAt_eq_flushed 4 (fun t t' h h' n => by
    have hN : cfg0.N = 4 := N_0
    have e := (flush0_4 t).mp h
    have e' := (flush0_4 t').mp h'
    have := t.isLt
    have := t'.isLt
    exact absurd (Fin.ext (by omega)) n) cfg0.N last last.isLt ((flush0_4 last).mpr (by decide))

theorem result4 (r : Fin 16) (a : Fin 1024) :
    ((dats m 0 c).arrAt 4 cfg0.N : S16x1024.Idx → EReal) (ix2 r a) = ∑ l : Fin 4, addend m c l r a := by
  have h := congrFun (block4 m c) (ix2 r a)
  rw [View.read_apply, flushed4] at h
  refine Eq.trans (congrArg _ ?_) (h.trans (outs_last m c r a))
  funext e
  apply Fin.ext
  match e with
  | ⟨0, _⟩ => show r.val = win0_4.index last 0 * 16 + 1 * r.val; rw [(index4 last).1]; omega
  | ⟨1, _⟩ => show a.val = win0_4.index last 1 * 1024 + 1 * a.val; rw [(index4 last).2]; omega

/-! ## The reference -/

open Cert.Reference19Ideal.Read in
theorem reference_weight (x : Vec Ideal S16x1024 .f32) (y : Vec Ideal S4x16x1536 .f32) (l : Fin 4) (a : Fin 1024) (b : Fin 1536) :
    val_main_v6 (F := Ideal) x y (ix3 l a b)
      = ∑ r : Fin 16, x (ix2 r a) * Ideal.logistic (x (ix2 r a)) * y (ix3 l r b) := by
  rw [val_main_v6_apply, val_main_v5_apply]
  refine Finset.sum_congr rfl fun r _ => ?_
  rw [mul_comm, val_main_v3_apply]
  refine congrArg₂ (· * ·) ?_ (congrArg y ?_)
  · have e : ridx_main_v5 (idx_main_v6 (ix3 l a b)) r = ix2 r a := by
      funext e
      match e with
      | ⟨0, _⟩ => rfl
      | ⟨1, _⟩ => rfl
    rw [e]
    exact congrArg (x _ * ·) (quotient_eq (x (ix2 r a)))
  · funext e
    match e with
    | ⟨0, _⟩ => rfl
    | ⟨1, _⟩ => rfl
    | ⟨2, _⟩ => rfl

section TwoAxes

open Cert.Reference19Ideal.Read

abbrev dims : DotDims Cert.Reference19Ideal.S4x1536x16 S4x1024x1536 S16x1024 :=
  Cert.Reference19Ideal.dot_S4x1536x16_S4x1024x1536_S16x1024_01_02_2_1_n_n

/-- The left operand of the silu's gradient is read at the layer, the column and the row, … -/
theorem left_index (j : S16x1024.Idx) (q : dims.contr.Idx) (l : Fin 4) (b : Fin 1536)
    (hl : (q ⟨0, by decide⟩ : ℕ) = l.val) (hb : (q ⟨1, by decide⟩ : ℕ) = b.val) : dims.lhsIdx j q = ix3 l b (j 0) := by
  funext e
  apply Fin.ext
  match e with
  | ⟨0, _⟩ => exact Eq.trans rfl hl
  | ⟨1, _⟩ => exact Eq.trans rfl hb
  | ⟨2, _⟩ => rfl

/-- … the right one at the layer, the feature and the column. -/
theorem right_index (j : S16x1024.Idx) (q : dims.contr.Idx) (l : Fin 4) (b : Fin 1536)
    (hl : (q ⟨0, by decide⟩ : ℕ) = l.val) (hb : (q ⟨1, by decide⟩ : ℕ) = b.val) : dims.rhsIdx j q = ix3 l (j 1) b := by
  funext e
  apply Fin.ext
  match e with
  | ⟨0, _⟩ => exact Eq.trans rfl hl
  | ⟨1, _⟩ => rfl
  | ⟨2, _⟩ => exact Eq.trans rfl hb

theorem reference_silu (y : Vec Ideal S4x16x1536 .f32) (w : Vec Ideal S4x1024x1536 .f32) (r : Fin 16) (a : Fin 1024) :
    val_main_v4 (F := Ideal) y w (ix2 r a)
      = ∑ l : Fin 4, ∑ b : Fin 1536, y (ix3 l r b) * w (ix3 l a b) := by
  unfold val_main_v4
  simp only [Host.dotGeneral]
  rw [Ideal.dotGeneral_apply, sum_contr2 dims 4 1536 rfl rfl rfl]
  refine Finset.sum_congr rfl fun l _ => Finset.sum_congr rfl fun b _ => ?_
  have hl := contrEquiv2_symm_val0 dims 4 1536 rfl rfl rfl (l, b)
  have hb := contrEquiv2_symm_val1 dims 4 1536 rfl rfl rfl (l, b)
  rw [left_index _ _ l b hl hb, right_index _ _ l b hl hb]
  refine congrArg₂ (· * ·) ((val_main_v3_apply _ _).trans (congrArg y ?_)) rfl
  funext e
  match e with
  | ⟨0, _⟩ => rfl
  | ⟨1, _⟩ => rfl
  | ⟨2, _⟩ => rfl

end TwoAxes

/-! ## The two agree -/

theorem weight_eq : ((dats m 0 c).arrAt 3 cfg0.N : S4x1024x1536.Idx → EReal)
    = Cert.Reference19Ideal.Read.val_main_v6 (F := Ideal) (cond m c) (cot m c) := by
  funext j
  obtain ⟨l, a, b, rfl⟩ : ∃ (l : Fin 4) (a : Fin 1024) (b : Fin 1536), j = ix3 l a b := ⟨j 0, j 1, j 2, eq_ix3 j⟩
  rw [result3, reference_weight]
  rfl

theorem silu_eq : ((dats m 0 c).arrAt 4 cfg0.N : S16x1024.Idx → EReal)
    = Cert.Reference19Ideal.Read.val_main_v4 (F := Ideal) (cot m c) (weight m c) := by
  funext j
  obtain ⟨r, a, rfl⟩ : ∃ (r : Fin 16) (a : Fin 1024), j = ix2 r a := ⟨j 0, j 1, eq_ix2 j⟩
  rw [result4, reference_silu]
  rfl

theorem algebraic : Cert.algebraic_Kernel19Ideal_Reference19Ideal := fun m g m' g' _ hagree =>
  ⟨fun c => (dats m 0 c).arrAt 3 cfg0.N, fun c => (dats m 0 c).arrAt 4 cfg0.N, run_blocks m g,
    (θ_run Cert.Reference19Ideal.defs _ _).mono (fun _ h c => by
      obtain ⟨h0, h1, kept⟩ := h c
      obtain ⟨a0, a1, a2⟩ := hagree c
      rw [a0, a1, Cert.Reference19Ideal.Read.val_main_v6_eq] at h0
      rw [a1, a2, Cert.Reference19Ideal.Read.val_main_v4_eq] at h1
      exact ⟨h0.trans (weight_eq m c).symm, h1.trans (silu_eq m c).symm, kept⟩)
      (Cert.Reference19Ideal.Value.run (F := Ideal) m' g')⟩

end Cert.Modulation

end
-- ==== Proof.ModulationForward.lean ====
/-
  The modulation forward (`Kernel20`), at the ideal values: each step multiplies the silu of the conditions with one layer's
  weight and adds the layer's bias.
-/
module

public import proofs.«01_k».proof.Proof.Gen.Kernel20Ideal.Value
public import proofs.«01_k».proof.Proof.Gen.Reference20Ideal.Run
public import proofs.«01_k».proof.Proof.Gen.Reference20Ideal.Read
public import proofs.«01_k».proof.Defs
public import proofs.«01_k».proof.Proof.Modulation

@[expose] public section

set_option maxRecDepth 16384

noncomputable section

namespace Cert.Modulation.Forward

open Cert.Kernel20Ideal Cert.Kernel20Ideal.Gen Cert.Kernel20Ideal.Value
open Idealize.ShloMosaic Idealize.ShloMosaic.TcCoe Idealize.SL.Sem Idealize.ShloMosaic.ValueIdx
open Cert.Products Cert.Optimiser

/-- A step's block at an entry. -/
theorem block_apply (x : Vec Ideal S16x1024 .f32) (w : Vec Ideal S1x1024x1536 .f32) (v : Vec Ideal S1x1x1536 .f32)
    (u : Fin 1) (r : Fin 16) (b : Fin 1536) :
    out0_3 x w v (ix3 u r b)
      = ∑ a : Fin 1024, x (ix2 r a) * Ideal.logistic (x (ix2 r a)) * w (ix3 0 a b) + v (ix3 0 0 b) := by
  unfold out0_3
  rw [View.canon_unit_zero zero3, View.ld_unit_zero zero2, View.ld_unit_zero zero3, View.ld_unit_zero zero3]
  unfold k0_pay1
  refine (shapeCast_ab_1ab_apply _ _ _ _ _).trans (congrArg₂ (· + ·) ((nn_apply _ _ _ r b).trans ?_) ?_)
  · refine Finset.sum_congr rfl fun a _ => congrArg₂ (· * ·) ?_ ?_
    · rw [← logistic_eq]; rfl
    · exact shapeCast_1ab_ab_apply _ _ _ _
  · refine (broadcastTo_apply _ _ _ (ix2 0 b : S1x1536.Idx) fun e => ?_).trans (shapeCast_1ab_ab_apply _ _ _ _)
    match e with
    | ⟨0, _⟩ => rfl
    | ⟨1, _⟩ => rfl

variable (m : (ℓ : Loc nD τ sig) → Buf (Elt Ideal) ℓ) (c : Dev nD)

/-- The conditions, the modulation's weights, and its biases, as the program is given them. -/
abbrev cond : Vec Ideal S16x1024 .f32 := m ((c : Thread nD τ).loc main_arg0)
abbrev weight : Vec Ideal S4x1024x1536 .f32 := m ((c : Thread nD τ).loc main_arg1)
abbrev bias : Vec Ideal S4x1x1536 .f32 := m ((c : Thread nD τ).loc main_arg2)

/-- The layer of a step. -/
abbrev layer (t : Fin cfg0.N) : Fin 4 := ⟨t.val, lt_of_lt_of_eq t.isLt N_0⟩

theorem index0 : ∀ t : Fin cfg0.N, win0_0.index t (0 : Fin 2) = 0 ∧ win0_0.index t (1 : Fin 2) = 0 :=
  (by decide +kernel : ∀ t : Fin grid0.N, _)
theorem index1 : ∀ t : Fin cfg0.N,
    win0_1.index t (0 : Fin 3) = t.val ∧ win0_1.index t (1 : Fin 3) = 0 ∧ win0_1.index t (2 : Fin 3) = 0 :=
  (by decide +kernel : ∀ t : Fin grid0.N, _)
theorem index2 : ∀ t : Fin cfg0.N,
    win0_2.index t (0 : Fin 3) = t.val ∧ win0_2.index t (1 : Fin 3) = 0 ∧ win0_2.index t (2 : Fin 3) = 0 :=
  (by decide +kernel : ∀ t : Fin grid0.N, _)
theorem index3 : ∀ t : Fin cfg0.N,
    win0_3.index t (0 : Fin 3) = t.val ∧ win0_3.index t (1 : Fin 3) = 0 ∧ win0_3.index t (2 : Fin 3) = 0 :=
  (by decide +kernel : ∀ t : Fin grid0.N, _)

/-- Every step has all the conditions, … -/
theorem block0 (t : Fin cfg0.N) (r : Fin 16) (a : Fin 1024) :
    (iblk m c 0 t : Vec Ideal S16x1024 .f32) (ix2 r a) = cond m c (ix2 r a) := by
  unfold iblk
  rw [View.read_apply]
  show V m c main_arg0 _ = cond m c _
  unfold V
  congr 1
  funext e
  apply Fin.ext
  match e with
  | ⟨0, _⟩ => show win0_0.index t 0 * 16 + 1 * r.val = r.val; rw [(index0 t).1]; omega
  | ⟨1, _⟩ => show win0_0.index t 1 * 1024 + 1 * a.val = a.val; rw [(index0 t).2]; omega

/-- … its layer's weight, … -/
theorem block1 (t : Fin cfg0.N) (u : Fin 1) (a : Fin 1024) (b : Fin 1536) :
    (iblk m c 1 t : Vec Ideal S1x1024x1536 .f32) (ix3 u a b) = weight m c (ix3 (layer t) a b) := by
  unfold iblk
  rw [View.read_apply]
  show V m c main_arg1 _ = weight m c _
  unfold V
  congr 1
  funext e
  apply Fin.ext
  match e with
  | ⟨0, _⟩ => show win0_1.index t 0 * 1 + 1 * u.val = t.val; rw [(index1 t).1]; omega
  | ⟨1, _⟩ => show win0_1.index t 1 * 1024 + 1 * a.val = a.val; rw [(index1 t).2.1]; omega
  | ⟨2, _⟩ => show win0_1.index t 2 * 1536 + 1 * b.val = b.val; rw [(index1 t).2.2]; omega

/-- … and its layer's bias. -/
theorem block2 (t : Fin cfg0.N) (u v : Fin 1) (b : Fin 1536) :
    (iblk m c 2 t : Vec Ideal S1x1x1536 .f32) (ix3 u v b) = bias m c (ix3 (layer t) 0 b) := by
  unfold iblk
  rw [View.read_apply]
  show V m c main_arg2 _ = bias m c _
  unfold V
  congr 1
  funext e
  apply Fin.ext
  match e with
  | ⟨0, _⟩ => show win0_2.index t 0 * 1 + 1 * u.val = t.val; rw [(index2 t).1]; omega
  | ⟨1, _⟩ => show win0_2.index t 1 * 1 + 1 * v.val = 0; rw [(index2 t).2.1]; omega
  | ⟨2, _⟩ => show win0_2.index t 2 * 1536 + 1 * b.val = b.val; rw [(index2 t).2.2]; omega

/-- The place in the result of an entry of step `t`'s block. -/
abbrev place (t : Fin cfg0.N) (y : S1x16x1536.Idx) : S4x16x1536.Idx := ((cfg0.win 3).blk t).view.emb y

theorem place_eq (t : Fin cfg0.N) (u : Fin 1) (r : Fin 16) (b : Fin 1536) :
    place t (ix3 u r b) = ix3 (layer t) r b := by
  funext e
  apply Fin.ext
  match e with
  | ⟨0, _⟩ => show win0_3.index t 0 * 1 + 1 * u.val = t.val; rw [(index3 t).1]; omega
  | ⟨1, _⟩ => show win0_3.index t 1 * 16 + 1 * r.val = r.val; rw [(index3 t).2.1]; omega
  | ⟨2, _⟩ => show win0_3.index t 2 * 1536 + 1 * b.val = b.val; rw [(index3 t).2.2]; omega

theorem onto (j : S4x16x1536.Idx) : ∃ t y, place t y = j :=
  ⟨⟨(j 0).val, lt_of_lt_of_eq (j 0).isLt N_0.symm⟩, ix3 0 (j 1) (j 2), (place_eq _ 0 (j 1) (j 2)).trans (eq_ix3 j).symm⟩

/-- The reference's silu. -/
theorem reference_gate (x : Vec Ideal S16x1024 .f32) (r : Fin 16) (a : Fin 1024) :
    Cert.Reference20Ideal.Read.val_main_v0 (F := Ideal) x (ix2 r a) = x (ix2 r a) * Ideal.logistic (x (ix2 r a)) :=
  congrArg (x _ * ·) (quotient_eq (x (ix2 r a)))

/-- The reference at an entry. -/
theorem reference_apply (x : Vec Ideal S16x1024 .f32) (w : Vec Ideal S4x1024x1536 .f32) (v : Vec Ideal S4x1x1536 .f32)
    (l : Fin 4) (r : Fin 16) (b : Fin 1536) :
    Cert.Reference20Ideal.Read.val_main_v4 (F := Ideal) x w v (ix3 l r b)
      = ∑ a : Fin 1024, x (ix2 r a) * Ideal.logistic (x (ix2 r a)) * w (ix3 l a b) + v (ix3 l 0 b) := by
  refine congrArg₂ (· + ·) ?_ ((Cert.Reference20Ideal.Read.val_main_v3_apply _ _).trans (congrArg v ?_))
  · refine (Cert.Reference20Ideal.Read.val_main_v2_apply _ _ _).trans
      ((Cert.Reference20Ideal.Read.val_main_v1_apply _ _ _).trans ?_)
    refine Finset.sum_congr rfl fun a _ => (mul_comm _ _).trans (congrArg₂ (· * ·) ?_ (congrArg w ?_))
    · exact (congrArg _ (funext fun e => by match e with | ⟨0, _⟩ => rfl | ⟨1, _⟩ => rfl)).trans (reference_gate x r a)
    · funext e
      match e with
      | ⟨0, _⟩ => rfl
      | ⟨1, _⟩ => rfl
      | ⟨2, _⟩ => rfl
  · funext e
    match e with
    | ⟨0, _⟩ => rfl
    | ⟨1, _⟩ => rfl
    | ⟨2, _⟩ => rfl

theorem result_eq : ((dats m 0 c).arrAt 3 cfg0.N : S4x16x1536.Idx → EReal)
    = Cert.Reference20Ideal.Read.val_main_v4 (F := Ideal) (cond m c) (weight m c) (bias m c) :=
  ext_blocks place onto fun t y => by
    have h := congrFun (blocks3 m c t (flush0_3 t)) y
    rw [View.read_apply, flushed3] at h
    refine h.trans ?_
    obtain ⟨u, r, b, rfl⟩ : ∃ u r b, y = ix3 u r b := ⟨y 0, y 1, y 2, eq_ix3 y⟩
    refine (block_apply _ _ _ u r b).trans ?_
    rw [place_eq, reference_apply, block2]
    exact congrArg (· + _) (Finset.sum_congr rfl fun a _ => by rw [block0, block1])

theorem algebraic : Cert.algebraic_Kernel20Ideal_Reference20Ideal := fun m g m' g' _ hagree =>
  ⟨fun c => (dats m 0 c).arrAt 3 cfg0.N, run_blocks m g,
    (θ_run Cert.Reference20Ideal.defs _ _).mono (fun _ h c => by
      obtain ⟨h0, kept⟩ := h c
      obtain ⟨a0, a1, a2⟩ := hagree c
      rw [a0, a1, a2, Cert.Reference20Ideal.Read.val_main_v4_eq] at h0
      exact ⟨h0.trans (result_eq m c).symm, kept⟩) (Cert.Reference20Ideal.Value.run (F := Ideal) m' g')⟩

end Cert.Modulation.Forward

end
-- ==== Proof.LossHead.lean ====
/-
  The loss and its gradients (`Kernel21`), at the ideal values. Each step takes 256 rows, norms them, and adds half of their
  squared errors' means to every entry of the loss; the step of the context's rows adds zero times theirs. Each step writes its
  rows' gradient, through the norm, and the gradient of what was added to them, through its gate.
-/
module

public import proofs.«01_k».proof.Proof.Gen.Kernel21Ideal.Value
public import proofs.«01_k».proof.Proof.Gen.Reference21Ideal.Run
public import proofs.«01_k».proof.Proof.Gen.Reference21Ideal.Read
public import proofs.«01_k».proof.Defs
public import proofs.«01_k».proof.Proof.Modulation
public import proofs.«01_k».proof.Proof.UpReference
public import Idealize.ShloMosaic.Lib.Pointwise
public import Idealize.ShloMosaic.Lib.Tactic

@[expose] public section

set_option maxRecDepth 16384

noncomputable section

namespace Cert.LossHead

open Cert.Kernel21Ideal Cert.Kernel21Ideal.Gen Cert.Kernel21Ideal.Value
open Idealize.ShloMosaic hiding ix1 ix2 ix3
open Idealize.ShloMosaic.TcCoe Idealize.SL.Sem
open Idealize.ShloMosaic.ValueIdx (ix1 ix2 ix3)
open Cert.Products Cert.Optimiser
open Cert.Kernel11Ideal.Block (width small inverse)
open Cert.Modulation (lit_half)
open Cert.Kernel11Ideal.Block (behind seqOf)
open Cert.Up (sum_mul_coe width_eq behind_eq spread back half)

/-! ## What each case of the body leaves -/

/-- The row of gates of a step's sequence. -/
def gateRow {F : FTy → Type} [FloatOps F] (i : grid0.Coords) (g : Vec F S2x6x1024 .f32) : Vec F S1x1x1024 .f32 :=
  View.ld g (Rect.unit (s := S2x6x1024) (k0_off1 i) S1x1x1024.size (k0_off1_inb i))

section Cases

variable {F : FTy → Type} [FloatOps F]
variable (c : Dev nD) (i : grid0.Coords)
  (a1 : Memref sig .tc .vmem S256x1024 .f32) (h1 : a1.IsWhole) (a2 : Memref sig .tc .vmem S1x1024 .f32) (h2 : a2.IsWhole)
  (a3 : Memref sig .tc .vmem S256x1024 .f32) (h3 : a3.IsWhole) (a4 : Memref sig .tc .vmem S256x1024 .bf16) (h4 : a4.IsWhole)
  (a5 : Memref sig .tc .vmem S2x6x1024 .f32) (h5 : a5.IsWhole) (a6 : Memref sig .tc .vmem S8x128 .f32) (h6 : a6.IsWhole)
  (a7 : Memref sig .tc .vmem S256x1024 .f32) (h7 : a7.IsWhole) (a8 : Memref sig .tc .vmem S8x1024 .f32) (h8 : a8.IsWhole)
  (a9 : Memref sig .tc .vmem S256x1024 .bf16) (h9 : a9.IsWhole) (a10 : Memref sig .tc .vmem S2x8x1024 .f32) (h10 : a10.IsWhole)
  (x0 : Vec F S256x1024 .f32) (x1 : Vec F S1x1024 .f32) (x2 : Vec F S256x1024 .f32) (x3 : Vec F S256x1024 .bf16) (x4 : Vec F S2x6x1024 .f32)
  (x5 : Vec F S8x128 .f32) (x7 : Vec F S8x1024 .f32) (x9 : Vec F S2x8x1024 .f32)

/-- The first step clears the loss and adds its rows' errors, … -/
theorem loss_first (hc0 : cond0_0 i) :
    out0_A_5 c i a1 h1 a2 h2 a3 h3 a4 h4 a5 h5 a6 h6 a7 h7 a8 h8 a9 h9 a10 h10 hc0 x0 x1 x2 x3 x4
      = k0_pay9 i x1 x0 x2 k0_pay2 := by
  unfold out0_A_5
  rw [View.read_writes_eq_canon _ _ _ (cover0_A_5 c i a1 h1 a2 h2 a3 h3 a4 h4 a5 h5 a6 h6 a7 h7 a8 h8 a9 h9 a10 h10 hc0 x0 x1 x2 x3 x4)]
  unfold kernelRun0_A
  dsimp only
  sl_unfold_words
  rw [View.canon_cons_unit_zero (S := S8x128) zero2, View.readCov_unit_zero (S := S8x128) _ zero2]
  simp only [View.readAt_eq_ld, h1.read_unread, h2.read_unread, h3.read_unread, View.ld_unit_zero (S := S256x1024) zero2,
    View.ld_unit_zero (S := S1x1024) zero2]

/-- … the others add theirs. -/
theorem loss_next (hc0 : ¬cond0_0 i) :
    out0_B_5 c i a1 h1 a2 h2 a3 h3 a4 h4 a5 h5 a6 h6 a7 h7 a8 h8 a9 h9 a10 h10 hc0 x0 x1 x2 x3 x4 x5 x7 x9
      = k0_pay9 i x1 x0 x2 x5 := by
  unfold out0_B_5
  rw [View.read_writes_eq_canon _ _ _ (cover0_B_5 c i a1 h1 a2 h2 a3 h3 a4 h4 a5 h5 a6 h6 a7 h7 a8 h8 a9 h9 a10 h10 hc0 x0 x1 x2 x3 x4 x5 x7 x9)]
  unfold kernelRun0_B
  dsimp only
  sl_unfold_words
  rw [View.canon_unit_zero (S := S8x128) zero2]
  simp only [View.readAt_eq_ld, h1.read_unread, h2.read_unread, h3.read_unread, h6.read_unread,
    View.ld_unit_zero (S := S256x1024) zero2, View.ld_unit_zero (S := S1x1024) zero2, View.ld_unit_zero (S := S8x128) zero2]

/-- Each step writes its rows' gradient, … -/
theorem dx_first (hc0 : cond0_0 i) :
    out0_A_6 c i a1 h1 a2 h2 a3 h3 a4 h4 a5 h5 a6 h6 a7 h7 a8 h8 a9 h9 a10 h10 hc0 x0 x1 x2 x3 x4
      = k0_pay12 (k0_pay5 i) x1 (k0_pay6 x0) (k0_pay7 x0) (k0_pay8 x1 x0 x2) := by
  unfold out0_A_6
  rw [View.read_writes_eq_canon _ _ _ (cover0_A_6 c i a1 h1 a2 h2 a3 h3 a4 h4 a5 h5 a6 h6 a7 h7 a8 h8 a9 h9 a10 h10 hc0 x0 x1 x2 x3 x4)]
  unfold kernelRun0_A
  dsimp only
  sl_unfold_words
  rw [View.canon_unit_zero (S := S256x1024) zero2]
  simp only [View.readAt_eq_ld, h1.read_unread, h2.read_unread, h3.read_unread, View.ld_unit_zero (S := S256x1024) zero2,
    View.ld_unit_zero (S := S1x1024) zero2]

/-- … the others too, … -/
theorem dx_next (hc0 : ¬cond0_0 i) :
    out0_B_6 c i a1 h1 a2 h2 a3 h3 a4 h4 a5 h5 a6 h6 a7 h7 a8 h8 a9 h9 a10 h10 hc0 x0 x1 x2 x3 x4 x5 x7 x9
      = k0_pay12 (k0_pay5 i) x1 (k0_pay6 x0) (k0_pay7 x0) (k0_pay8 x1 x0 x2) := by
  unfold out0_B_6
  rw [View.read_writes_eq_canon _ _ _ (cover0_B_6 c i a1 h1 a2 h2 a3 h3 a4 h4 a5 h5 a6 h6 a7 h7 a8 h8 a9 h9 a10 h10 hc0 x0 x1 x2 x3 x4 x5 x7 x9)]
  unfold kernelRun0_B
  dsimp only
  sl_unfold_words
  rw [View.canon_unit_zero (S := S256x1024) zero2]
  simp only [View.readAt_eq_ld, h1.read_unread, h2.read_unread, h3.read_unread, View.ld_unit_zero (S := S256x1024) zero2,
    View.ld_unit_zero (S := S1x1024) zero2]

/-- … and the gradient of what was added to the rows. -/
theorem dy_first (hc0 : cond0_0 i) :
    out0_A_8 c i a1 h1 a2 h2 a3 h3 a4 h4 a5 h5 a6 h6 a7 h7 a8 h8 a9 h9 a10 h10 hc0 x0 x1 x2 x3 x4
      = k0_pay13 (k0_pay5 i) x1 (k0_pay6 x0) (k0_pay7 x0) (k0_pay8 x1 x0 x2) (gateRow i x4) := by
  unfold out0_A_8
  rw [View.read_writes_eq_canon _ _ _ (cover0_A_8 c i a1 h1 a2 h2 a3 h3 a4 h4 a5 h5 a6 h6 a7 h7 a8 h8 a9 h9 a10 h10 hc0 x0 x1 x2 x3 x4)]
  unfold kernelRun0_A
  dsimp only
  sl_unfold_words
  rw [View.canon_unit_zero (S := S256x1024) zero2]
  simp only [View.readAt_eq_ld, h1.read_unread, h2.read_unread, h3.read_unread, h5.read_unread, View.ld_unit_zero (S := S256x1024) zero2,
    View.ld_unit_zero (S := S1x1024) zero2]
  rfl

/-- … in the others too. -/
theorem dy_next (hc0 : ¬cond0_0 i) :
    out0_B_8 c i a1 h1 a2 h2 a3 h3 a4 h4 a5 h5 a6 h6 a7 h7 a8 h8 a9 h9 a10 h10 hc0 x0 x1 x2 x3 x4 x5 x7 x9
      = k0_pay13 (k0_pay5 i) x1 (k0_pay6 x0) (k0_pay7 x0) (k0_pay8 x1 x0 x2) (gateRow i x4) := by
  unfold out0_B_8
  rw [View.read_writes_eq_canon _ _ _ (cover0_B_8 c i a1 h1 a2 h2 a3 h3 a4 h4 a5 h5 a6 h6 a7 h7 a8 h8 a9 h9 a10 h10 hc0 x0 x1 x2 x3 x4 x5 x7 x9)]
  unfold kernelRun0_B
  dsimp only
  sl_unfold_words
  rw [View.canon_unit_zero (S := S256x1024) zero2]
  simp only [View.readAt_eq_ld, h1.read_unread, h2.read_unread, h3.read_unread, h5.read_unread, View.ld_unit_zero (S := S256x1024) zero2,
    View.ld_unit_zero (S := S1x1024) zero2]
  rfl

end Cases

/-! ## The payloads at an entry -/

/-- The error of an entry of a normed row, and a row's squared errors' mean: `x` the row, `w` the norm's weight, `y` the target. -/
def miss (x w y : Fin 1024 → EReal) (k : Fin 1024) : EReal := x k * inverse x * w k - y k
def rowLoss (x w y : Fin 1024 → EReal) : EReal := Ideal.div (∑ k, miss x w y k * miss x w y k) width

theorem clear_apply (j : S8x128.Idx) : k0_pay2 (F := Ideal) j = 0 := Ideal.ofBits_zero_f32

theorem root_apply (x : FVec Ideal S256x1024 .f32) (r : Fin 256) (z : Fin 1) :
    k0_pay6 (F := Ideal) x (ix2 r z) = inverse fun k => x (ix2 r k) := by
  unfold inverse width small
  simp only [← ix2_eq_valueIdx]
  pointwise [k0_pay6]

theorem miss_apply (w : FVec Ideal S1x1024 .f32) (x y : FVec Ideal S256x1024 .f32) (r : Fin 256) (k : Fin 1024) :
    k0_pay8 (F := Ideal) w x y (ix2 r k) = miss (fun k => x (ix2 r k)) (fun k => w (ix2 0 k)) (fun k => y (ix2 r k)) k := by
  unfold miss
  rw [← root_apply x r 0]
  simp only [← ix2_eq_valueIdx]
  pointwise [k0_pay8, k0_pay7]

/-- What a step adds. -/
theorem loss_apply (i : grid0.Coords) (w : FVec Ideal S1x1024 .f32) (x y : FVec Ideal S256x1024 .f32) (v : FVec Ideal S8x128 .f32)
    (j : S8x128.Idx) :
    k0_pay9 (F := Ideal) i w x y v j = v j + lit 0x3F000000#32 * k0_pay5 (F := Ideal) i
      * ∑ r : Fin 256, rowLoss (fun k => x (ix2 r k)) (fun k => w (ix2 0 k)) (fun k => y (ix2 r k)) := by
  unfold rowLoss width
  simp only [← miss_apply w x y]
  obtain ⟨a, b, rfl⟩ : ∃ (a : Fin 8) (b : Fin 128), j = ix2 a b := ⟨j 0, j 1, ValueIdx.eq_ix2 j⟩
  simp only [← ix2_eq_valueIdx]
  pointwise [k0_pay9]
  simp only [Finset.univ_unique, Finset.sum_singleton]

theorem normed_apply (x : FVec Ideal S256x1024 .f32) (r : Fin 256) (k : Fin 1024) :
    k0_pay7 (F := Ideal) x (ix2 r k) = x (ix2 r k) * inverse fun k => x (ix2 r k) := by
  rw [← root_apply x r 0]
  simp only [← ix2_eq_valueIdx]
  pointwise [k0_pay7]

/-- A row's gradient behind the norm's weight is scaled, … -/
theorem slope_apply (f : EReal) (e : FVec Ideal S256x1024 .f32) (r : Fin 256) (k : Fin 1024) :
    k0_pay10 (F := Ideal) f e (ix2 r k) = e (ix2 r k) * Ideal.div f width := by
  unfold width
  simp only [← ix2_eq_valueIdx]
  pointwise [k0_pay10]

/-- … taken through the norm's derivative … -/
theorem back_apply (f : EReal) (w : FVec Ideal S1x1024 .f32) (rr : FVec Ideal S256x1 .f32) (xh e : FVec Ideal S256x1024 .f32)
    (r : Fin 256) (k : Fin 1024) :
    k0_pay12 (F := Ideal) f w rr xh e (ix2 r k) = rr (ix2 r 0) * (k0_pay10 (F := Ideal) f e (ix2 r k) * w (ix2 0 k) - xh (ix2 r k)
      * Ideal.div (∑ j, k0_pay10 (F := Ideal) f e (ix2 r j) * w (ix2 0 j) * xh (ix2 r j)) width) := by
  unfold width
  simp only [← ix2_eq_valueIdx]
  pointwise [k0_pay12]

/-- … and gated. -/
theorem gated_apply (f : EReal) (w : FVec Ideal S1x1024 .f32) (rr : FVec Ideal S256x1 .f32) (xh e : FVec Ideal S256x1024 .f32)
    (g : FVec Ideal S1x1x1024 .f32) (r : Fin 256) (k : Fin 1024) :
    k0_pay13 (F := Ideal) f w rr xh e g (ix2 r k) = g (ix3 0 0 k) * k0_pay12 (F := Ideal) f w rr xh e (ix2 r k) := by
  simp only [← ix2_eq_valueIdx, ← ix3_eq_valueIdx]
  pointwise [k0_pay13]

/-- The sequence a step's block belongs to. -/
def seq (i : grid0.Coords) : Fin 2 := if 32 ≤ (i 0).val then 1 else 0

theorem offset1 : ∀ i : grid0.Coords, k0_off1 i = ![(seq i).val, 5, 0] := by decide +kernel

theorem gateRow_apply (i : grid0.Coords) (g : Vec Ideal S2x6x1024 .f32) (k : Fin 1024) :
    gateRow (F := Ideal) i g (ix3 0 0 k) = g (ix3 (seq i) 5 k) :=
  View.ld_unit_apply_of (S := S2x6x1024) g (k0_off1 i) S1x1x1024.size (k0_off1_inb i) (ix3 0 0 k) (ix3 (seq i) 5 k)
    (fun a => by
      refine Eq.trans (b := (![(seq i).val, 5, 0] : Fin 3 → ℕ) a + ((ix3 (0 : Fin 1) (0 : Fin 1) k : S1x1x1024.Idx) a).val) ?_
        (congrArg (· + ((ix3 (0 : Fin 1) (0 : Fin 1) k : S1x1x1024.Idx) a).val) (congrFun (offset1 i) a).symm)
      exact match a with | ⟨0, _⟩ => rfl | ⟨1, _⟩ => rfl | ⟨2, _⟩ => (Nat.zero_add _).symm)

/-- The factor is one in the steps of the latent rows … -/
theorem live_one (i : grid0.Coords) (h : (i 0).val < 32) : k0_pay5 (F := Ideal) i = 1 := by
  have e : ∀ n : Fin 32, (Scalar.extui (Scalar.cmpi .slt (BitVec.ofNat 32 n.val) 32#32) : BitVec 32) = 1#32 := by decide
  unfold k0_pay5
  dsimp only
  rw [e ⟨(i 0).val, h⟩, Ideal.scalar_sitofp_def]
  norm_num

/-- … and zero in the context's. -/
theorem live_zero (i : grid0.Coords) (h : (i 0).val = 32) : k0_pay5 (F := Ideal) i = 0 := by
  have e : (Scalar.extui (Scalar.cmpi .slt (BitVec.ofNat 32 32) 32#32) : BitVec 32) = 0#32 := by decide
  unfold k0_pay5
  dsimp only
  rw [h, e, Ideal.scalar_sitofp_def]
  norm_num

theorem coords_eq : ∀ t : Fin cfg0.N, (grid0.coords t 0).val = t.val := (by decide +kernel : ∀ t : Fin grid0.N, _)

/-! ## The blocks -/

variable (m : (ℓ : Loc nD τ sig) → Buf (Elt Ideal) ℓ) (c : Dev nD)

/-- The rows, the norm's weight, the target and the gates, as the program is given them. -/
abbrev rows : Vec Ideal S8448x1024 .f32 := m ((c : Thread nD τ).loc main_arg0)
abbrev weight : Vec Ideal S1x1024 .f32 := m ((c : Thread nD τ).loc main_arg1)
abbrev target : Vec Ideal S8192x1024 .f32 := m ((c : Thread nD τ).loc main_arg2)
abbrev gate : Vec Ideal S2x6x1024 .f32 := m ((c : Thread nD τ).loc main_arg4)

/-- A row of a step's block among all rows. -/
abbrev rowOf (t : Fin cfg0.N) (r : Fin 256) : Fin 8448 := ⟨t.val * 256 + r.val, by
  have hN : cfg0.N = 33 := N_0
  omega⟩

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, t.val < 32 → win0_2.index t (0 : Fin 2) = t.val ∧ win0_2.index t (1 : Fin 2) = 0 :=
  (by decide +kernel : ∀ t : Fin grid0.N, t.val < 32 → _)
theorem index4 : ∀ t : Fin cfg0.N,
    win0_4.index t (0 : Fin 3) = 0 ∧ win0_4.index t (1 : Fin 3) = 0 ∧ win0_4.index t (2 : Fin 3) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)
theorem index8 : ∀ t : Fin cfg0.N, win0_8.index t (0 : Fin 2) = t.val ∧ win0_8.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)

/-- A step has its 256 rows, … -/
theorem block0 (t : Fin cfg0.N) (r : Fin 256) (k : Fin 1024) :
    (iblk m c 0 t : Vec Ideal S256x1024 .f32) (ix2 r k) = rows m c (ix2 (rowOf t r) k) := by
  unfold iblk
  rw [View.read_apply]
  show V m c main_arg0 _ = rows m c _
  unfold V
  congr 1
  funext e
  apply Fin.ext
  match e with
  | ⟨0, _⟩ => show win0_0.index t 0 * 256 + 1 * r.val = t.val * 256 + r.val; rw [(index0 t).1]; omega
  | ⟨1, _⟩ => show win0_0.index t 1 * 1024 + 1 * k.val = k.val; rw [(index0 t).2]; omega

/-- … all of the weight, … -/
theorem block1 (t : Fin cfg0.N) (z : Fin 1) (k : Fin 1024) :
    (iblk m c 1 t : Vec Ideal S1x1024 .f32) (ix2 z k) = weight m c (ix2 0 k) := by
  unfold iblk
  rw [View.read_apply]
  show V m c main_arg1 _ = weight m c _
  unfold V
  congr 1
  funext e
  apply Fin.ext
  match e with
  | ⟨0, _⟩ => show win0_1.index t 0 * 1 + 1 * z.val = 0; rw [(index1 t).1]; omega
  | ⟨1, _⟩ => show win0_1.index t 1 * 1024 + 1 * k.val = k.val; rw [(index1 t).2]; omega

/-- … its rows of the target, … -/
theorem block2 (t : Fin cfg0.N) (h : t.val < 32) (r : Fin 256) (k : Fin 1024) :
    (iblk m c 2 t : Vec Ideal S256x1024 .f32) (ix2 r k) = target m c (ix2 ⟨t.val * 256 + r.val, by omega⟩ k) := by
  unfold iblk
  rw [View.read_apply]
  show V m c main_arg2 _ = target m c _
  unfold V
  congr 1
  funext e
  apply Fin.ext
  match e with
  | ⟨0, _⟩ => show win0_2.index t 0 * 256 + 1 * r.val = t.val * 256 + r.val; rw [(index2 t h).1]; omega
  | ⟨1, _⟩ => show win0_2.index t 1 * 1024 + 1 * k.val = k.val; rw [(index2 t h).2]; omega

/-- … and all gates. -/
theorem block4 (t : Fin cfg0.N) (u : Fin 2) (v : Fin 6) (k : Fin 1024) :
    (iblk m c 4 t : Vec Ideal S2x6x1024 .f32) (ix3 u v k) = gate m c (ix3 u v k) := by
  unfold iblk
  rw [View.read_apply]
  show V m c main_arg4 _ = gate m c _
  unfold V
  congr 1
  funext e
  apply Fin.ext
  match e with
  | ⟨0, _⟩ => show win0_4.index t 0 * 2 + 1 * u.val = u.val; rw [(index4 t).1]; omega
  | ⟨1, _⟩ => show win0_4.index t 1 * 6 + 1 * v.val = v.val; rw [(index4 t).2.1]; omega
  | ⟨2, _⟩ => show win0_4.index t 2 * 1024 + 1 * k.val = k.val; rw [(index4 t).2.2]; omega

/-! ## The loss -/

/-- A latent row's part of the loss, before the half. -/
def part (x : Vec Ideal S8448x1024 .f32) (w : Vec Ideal S1x1024 .f32) (y : Vec Ideal S8192x1024 .f32) (n : Fin 8192) : EReal :=
  rowLoss (fun k => x (ix2 ⟨n.val, by omega⟩ k)) (fun k => w (ix2 0 k)) (fun k => y (ix2 n k))

/-- What a step adds to the loss. -/
def addend (n : ℕ) : EReal :=
  if h : n < 32 then
    (∑ r : Fin 256, part (rows m c) (weight m c) (target m c) ⟨n * 256 + r.val, by omega⟩) * ((1 / 2 : ℝ) : EReal)
  else 0

theorem added (t : Fin cfg0.N) (v : FVec Ideal S8x128 .f32) (j : S8x128.Idx) :
    k0_pay9 (F := Ideal) (grid0.coords t) (iblk m c 1 t) (iblk m c 0 t) (iblk m c 2 t) v j = v j + addend m c t.val := by
  have hN : cfg0.N = 33 := N_0
  have ht := t.isLt
  rw [loss_apply]
  unfold addend
  by_cases h : t.val < 32
  · rw [dif_pos h, live_one _ (by rw [coords_eq]; exact h), lit_half, mul_one, mul_comm]
    refine congrArg (v j + ·) (congrArg (· * _) (Finset.sum_congr rfl fun r _ => ?_))
    unfold part
    simp only [block0 m c t, block1 m c t, block2 m c t h]
  · rw [dif_neg h, live_zero _ (by rw [coords_eq]; omega), mul_zero, zero_mul]

theorem outs_first (t : Fin cfg0.N) (h : t.val % 33 = 0) (j : S8x128.Idx) :
    (outsAt0 m c t.val t.isLt).1 j = addend m c t.val := by
  rw [outsAt0_A m c t h]
  dsimp only
  rw [loss_first, added, clear_apply, zero_add]

theorem outs_next (t : Fin cfg0.N) (h : ¬t.val % 33 = 0) (j : S8x128.Idx) :
    (outsAt0 m c t.val t.isLt).1 j
      = (outsAt0 m c (t.val - 1) (Nat.lt_of_le_of_lt (Nat.sub_le _ _) t.isLt)).1 j + addend m c t.val := by
  rw [outsAt0_B m c t h]
  dsimp only
  rw [loss_next, added]

/-- After a step the loss is the sum over the steps so far. -/
theorem outs_sum (j : S8x128.Idx) (n : Nat) (hn : n < cfg0.N) :
    (outsAt0 m c n hn).1 j = ∑ l ∈ Finset.range (n + 1), addend m c l := by
  have hN : cfg0.N = 33 := N_0
  induction n with
  | zero =>
    rw [Finset.sum_range_one]
    exact outs_first m c ⟨0, hn⟩ rfl j
  | succ n ih =>
    rw [Finset.sum_range_succ, ← ih (by omega)]
    exact outs_next m c ⟨n + 1, hn⟩ (by dsimp only; omega) j

/-- The last step. -/
abbrev last : Fin cfg0.N := ⟨32, by rw [show cfg0.N = 33 from N_0]; decide⟩

/-- The loss as a sum over the latent rows. -/
def loss (x : Vec Ideal S8448x1024 .f32) (w : Vec Ideal S1x1024 .f32) (y : Vec Ideal S8192x1024 .f32) : EReal :=
  (∑ n : Fin 8192, part x w y n) * ((1 / 2 : ℝ) : EReal)

theorem outs_last (j : S8x128.Idx) :
    (outsAt0 m c last.val last.isLt).1 j = loss (rows m c) (weight m c) (target m c) := by
  rw [outs_sum, Finset.sum_range_succ, show addend m c 32 = 0 from dif_neg (by decide), add_zero]
  unfold loss
  rw [← sum_mul_coe (by norm_num)]
  have h := sweep 32 256 8192 rfl 0 (addend m c)
    (fun n => part (rows m c) (weight m c) (target m c) n * ((1 / 2 : ℝ) : EReal)) (fun s hs => by
      rw [show 32 * 0 + s = s by omega]
      unfold addend
      rw [dif_pos hs, ← sum_mul_coe (by norm_num)])
  refine Eq.trans (Finset.sum_congr rfl fun s _ => ?_) h
  rw [show 32 * 0 + s = s by omega]

/-- Only the last step writes the loss back. -/
theorem block5 : ((cfg0.win 5).blk last).view.read (Elt Ideal) ((dats m 0 c).arrAt 5 cfg0.N) = (dats m 0 c).flushed 5 last :=
  (dats m 0 c).read_blk_arrAt_eq_flushed 5 (fun t t' h h' n => by
    have hN : cfg0.N = 33 := N_0
    have e := (flush0_5 t).mp h
    have e' := (flush0_5 t').mp h'
    have := t.isLt
    have := t'.isLt
    exact absurd (Fin.ext (by omega)) n) cfg0.N last last.isLt ((flush0_5 last).mpr (by decide))

theorem result5 (r : Fin 8) (a : Fin 128) :
    ((dats m 0 c).arrAt 5 cfg0.N : S8x128.Idx → EReal) (ix2 r a) = loss (rows m c) (weight m c) (target m c) := by
  have h := congrFun (block5 m c) (ix2 r a)
  rw [View.read_apply, flushed5] at h
  refine Eq.trans (congrArg _ ?_) (h.trans (outs_last m c (ix2 r a)))
  funext e
  apply Fin.ext
  match e with
  | ⟨0, _⟩ => show r.val = win0_5.index last 0 * 8 + 1 * r.val; rw [(index5 last).1]; omega
  | ⟨1, _⟩ => show a.val = win0_5.index last 1 * 128 + 1 * a.val; rw [(index5 last).2]; omega

/-! ## The gradients -/

/-- The gradient of an entry of the normed, weighted rows: nothing in the context. -/
def slope (x : Vec Ideal S8448x1024 .f32) (w : Vec Ideal S1x1024 .f32) (y : Vec Ideal S8192x1024 .f32) (n : Fin 8448) (k : Fin 1024) :
    EReal :=
  if h : n.val < 8192 then
    miss (fun k => x (ix2 n k)) (fun k => w (ix2 0 k)) (fun k => y (ix2 ⟨n.val, h⟩ k)) k * ((1 / 1024 : ℝ) : EReal)
  else 0

/-- The rows' gradient, and the gradient of what was added to them. -/
def rowsGrad (x : Vec Ideal S8448x1024 .f32) (w : Vec Ideal S1x1024 .f32) (y : Vec Ideal S8192x1024 .f32) (j : S8448x1024.Idx) : EReal :=
  behind (slope x w y (j 0)) (fun k => w (ix2 0 k)) (fun k => x (ix2 (j 0) k)) 0 (j 1)
def addedGrad (x : Vec Ideal S8448x1024 .f32) (w : Vec Ideal S1x1024 .f32) (y : Vec Ideal S8192x1024 .f32) (g : Vec Ideal S2x6x1024 .f32)
    (j : S8448x1024.Idx) : EReal :=
  g (ix3 (seqOf (j 0)) 5 (j 1)) * rowsGrad x w y j

theorem slope_block (t : Fin cfg0.N) (r : Fin 256) (k : Fin 1024) :
    k0_pay10 (F := Ideal) (k0_pay5 (F := Ideal) (grid0.coords t)) (k0_pay8 (F := Ideal) (iblk m c 1 t) (iblk m c 0 t) (iblk m c 2 t)) (ix2 r k)
      = slope (rows m c) (weight m c) (target m c) (rowOf t r) k := by
  have hN : cfg0.N = 33 := N_0
  have ht := t.isLt
  have hr := r.isLt
  rw [slope_apply, miss_apply]
  unfold slope
  by_cases h : t.val < 32
  · rw [dif_pos (by show t.val * 256 + r.val < 8192; omega), live_one _ (by rw [coords_eq]; exact h), width_eq,
      Ideal.div_coe (by norm_num), one_mul]
    simp only [block0 m c t, block1 m c t, block2 m c t h]
  · rw [dif_neg (by show ¬(t.val * 256 + r.val < 8192); omega), live_zero _ (by rw [coords_eq]; omega), width_eq,
      Ideal.div_coe (by norm_num), zero_mul, mul_zero]

theorem dx_block (t : Fin cfg0.N) (r : Fin 256) (k : Fin 1024) :
    k0_pay12 (F := Ideal) (k0_pay5 (F := Ideal) (grid0.coords t)) (iblk m c 1 t) (k0_pay6 (F := Ideal) (iblk m c 0 t))
      (k0_pay7 (F := Ideal) (iblk m c 0 t)) (k0_pay8 (F := Ideal) (iblk m c 1 t) (iblk m c 0 t) (iblk m c 2 t)) (ix2 r k)
      = rowsGrad (rows m c) (weight m c) (target m c) (ix2 (rowOf t r) k) := by
  rw [back_apply]
  simp only [slope_block, root_apply, normed_apply, block0 m c t, block1 m c t]
  unfold rowsGrad behind
  rw [zero_add]

theorem seq_eq : ∀ t : Fin cfg0.N, seq (grid0.coords t) = if 32 ≤ t.val then 1 else 0 :=
  (by decide +kernel : ∀ t : Fin grid0.N, _)

theorem dy_block (t : Fin cfg0.N) (r : Fin 256) (k : Fin 1024) :
    k0_pay13 (F := Ideal) (k0_pay5 (F := Ideal) (grid0.coords t)) (iblk m c 1 t) (k0_pay6 (F := Ideal) (iblk m c 0 t))
      (k0_pay7 (F := Ideal) (iblk m c 0 t)) (k0_pay8 (F := Ideal) (iblk m c 1 t) (iblk m c 0 t) (iblk m c 2 t))
      (gateRow (grid0.coords t) (iblk m c 4 t)) (ix2 r k)
      = addedGrad (rows m c) (weight m c) (target m c) (gate m c) (ix2 (rowOf t r) k) := by
  have hr := r.isLt
  rw [gated_apply, gateRow_apply, dx_block, block4]
  have hs : seq (grid0.coords t) = seqOf (rowOf t r) := by
    rw [seq_eq]
    unfold seqOf
    by_cases h : 32 ≤ t.val
    · rw [if_pos h, if_pos (by show 8192 ≤ t.val * 256 + r.val; omega)]
    · rw [if_neg h, if_neg (by show ¬(8192 ≤ t.val * 256 + r.val); omega)]
  rw [hs]
  rfl

theorem outs_dx (t : Fin cfg0.N) : (outsAt0 m c t.val t.isLt).2.1
    = k0_pay12 (k0_pay5 (grid0.coords t)) (iblk m c 1 t) (k0_pay6 (iblk m c 0 t)) (k0_pay7 (iblk m c 0 t))
        (k0_pay8 (iblk m c 1 t) (iblk m c 0 t) (iblk m c 2 t)) := by
  by_cases h : t.val % 33 = 0
  · rw [outsAt0_A m c t h]; dsimp only; rw [dx_first]
  · rw [outsAt0_B m c t h]; dsimp only; rw [dx_next]

theorem outs_dy (t : Fin cfg0.N) : (outsAt0 m c t.val t.isLt).2.2.2.1
    = k0_pay13 (k0_pay5 (grid0.coords t)) (iblk m c 1 t) (k0_pay6 (iblk m c 0 t)) (k0_pay7 (iblk m c 0 t))
        (k0_pay8 (iblk m c 1 t) (iblk m c 0 t) (iblk m c 2 t)) (gateRow (grid0.coords t) (iblk m c 4 t)) := by
  by_cases h : t.val % 33 = 0
  · rw [outsAt0_A m c t h]; dsimp only; rw [dy_first]
  · rw [outsAt0_B m c t h]; dsimp only; rw [dy_next]

/-- The places in both gradients of an entry of step `t`'s block. -/
abbrev place6 (t : Fin cfg0.N) (y : S256x1024.Idx) : S8448x1024.Idx := ((cfg0.win 6).blk t).view.emb y
abbrev place8 (t : Fin cfg0.N) (y : S256x1024.Idx) : S8448x1024.Idx := ((cfg0.win 8).blk t).view.emb y

theorem place6_eq (t : Fin cfg0.N) (r : Fin 256) (k : Fin 1024) : place6 t (ix2 r k) = ix2 (rowOf t r) k := by
  funext e
  apply Fin.ext
  match e with
  | ⟨0, _⟩ => show win0_6.index t 0 * 256 + 1 * r.val = t.val * 256 + r.val; rw [(index6 t).1]; omega
  | ⟨1, _⟩ => show win0_6.index t 1 * 1024 + 1 * k.val = k.val; rw [(index6 t).2]; omega

theorem place8_eq (t : Fin cfg0.N) (r : Fin 256) (k : Fin 1024) : place8 t (ix2 r k) = ix2 (rowOf t r) k := by
  funext e
  apply Fin.ext
  match e with
  | ⟨0, _⟩ => show win0_8.index t 0 * 256 + 1 * r.val = t.val * 256 + r.val; rw [(index8 t).1]; omega
  | ⟨1, _⟩ => show win0_8.index t 1 * 1024 + 1 * k.val = k.val; rw [(index8 t).2]; omega

/-- Every row is in some step's block. -/
theorem onto (j : S8448x1024.Idx) : ∃ t r, (ix2 (rowOf t r) (j 1) : S8448x1024.Idx) = j := by
  have hj : (j 0).val < 8448 := (j 0).isLt
  have hN : cfg0.N = 33 := N_0
  refine ⟨⟨(j 0).val / 256, by omega⟩, ⟨(j 0).val % 256, by omega⟩, ?_⟩
  funext e
  apply Fin.ext
  match e with
  | ⟨0, _⟩ => show (j 0).val / 256 * 256 + (j 0).val % 256 = (j 0).val; omega
  | ⟨1, _⟩ => rfl

theorem result6 : ((dats m 0 c).arrAt 6 cfg0.N : S8448x1024.Idx → EReal) = rowsGrad (rows m c) (weight m c) (target m c) :=
  ext_blocks place6 (fun j => by obtain ⟨t, r, h⟩ := onto j; exact ⟨t, ix2 r (j 1), (place6_eq t r (j 1)).trans h⟩) fun t y => by
    have h := congrFun (blocks6 m c t (flush0_6 t)) y
    rw [View.read_apply, flushed6, outs_dx] at h
    refine h.trans ?_
    obtain ⟨r, k, rfl⟩ : ∃ r k, y = ix2 r k := ⟨y 0, y 1, ValueIdx.eq_ix2 y⟩
    refine (dx_block m c t r k).trans ?_
    rw [place6_eq]

theorem result8 : ((dats m 0 c).arrAt 8 cfg0.N : S8448x1024.Idx → EReal)
    = addedGrad (rows m c) (weight m c) (target m c) (gate m c) :=
  ext_blocks place8 (fun j => by obtain ⟨t, r, h⟩ := onto j; exact ⟨t, ix2 r (j 1), (place8_eq t r (j 1)).trans h⟩) fun t y => by
    have h := congrFun (blocks8 m c t (flush0_8 t)) y
    rw [View.read_apply, flushed8, outs_dy] at h
    refine h.trans ?_
    obtain ⟨r, k, rfl⟩ : ∃ r k, y = ix2 r k := ⟨y 0, y 1, ValueIdx.eq_ix2 y⟩
    refine (dy_block m c t r k).trans ?_
    rw [place8_eq]

/-! ## The reference -/

section Reference

open Cert.Reference21Ideal.Read

variable (x : Vec Ideal S8448x1024 .f32) (w : Vec Ideal S1x1024 .f32) (y : Vec Ideal S8192x1024 .f32)

theorem reference_root (n : Fin 8448) (z : Fin 1) : val_main_v7 (F := Ideal) x (ix2 n z) = inverse fun k => x (ix2 n k) := by
  rw [val_main_v7_apply, val_main_v6_apply, val_main_v4_apply, val_main_v2_apply, val_main_v1_apply, val_main_v3_apply,
    val_main_v5_apply, show val_main_cst (F := Ideal) _ = 0 from Ideal.ofBits_zero_f32, zero_add]
  refine congrArg (fun s => Ideal.rsqrt (Ideal.div s width + small)) (Finset.sum_congr rfl fun k _ => ?_)
  have e : idx_main_v1 (idx_main_v2 (ix2 n z)) k = ix2 n k := by
    funext e
    match e with
    | ⟨0, _⟩ => rfl
    | ⟨1, _⟩ => rfl
  rw [val_main_v0_apply, e]
  rfl

theorem reference_miss (n : Fin 8192) (k : Fin 1024) : val_main_v16 (F := Ideal) x w y (ix2 n k)
    = miss (fun k => x (ix2 ⟨n.val, by omega⟩ k)) (fun k => w (ix2 0 k)) (fun k => y (ix2 n k)) k := by
  have e : idx_main_v15 (ix2 n k) = ix2 ⟨n.val, by omega⟩ k := by
    funext e
    match e with
    | ⟨0, _⟩ => rfl
    | ⟨1, _⟩ => rfl
  have e8 : idx_main_v11 (ix2 ⟨n.val, by omega⟩ k) = ix2 ⟨n.val, by omega⟩ 0 := by
    funext e
    match e with
    | ⟨0, _⟩ => rfl
    | ⟨1, _⟩ => rfl
  have e10 : idx_main_v13 (ix2 ⟨n.val, by omega⟩ k) = ix2 0 k := by
    funext e
    match e with
    | ⟨0, _⟩ => rfl
    | ⟨1, _⟩ => rfl
  rw [val_main_v16_apply, val_main_v15_apply, e, val_main_v14_apply, val_main_v12_apply, val_main_v11_apply, val_main_v13_apply,
    e8, e10, reference_root]
  rfl

theorem reference_part (n : Fin 8192) : val_main_v22 (F := Ideal) x w y (ix1 n) = part x w y n := by
  rw [val_main_v22_apply, val_main_v20_apply, val_main_v21_apply,
    show val_main_cst_4 (F := Ideal) _ = 0 from Ideal.ofBits_zero_f32, zero_add]
  refine congrArg (fun s => Ideal.div s width) (Finset.sum_congr rfl fun k _ => ?_)
  have e : idx_main_v20 (ix1 n) k = ix2 n k := by
    funext e
    match e with
    | ⟨0, _⟩ => rfl
    | ⟨1, _⟩ => rfl
  rw [val_main_v17_apply, e, reference_miss]
  rfl

theorem reference_loss (j : S8x128.Idx) : val_main_v61 (F := Ideal) x w y j = loss x w y := by
  rw [val_main_v61_apply, val_main_v24_apply, val_main_v23_apply,
    show val_main_cst_6 (F := Ideal) _ = 0 from Ideal.ofBits_zero_f32, zero_add,
    show val_main_cst_7 (F := Ideal) _ = ((1 / 2 : ℝ) : EReal) from lit_half]
  unfold loss
  refine (mul_comm _ _).trans (congrArg (· * _) ?_)
  refine Fintype.sum_equiv ⟨fun i => i 0, fun n => ix1 n, fun i => (ValueIdx.eq_ix1 i).symm, fun n => rfl⟩ _ _ fun i => ?_
  obtain ⟨n, rfl⟩ : ∃ n : Fin 8192, i = ix1 n := ⟨i 0, ValueIdx.eq_ix1 i⟩
  exact reference_part x w y n

theorem slope_latent (n : Fin 8192) (k : Fin 1024) : val_main_v30 (F := Ideal) x w y (ix2 n k)
    = miss (fun k => x (ix2 ⟨n.val, by omega⟩ k)) (fun k => w (ix2 0 k)) (fun k => y (ix2 n k)) k * ((1 / 1024 : ℝ) : EReal) := by
  rw [← reference_miss]
  have e : val_main_v30 (F := Ideal) x w y (ix2 n k) = Ideal.div (lit 0x3F000000#32 * lit 0x3F800000#32) width
      * (lit 0x40000000#32 * val_main_v16 (F := Ideal) x w y (ix2 n k)) := by
    rw [val_main_v30_apply, val_main_v29_apply, val_main_v28_apply, val_main_v27_apply, val_main_v26_apply, val_main_v25_apply,
      val_main_v19_apply, val_main_v18_apply]
    rfl
  have two : lit 0x40000000#32 = ((2 : ℝ) : EReal) := by
    simp [Ideal.ofBits, Ideal.ieee, -EReal.coe_mul]; norm_num
  rw [e, lit_half, Cert.Modulation.lit_one, two, width_eq, Ideal.div_coe (by norm_num), mul_one, ← mul_assoc, ← EReal.coe_mul,
    ← EReal.coe_mul, mul_comm]
  norm_num

theorem slope_entry (n : Fin 8448) (k : Fin 1024) : val_main_v31 (F := Ideal) x w y (ix2 n k) = slope x w y n k := by
  have e : val_main_v31 (F := Ideal) x w y (ix2 n k)
      = if h : n.val < 8192 then val_main_v30 (F := Ideal) x w y (ix2 ⟨n.val, h⟩ k) else (0 : EReal) := by
    simp only [← ix2_eq_valueIdx]
    pointwise [val_main_v31, val_main_cst_11]
  rw [e]
  unfold slope
  by_cases h : n.val < 8192
  · rw [dif_pos h, dif_pos h, slope_latent]
  · rw [dif_neg h, dif_neg h]

theorem reference_dx (n : Fin 8448) (k : Fin 1024) : val_main_v47 (F := Ideal) x w y (ix2 n k) = rowsGrad x w y (ix2 n k) := by
  unfold rowsGrad
  rw [behind_eq, zero_add]
  show _ = slope x w y n k * w (ix2 0 k) * Ideal.rsqrt (spread fun k => x (ix2 n k))
      + x (ix2 n k) * back (slope x w y n) (fun k => w (ix2 0 k)) (fun k => x (ix2 n k))
      + back (slope x w y n) (fun k => w (ix2 0 k)) (fun k => x (ix2 n k)) * x (ix2 n k)
  unfold back spread half
  simp only [← slope_entry x w y n]
  simp only [← ix2_eq_valueIdx]
  pointwise [val_main_v47, val_main_v46, val_main_v45, val_main_v44, val_main_v43, val_main_v42, val_main_v41, val_main_v40, val_main_v39,
    val_main_v38, val_main_v37, val_main_v36, val_main_v35, val_main_v34, val_main_v33, val_main_v32, val_main_v10, val_main_v9,
    val_main_v8, val_main_v7, val_main_v6, val_main_v5, val_main_v4, val_main_v3, val_main_v2, val_main_v1, val_main_v0, val_main_cst,
    val_main_cst_0, val_main_cst_1, val_main_cst_2, val_main_cst_12, val_main_cst_13, val_main_cst_14, width, small]
  simp only [Fin.sum_univ_one]

theorem reference_dy (g : Vec Ideal S2x6x1024 .f32) (n : Fin 8448) (k : Fin 1024) :
    val_main_v62 (F := Ideal) x w y g (ix2 n k) = addedGrad x w y g (ix2 n k) := by
  have e : val_main_v62 (F := Ideal) x w y g (ix2 n k)
      = if h : n.val < 8192 then val_main_v47 (F := Ideal) x w y (ix2 n k) * g (ix3 0 5 k)
        else val_main_v47 (F := Ideal) x w y (ix2 ⟨8192 + (n.val - 8192), by omega⟩ k) * g (ix3 1 5 k) := by
    simp only [← ix2_eq_valueIdx, ← ix3_eq_valueIdx]
    pointwise [val_main_v62, val_main_v60, val_main_v59, val_main_v58, val_main_v57, val_main_v56, val_main_v55, val_main_v54,
      val_main_v53, val_main_v52, val_main_v51, val_main_v50, val_main_v49, val_main_v48]
  rw [e]
  unfold addedGrad
  show _ = g (ix3 (seqOf n) 5 k) * _
  unfold seqOf
  by_cases h : n.val < 8192
  · rw [dif_pos h, if_neg (by omega), reference_dx, mul_comm]
  · have e : 8192 + (n.val - 8192) = n.val := by omega
    rw [dif_neg h, if_pos (by omega)]
    simp only [e]
    rw [reference_dx, mul_comm]

end Reference

/-! ## The two agree -/

theorem loss_eq : ((dats m 0 c).arrAt 5 cfg0.N : S8x128.Idx → EReal)
    = Cert.Reference21Ideal.Read.val_main_v61 (F := Ideal) (rows m c) (weight m c) (target m c) := by
  funext j
  rw [reference_loss]
  obtain ⟨r, a, rfl⟩ : ∃ (r : Fin 8) (a : Fin 128), j = ix2 r a := ⟨j 0, j 1, ValueIdx.eq_ix2 j⟩
  exact result5 m c r a

theorem dx_eq : ((dats m 0 c).arrAt 6 cfg0.N : S8448x1024.Idx → EReal)
    = Cert.Reference21Ideal.Read.val_main_v47 (F := Ideal) (rows m c) (weight m c) (target m c) := by
  funext j
  obtain ⟨n, k, rfl⟩ : ∃ (n : Fin 8448) (k : Fin 1024), j = ix2 n k := ⟨j 0, j 1, ValueIdx.eq_ix2 j⟩
  rw [result6, reference_dx]

theorem dy_eq : ((dats m 0 c).arrAt 8 cfg0.N : S8448x1024.Idx → EReal)
    = Cert.Reference21Ideal.Read.val_main_v62 (F := Ideal) (rows m c) (weight m c) (target m c) (gate m c) := by
  funext j
  obtain ⟨n, k, rfl⟩ : ∃ (n : Fin 8448) (k : Fin 1024), j = ix2 n k := ⟨j 0, j 1, ValueIdx.eq_ix2 j⟩
  rw [result8, reference_dy]

theorem algebraic : Cert.algebraic_Kernel21Ideal_Reference21Ideal := fun m g m' g' _ hagree =>
  ⟨fun c => (dats m 0 c).arrAt 5 cfg0.N, fun c => (dats m 0 c).arrAt 6 cfg0.N, fun c => (dats m 0 c).arrAt 8 cfg0.N,
    (θ_run Cert.Kernel21Ideal.defs _ _).mono (fun _ h c => by
      obtain ⟨h0, h1, -, h2, -, kept⟩ := h c
      exact ⟨h0, h1, h2, kept⟩) (run_blocks m g),
    (θ_run Cert.Reference21Ideal.defs _ _).mono (fun _ h c => by
      obtain ⟨h0, h1, h2, kept⟩ := h c
      obtain ⟨a0, a1, a2, -, a4⟩ := hagree c
      rw [Cert.Reference21Ideal.Read.val_main_v61_eq, a0, a1, a2] at h0
      rw [Cert.Reference21Ideal.Read.val_main_v47_eq, a0, a1, a2] at h1
      rw [Cert.Reference21Ideal.Read.val_main_v62_eq, a0, a1, a2, a4] at h2
      exact ⟨h0.trans (loss_eq m c).symm, h1.trans (dx_eq m c).symm, h2.trans (dy_eq m c).symm, kept⟩)
      (Cert.Reference21Ideal.Value.run (F := Ideal) m' g')⟩

end Cert.LossHead

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel21Ideal.Value
public import proofs.«01_k».proof.Proof.Gen.Reference21Ideal.Run
public import proofs.«01_k».proof.Proof.Gen.Reference21Ideal.Read
public import proofs.«01_k».proof.Proof.Products
public import proofs.«01_k».proof.Proof.Columns
public import proofs.«01_k».proof.Proof.Transposed
public import proofs.«01_k».proof.Proof.Rows
public import proofs.«01_k».proof.Proof.Plain
public import proofs.«01_k».proof.Proof.OutAbTransposed
public import proofs.«01_k».proof.Proof.OutTransposed
public import proofs.«01_k».proof.Proof.OutRows
public import proofs.«01_k».proof.Proof.InPlain
public import proofs.«01_k».proof.Proof.InColumns
public import proofs.«01_k».proof.Proof.QkvColumns
public import proofs.«01_k».proof.Proof.UpAlgebraic
public import proofs.«01_k».proof.Proof.UpBits
public import proofs.«01_k».proof.Proof.OptimiserUp
public import proofs.«01_k».proof.Proof.OptimiserDown
public import proofs.«01_k».proof.Proof.OptimiserInAb
public import proofs.«01_k».proof.Proof.OptimiserQkv
public import proofs.«01_k».proof.Proof.OptimiserOut
public import proofs.«01_k».proof.Proof.OptimiserMod
public import proofs.«01_k».proof.Proof.OptimiserPacked
public import proofs.«01_k».proof.Proof.Modulation
public import proofs.«01_k».proof.Proof.ModulationForward
public import proofs.«01_k».proof.Proof.LossHead
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2, sem_eq_zero_of_no_sems (by decide) r.2⟩) (Cert.ReferenceIdeal.Value.run (F := Ideal) m ρ),
  fun m ρ _ => Cert.Kernel2.Gen.frame m ρ,
  fun m ρ _ => Cert.Kernel2Ideal.Gen.frame m ρ,
  fun m ρ _ => (θ_run Cert.Reference2Ideal.defs _ _).mono
    (fun r h => ⟨fun c => (h c).2, sem_eq_zero_of_no_sems (by decide) r.2⟩) (Cert.Reference2Ideal.Value.run (F := Ideal) m ρ),
  fun m ρ _ => Cert.Kernel3.Gen.frame m ρ,
  fun m ρ _ => Cert.Kernel3Ideal.Gen.frame m ρ,
  fun m ρ _ => (θ_run Cert.Reference3Ideal.defs _ _).mono
    (fun r h => ⟨fun c => (h c).2, sem_eq_zero_of_no_sems (by decide) r.2⟩) (Cert.Reference3Ideal.Value.run (F := Ideal) m ρ),
  fun m ρ _ => Cert.Kernel4.Gen.frame m ρ,
  fun m ρ _ => Cert.Kernel4Ideal.Gen.frame m ρ,
  fun m ρ _ => (θ_run Cert.Reference4Ideal.defs _ _).mono
    (fun r h => ⟨fun c => (h c).2, sem_eq_zero_of_no_sems (by decide) r.2⟩) (Cert.Reference4Ideal.Value.run (F := Ideal) m ρ),
  fun m ρ _ => Cert.Kernel5.Gen.frame m ρ,
  fun m ρ _ => Cert.Kernel5Ideal.Gen.frame m ρ,
  fun m ρ _ => (θ_run Cert.Reference5Ideal.defs _ _).mono
    (fun r h => ⟨fun c => (h c).2, sem_eq_zero_of_no_sems (by decide) r.2⟩) (Cert.Reference5Ideal.Value.run (F := Ideal) m ρ),
  fun m ρ _ => Cert.Kernel6.Gen.frame m ρ,
  fun m ρ _ => Cert.Kernel6Ideal.Gen.frame m ρ,
  fun m ρ _ => (θ_run Cert.Reference6Ideal.defs _ _).mono
    (fun r h => ⟨fun c => (h c).2, sem_eq_zero_of_no_sems (by decide) r.2⟩) (Cert.Reference6Ideal.Value.run (F := Ideal) m ρ),
  fun m ρ _ => Cert.Kernel7.Gen.frame m ρ,
  fun m ρ _ => Cert.Kernel7Ideal.Gen.frame m ρ,
  fun m ρ _ => (θ_run Cert.Reference7Ideal.defs _ _).mono
    (fun r h => ⟨fun c => (h c).2, sem_eq_zero_of_no_sems (by decide) r.2⟩) (Cert.Reference7Ideal.Value.run (F := Ideal) m ρ),
  fun m ρ _ => Cert.Kernel8.Gen.frame m ρ,
  fun m ρ _ => Cert.Kernel8Ideal.Gen.frame m ρ,
  fun m ρ _ => (θ_run Cert.Reference8Ideal.defs _ _).mono
    (fun r h => ⟨fun c => (h c).2, sem_eq_zero_of_no_sems (by decide) r.2⟩) (Cert.Reference8Ideal.Value.run (F := Ideal) m ρ),
  fun m ρ _ => Cert.Kernel9.Gen.frame m ρ,
  fun m ρ _ => Cert.Kernel9Ideal.Gen.frame m ρ,
  fun m ρ _ => (θ_run Cert.Reference9Ideal.defs _ _).mono
    (fun r h => ⟨fun c => (h c).2, sem_eq_zero_of_no_sems (by decide) r.2⟩) (Cert.Reference9Ideal.Value.run (F := Ideal) m ρ),
  fun m ρ _ => Cert.Kernel10.Gen.frame m ρ,
  fun m ρ _ => Cert.Kernel10Ideal.Gen.frame m ρ,
  fun m ρ _ => (θ_run Cert.Reference10Ideal.defs _ _).mono
    (fun r h => ⟨fun c => (h c).2, sem_eq_zero_of_no_sems (by decide) r.2⟩) (Cert.Reference10Ideal.Value.run (F := Ideal) m ρ),
  Cert.Up.frame_kernel,
  fun m ρ _ => Cert.Kernel11Ideal.Gen.frame m ρ,
  fun m ρ _ => (θ_run Cert.Reference11Ideal.defs _ _).mono
    (fun r h => ⟨fun c => (h c).2.2.2, sem_eq_zero_of_no_sems (by decide) r.2⟩) (Cert.Reference11Ideal.Value.run (F := Ideal) m ρ),
  fun m ρ _ => Cert.Kernel12.Gen.frame m ρ,
  fun m ρ _ => Cert.Kernel12Ideal.Gen.frame m ρ,
  fun m ρ _ => (θ_run Cert.Reference12Ideal.defs _ _).mono
    (fun r h => ⟨fun c => (h c).2.2.2.2, sem_eq_zero_of_no_sems (by decide) r.2⟩) (Cert.Reference12Ideal.Value.run (F := Ideal) m ρ),
  fun m ρ _ => Cert.Kernel13.Gen.frame m ρ,
  fun m ρ _ => Cert.Kernel13Ideal.Gen.frame m ρ,
  fun m ρ _ => (θ_run Cert.Reference13Ideal.defs _ _).mono
    (fun r h => ⟨fun c => (h c).2.2.2.2, sem_eq_zero_of_no_sems (by decide) r.2⟩) (Cert.Reference13Ideal.Value.run (F := Ideal) m ρ),
  fun m ρ _ => Cert.Kernel14.Gen.frame m ρ,
  fun m ρ _ => Cert.Kernel14Ideal.Gen.frame m ρ,
  fun m ρ _ => (θ_run Cert.Reference14Ideal.defs _ _).mono
    (fun r h => ⟨fun c => (h c).2.2.2.2, sem_eq_zero_of_no_sems (by decide) r.2⟩) (Cert.Reference14Ideal.Value.run (F := Ideal) m ρ),
  fun m ρ _ => Cert.Kernel15.Gen.frame m ρ,
  fun m ρ _ => Cert.Kernel15Ideal.Gen.frame m ρ,
  fun m ρ _ => (θ_run Cert.Reference15Ideal.defs _ _).mono
    (fun r h => ⟨fun c => (h c).2.2.2.2, sem_eq_zero_of_no_sems (by decide) r.2⟩) (Cert.Reference15Ideal.Value.run (F := Ideal) m ρ),
  fun m ρ _ => Cert.Kernel16.Gen.frame m ρ,
  fun m ρ _ => Cert.Kernel16Ideal.Gen.frame m ρ,
  fun m ρ _ => (θ_run Cert.Reference16Ideal.defs _ _).mono
    (fun r h => ⟨fun c => (h c).2.2.2.2, sem_eq_zero_of_no_sems (by decide) r.2⟩) (Cert.Reference16Ideal.Value.run (F := Ideal) m ρ),
  fun m ρ _ => Cert.Kernel17.Gen.frame m ρ,
  fun m ρ _ => Cert.Kernel17Ideal.Gen.frame m ρ,
  fun m ρ _ => (θ_run Cert.Reference17Ideal.defs _ _).mono
    (fun r h => ⟨fun c => (h c).2.2.2.2, sem_eq_zero_of_no_sems (by decide) r.2⟩) (Cert.Reference17Ideal.Value.run (F := Ideal) m ρ),
  fun m ρ _ => Cert.Kernel18.Gen.frame m ρ,
  fun m ρ _ => Cert.Kernel18Ideal.Gen.frame m ρ,
  fun m ρ _ => (θ_run Cert.Reference18Ideal.defs _ _).mono
    (fun r h => ⟨fun c => (h c).2.2.2.2, sem_eq_zero_of_no_sems (by decide) r.2⟩) (Cert.Reference18Ideal.Value.run (F := Ideal) m ρ),
  fun m ρ _ => Cert.Kernel19.Gen.frame m ρ,
  fun m ρ _ => Cert.Kernel19Ideal.Gen.frame m ρ,
  fun m ρ _ => (θ_run Cert.Reference19Ideal.defs _ _).mono
    (fun r h => ⟨fun c => (h c).2.2, sem_eq_zero_of_no_sems (by decide) r.2⟩) (Cert.Reference19Ideal.Value.run (F := Ideal) m ρ),
  fun m ρ _ => Cert.Kernel20.Gen.frame m ρ,
  fun m ρ _ => Cert.Kernel20Ideal.Gen.frame m ρ,
  fun m ρ _ => (θ_run Cert.Reference20Ideal.defs _ _).mono
    (fun r h => ⟨fun c => (h c).2, sem_eq_zero_of_no_sems (by decide) r.2⟩) (Cert.Reference20Ideal.Value.run (F := Ideal) m ρ),
  fun m ρ _ => Cert.Kernel21.Gen.frame m ρ,
  fun m ρ _ => Cert.Kernel21Ideal.Gen.frame m ρ,
  fun m ρ _ => (θ_run Cert.Reference21Ideal.defs _ _).mono
    (fun r h => ⟨fun c => (h c).2.2.2, sem_eq_zero_of_no_sems (by decide) r.2⟩) (Cert.Reference21Ideal.Value.run (F := Ideal) m ρ),
  trivial,
  Cert.Columns.algebraic,
  trivial,
  Cert.Transposed.algebraic,
  trivial,
  Cert.Rows.algebraic,
  trivial,
  Cert.Plain.algebraic,
  trivial,
  Cert.OutAbTransposed.algebraic,
  trivial,
  Cert.OutTransposed.algebraic,
  trivial,
  Cert.OutRows.algebraic,
  trivial,
  Cert.InPlain.algebraic,
  trivial,
  Cert.InColumns.algebraic,
  trivial,
  Cert.QkvColumns.algebraic,
  trivial,
  Cert.Up.algebraic,
  ⟨IdealRules.named_const.statement Cert.Kernel12Ideal.κ "c1" .f32 0x3FC48605#32 ((8388608 / 5463681 : ℝ) : EReal) rfl,
    IdealRules.named_const.statement Cert.Kernel12Ideal.κ "c2" .f32 0x42C8E6D3#32 ((268435456 / 2672307 : ℝ) : EReal) rfl⟩,
  Cert.Optimiser.Up.algebraic,
  ⟨IdealRules.named_const.statement Cert.Kernel13Ideal.κ "c1" .f32 0x3FC48605#32 ((8388608 / 5463681 : ℝ) : EReal) rfl,
    IdealRules.named_const.statement Cert.Kernel13Ideal.κ "c2" .f32 0x42C8E6D3#32 ((268435456 / 2672307 : ℝ) : EReal) rfl⟩,
  Cert.Optimiser.Down.algebraic,
  ⟨IdealRules.named_const.statement Cert.Kernel14Ideal.κ "c1" .f32 0x3FC48605#32 ((8388608 / 5463681 : ℝ) : EReal) rfl,
    IdealRules.named_const.statement Cert.Kernel14Ideal.κ "c2" .f32 0x42C8E6D3#32 ((268435456 / 2672307 : ℝ) : EReal) rfl⟩,
  Cert.Optimiser.InAb.algebraic,
  ⟨IdealRules.named_const.statement Cert.Kernel15Ideal.κ "c1" .f32 0x3FC48605#32 ((8388608 / 5463681 : ℝ) : EReal) rfl,
    IdealRules.named_const.statement Cert.Kernel15Ideal.κ "c2" .f32 0x42C8E6D3#32 ((268435456 / 2672307 : ℝ) : EReal) rfl⟩,
  Cert.Optimiser.Qkv.algebraic,
  ⟨IdealRules.named_const.statement Cert.Kernel16Ideal.κ "c1" .f32 0x3FC48605#32 ((8388608 / 5463681 : ℝ) : EReal) rfl,
    IdealRules.named_const.statement Cert.Kernel16Ideal.κ "c2" .f32 0x42C8E6D3#32 ((268435456 / 2672307 : ℝ) : EReal) rfl⟩,
  Cert.Optimiser.Out.algebraic,
  ⟨IdealRules.named_const.statement Cert.Kernel17Ideal.κ "c1" .f32 0x3FC48605#32 ((8388608 / 5463681 : ℝ) : EReal) rfl,
    IdealRules.named_const.statement Cert.Kernel17Ideal.κ "c2" .f32 0x42C8E6D3#32 ((268435456 / 2672307 : ℝ) : EReal) rfl⟩,
  Cert.Optimiser.Mod.algebraic,
  ⟨IdealRules.named_const.statement Cert.Kernel18Ideal.κ "c1" .f32 0x3FC48605#32 ((8388608 / 5463681 : ℝ) : EReal) rfl,
    IdealRules.named_const.statement Cert.Kernel18Ideal.κ "c2" .f32 0x42C8E6D3#32 ((268435456 / 2672307 : ℝ) : EReal) rfl⟩,
  Cert.Optimiser.Packed.algebraic,
  trivial, Cert.Modulation.algebraic,
  trivial, Cert.Modulation.Forward.algebraic,
  trivial, Cert.LossHead.algebraic⟩

end Cert.Proof

end
